-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v35)) (v3 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_v38) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v350) = v0 c
          ∧ r.2.mem ((c.tc : Thread Cert.ReferenceIdeal.nD Cert.ReferenceIdeal.τ).loc Cert.ReferenceIdeal.main_v351) = v1 c
          ∧ r.2.mem ((c.tc : Thread Cert.ReferenceIdeal.nD Cert.ReferenceIdeal.τ).loc Cert.ReferenceIdeal.main_v355) = v2 c
          ∧ r.2.mem ((c.tc : Thread Cert.ReferenceIdeal.nD Cert.ReferenceIdeal.τ).loc Cert.ReferenceIdeal.main_v359) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x64x64x255 : Shape := ⟨4, ![8, 64, 64, 255]⟩
abbrev S8x32x32x255 : Shape := ⟨4, ![8, 32, 32, 255]⟩
abbrev S8x16x16x255 : Shape := ⟨4, ![8, 16, 16, 255]⟩
abbrev S4x12288 : Shape := ⟨2, ![4, 12288]⟩
abbrev S4x3072 : Shape := ⟨2, ![4, 3072]⟩
abbrev S4x768 : Shape := ⟨2, ![4, 768]⟩
abbrev S8x12288x85 : Shape := ⟨3, ![8, 12288, 85]⟩
abbrev S8x85x12288 : Shape := ⟨3, ![8, 85, 12288]⟩
abbrev S8x1x12288 : Shape := ⟨3, ![8, 1, 12288]⟩
abbrev S8x4x12288 : Shape := ⟨3, ![8, 4, 12288]⟩
abbrev S1x85x12288 : Shape := ⟨3, ![1, 85, 12288]⟩
abbrev S1x1x12288 : Shape := ⟨3, ![1, 1, 12288]⟩
abbrev S1x4x12288 : Shape := ⟨3, ![1, 4, 12288]⟩
abbrev S85x12288 : Shape := ⟨2, ![85, 12288]⟩
abbrev S1x12288 : Shape := ⟨2, ![1, 12288]⟩
abbrev S80x12288 : Shape := ⟨2, ![80, 12288]⟩
abbrev S12288 : Shape := ⟨1, ![12288]⟩
abbrev S8x3072x85 : Shape := ⟨3, ![8, 3072, 85]⟩
abbrev S8x85x3072 : Shape := ⟨3, ![8, 85, 3072]⟩
abbrev S8x1x3072 : Shape := ⟨3, ![8, 1, 3072]⟩
abbrev S8x4x3072 : Shape := ⟨3, ![8, 4, 3072]⟩
abbrev S1x85x3072 : Shape := ⟨3, ![1, 85, 3072]⟩
abbrev S1x1x3072 : Shape := ⟨3, ![1, 1, 3072]⟩
abbrev S1x4x3072 : Shape := ⟨3, ![1, 4, 3072]⟩
abbrev S85x3072 : Shape := ⟨2, ![85, 3072]⟩
abbrev S1x3072 : Shape := ⟨2, ![1, 3072]⟩
abbrev S80x3072 : Shape := ⟨2, ![80, 3072]⟩
abbrev S3072 : Shape := ⟨1, ![3072]⟩
abbrev S8x768x85 : Shape := ⟨3, ![8, 768, 85]⟩
abbrev S8x85x768 : Shape := ⟨3, ![8, 85, 768]⟩
abbrev S8x1x768 : Shape := ⟨3, ![8, 1, 768]⟩
abbrev S8x4x768 : Shape := ⟨3, ![8, 4, 768]⟩
abbrev S1x85x768 : Shape := ⟨3, ![1, 85, 768]⟩
abbrev S1x1x768 : Shape := ⟨3, ![1, 1, 768]⟩
abbrev S1x4x768 : Shape := ⟨3, ![1, 4, 768]⟩
abbrev S85x768 : Shape := ⟨2, ![85, 768]⟩
abbrev S1x768 : Shape := ⟨2, ![1, 768]⟩
abbrev S80x768 : Shape := ⟨2, ![80, 768]⟩
abbrev S768 : Shape := ⟨1, ![768]⟩
abbrev S_ : Shape := ⟨0, ![]⟩
abbrev S8x1x256 : Shape := ⟨3, ![8, 1, 256]⟩
abbrev S8x1x16384 : Shape := ⟨3, ![8, 1, 16384]⟩
abbrev S8x16384 : Shape := ⟨2, ![8, 16384]⟩
abbrev S8x4x16128 : Shape := ⟨3, ![8, 4, 16128]⟩
abbrev S8x1x16128 : Shape := ⟨3, ![8, 1, 16128]⟩
abbrev S8x16128 : Shape := ⟨2, ![8, 16128]⟩
abbrev S8x1000 : Shape := ⟨2, ![8, 1000]⟩
abbrev S8x16128x4 : Shape := ⟨3, ![8, 16128, 4]⟩
abbrev S8x1000x1 : Shape := ⟨3, ![8, 1000, 1]⟩
abbrev S1 : Shape := ⟨1, ![1]⟩
abbrev S1x1x1 : Shape := ⟨3, ![1, 1, 1]⟩
abbrev S8x1000x4 : Shape := ⟨3, ![8, 1000, 4]⟩
abbrev S8x1024 : Shape := ⟨2, ![8, 1024]⟩
abbrev S8x1x1024 : Shape := ⟨3, ![8, 1, 1024]⟩
abbrev S8x1024x4 : Shape := ⟨3, ![8, 1024, 4]⟩
abbrev S8x4x1024 : Shape := ⟨3, ![8, 4, 1024]⟩
abbrev S8x8x256 : Shape := ⟨3, ![8, 8, 256]⟩
abbrev S8x1x128 : Shape := ⟨3, ![8, 1, 128]⟩
abbrev S1x1x1024 : Shape := ⟨3, ![1, 1, 1024]⟩
abbrev S1x4x1024 : Shape := ⟨3, ![1, 4, 1024]⟩
abbrev S1x1024x4 : Shape := ⟨3, ![1, 1024, 4]⟩
abbrev S1x8x256 : Shape := ⟨3, ![1, 8, 256]⟩
abbrev S1x1x128 : Shape := ⟨3, ![1, 1, 128]⟩
abbrev S1024x1024 : Shape := ⟨2, ![1024, 1024]⟩
abbrev S1x1024 : Shape := ⟨2, ![1, 1024]⟩
abbrev S1x1024x1 : Shape := ⟨3, ![1, 1024, 1]⟩
abbrev S1024x1 : Shape := ⟨2, ![1024, 1]⟩
abbrev S1x1 : Shape := ⟨2, ![1, 1]⟩
abbrev S1x1023 : Shape := ⟨2, ![1, 1023]⟩
abbrev S1x2 : Shape := ⟨2, ![1, 2]⟩
abbrev S1x1022 : Shape := ⟨2, ![1, 1022]⟩
abbrev S1x4 : Shape := ⟨2, ![1, 4]⟩
abbrev S1x1020 : Shape := ⟨2, ![1, 1020]⟩
abbrev S1x8 : Shape := ⟨2, ![1, 8]⟩
abbrev S1x1016 : Shape := ⟨2, ![1, 1016]⟩
abbrev S1x16 : Shape := ⟨2, ![1, 16]⟩
abbrev S1x1008 : Shape := ⟨2, ![1, 1008]⟩
abbrev S1x32 : Shape := ⟨2, ![1, 32]⟩
abbrev S1x992 : Shape := ⟨2, ![1, 992]⟩
abbrev S1x64 : Shape := ⟨2, ![1, 64]⟩
abbrev S1x960 : Shape := ⟨2, ![1, 960]⟩
abbrev S1x128 : Shape := ⟨2, ![1, 128]⟩
abbrev S1x896 : Shape := ⟨2, ![1, 896]⟩
abbrev S1x256 : Shape := ⟨2, ![1, 256]⟩
abbrev S1x512 : Shape := ⟨2, ![1, 512]⟩
abbrev S256x1 : Shape := ⟨2, ![256, 1]⟩
abbrev S256x1024 : Shape := ⟨2, ![256, 1024]⟩
abbrev S8x256 : Shape := ⟨2, ![8, 256]⟩
abbrev S4x256 : Shape := ⟨2, ![4, 256]⟩
abbrev S3x256 : Shape := ⟨2, ![3, 256]⟩
abbrev S8x1x200 : Shape := ⟨3, ![8, 1, 200]⟩
abbrev S8x200 : Shape := ⟨2, ![8, 200]⟩
abbrev S8x4x200 : Shape := ⟨3, ![8, 4, 200]⟩
abbrev S8x200x4 : Shape := ⟨3, ![8, 200, 4]⟩
abbrev S8x1x1 : Shape := ⟨3, ![8, 1, 1]⟩
abbrev S8 : Shape := ⟨1, ![8]⟩

abbrev nBuf : Space → Nat
  | .hbm => 107
  | .vmem => 40
  | .smem => 0
  | _ => 0

abbrev bufTy : (tb : Table) → Fin (tcTables nBuf tb) → BufTy
  | .hbm, ⟨0, _⟩ => ⟨S8x64x64x255, .f32⟩
  | .hbm, ⟨1, _⟩ => ⟨S8x32x32x255, .f32⟩
  | .hbm, ⟨2, _⟩ => ⟨S8x16x16x255, .f32⟩
  | .hbm, ⟨3, _⟩ => ⟨S4x12288, .f32⟩
  | .hbm, ⟨4, _⟩ => ⟨S4x3072, .f32⟩
  | .hbm, ⟨5, _⟩ => ⟨S4x768, .f32⟩
  | .hbm, ⟨6, _⟩ => ⟨S8x12288x85, .f32⟩
  | .hbm, ⟨7, _⟩ => ⟨S8x85x12288, .f32⟩
  | .hbm, ⟨8, _⟩ => ⟨S8x1x12288, .f32⟩
  | .hbm, ⟨9, _⟩ => ⟨S8x4x12288, .f32⟩
  | .hbm, ⟨10, _⟩ => ⟨S8x1x12288, .f32⟩
  | .hbm, ⟨11, _⟩ => ⟨S8x3072x85, .f32⟩
  | .hbm, ⟨12, _⟩ => ⟨S8x85x3072, .f32⟩
  | .hbm, ⟨13, _⟩ => ⟨S8x1x3072, .f32⟩
  | .hbm, ⟨14, _⟩ => ⟨S8x4x3072, .f32⟩
  | .hbm, ⟨15, _⟩ => ⟨S8x1x3072, .f32⟩
  | .hbm, ⟨16, _⟩ => ⟨S8x768x85, .f32⟩
  | .hbm, ⟨17, _⟩ => ⟨S8x85x768, .f32⟩
  | .hbm, ⟨18, _⟩ => ⟨S8x1x768, .f32⟩
  | .hbm, ⟨19, _⟩ => ⟨S8x4x768, .f32⟩
  | .hbm, ⟨20, _⟩ => ⟨S8x1x768, .f32⟩
  | .hbm, ⟨21, _⟩ => ⟨S_, .f32⟩
  | .hbm, ⟨22, _⟩ => ⟨S8x1x256, .f32⟩
  | .hbm, ⟨23, _⟩ => ⟨S8x1x16384, .f32⟩
  | .hbm, ⟨24, _⟩ => ⟨S8x16384, .f32⟩
  | .hbm, ⟨25, _⟩ => ⟨S8x4x16128, .f32⟩
  | .hbm, ⟨26, _⟩ => ⟨S8x1x16128, .f32⟩
  | .hbm, ⟨27, _⟩ => ⟨S8x16128, .f32⟩
  | .hbm, ⟨28, _⟩ => ⟨S8x1000, .f32⟩
  | .hbm, ⟨29, _⟩ => ⟨S8x1000, .i32⟩
  | .hbm, ⟨30, _⟩ => ⟨S8x16128x4, .f32⟩
  | .hbm, ⟨31, _⟩ => ⟨S8x1000x1, .i32⟩
  | .hbm, ⟨32, _⟩ => ⟨S_, .i32⟩
  | .hbm, ⟨33, _⟩ => ⟨S8x1000x1, .i32⟩
  | .hbm, ⟨34, _⟩ => ⟨S8x1000x1, .i1⟩
  | .hbm, ⟨35, _⟩ => ⟨S_, .i32⟩
  | .hbm, ⟨36, _⟩ => ⟨S8x1000x1, .i32⟩
  | .hbm, ⟨37, _⟩ => ⟨S8x1000x1, .i32⟩
  | .hbm, ⟨38, _⟩ => ⟨S8x1000x1, .i32⟩
  | .hbm, ⟨39, _⟩ => ⟨S1, .i32⟩
  | .hbm, ⟨40, _⟩ => ⟨S_, .i32⟩
  | .hbm, ⟨41, _⟩ => ⟨S8x1000x1, .i32⟩
  | .hbm, ⟨42, _⟩ => ⟨S8x1000x1, .i1⟩
  | .hbm, ⟨43, _⟩ => ⟨S1x1x1, .i32⟩
  | .hbm, ⟨44, _⟩ => ⟨S8x1000x1, .i32⟩
  | .hbm, ⟨45, _⟩ => ⟨S8x1000x1, .i1⟩
  | .hbm, ⟨46, _⟩ => ⟨S8x1000x1, .i1⟩
  | .hbm, ⟨47, _⟩ => ⟨S_, .i1⟩
  | .hbm, ⟨48, _⟩ => ⟨S8x1000, .i1⟩
  | .hbm, ⟨49, _⟩ => ⟨S8x1000x4, .f32⟩
  | .hbm, ⟨50, _⟩ => ⟨S8x1000x4, .i1⟩
  | .hbm, ⟨51, _⟩ => ⟨S_, .f32⟩
  | .hbm, ⟨52, _⟩ => ⟨S8x1000x4, .f32⟩
  | .hbm, ⟨53, _⟩ => ⟨S8x1000x4, .f32⟩
  | .hbm, ⟨54, _⟩ => ⟨S_, .i32⟩
  | .hbm, ⟨55, _⟩ => ⟨S8x1000, .i32⟩
  | .hbm, ⟨56, _⟩ => ⟨S8x1000, .i1⟩
  | .hbm, ⟨57, _⟩ => ⟨S_, .i32⟩
  | .hbm, ⟨58, _⟩ => ⟨S8x1000, .i32⟩
  | .hbm, ⟨59, _⟩ => ⟨S8x1000, .i32⟩
  | .hbm, ⟨60, _⟩ => ⟨S8x1000, .i32⟩
  | .hbm, ⟨61, _⟩ => ⟨S8x1000x1, .i32⟩
  | .hbm, ⟨62, _⟩ => ⟨S1, .i32⟩
  | .hbm, ⟨63, _⟩ => ⟨S_, .i32⟩
  | .hbm, ⟨64, _⟩ => ⟨S8x1000x1, .i32⟩
  | .hbm, ⟨65, _⟩ => ⟨S8x1000x1, .i1⟩
  | .hbm, ⟨66, _⟩ => ⟨S1x1x1, .i32⟩
  | .hbm, ⟨67, _⟩ => ⟨S8x1000x1, .i32⟩
  | .hbm, ⟨68, _⟩ => ⟨S8x1000x1, .i1⟩
  | .hbm, ⟨69, _⟩ => ⟨S8x1000x1, .i1⟩
  | .hbm, ⟨70, _⟩ => ⟨S_, .i1⟩
  | .hbm, ⟨71, _⟩ => ⟨S8x1000, .i1⟩
  | .hbm, ⟨72, _⟩ => ⟨S8x1000, .f32⟩
  | .hbm, ⟨73, _⟩ => ⟨S_, .f32⟩
  | .hbm, ⟨74, _⟩ => ⟨S8x1000, .f32⟩
  | .hbm, ⟨75, _⟩ => ⟨S8x1000, .f32⟩
  | .hbm, ⟨76, _⟩ => ⟨S_, .i32⟩
  | .hbm, ⟨77, _⟩ => ⟨S_, .f32⟩
  | .hbm, ⟨78, _⟩ => ⟨S8x1024, .f32⟩
  | .hbm, ⟨79, _⟩ => ⟨S8x1x1024, .f32⟩
  | .hbm, ⟨80, _⟩ => ⟨S_, .i32⟩
  | .hbm, ⟨81, _⟩ => ⟨S_, .f32⟩
  | .hbm, ⟨82, _⟩ => ⟨S8x1024x4, .f32⟩
  | .hbm, ⟨83, _⟩ => ⟨S8x4x1024, .f32⟩
  | .hbm, ⟨84, _⟩ => ⟨S_, .i32⟩
  | .hbm, ⟨85, _⟩ => ⟨S_, .f32⟩
  | .hbm, ⟨86, _⟩ => ⟨S8x1024, .f32⟩
  | .hbm, ⟨87, _⟩ => ⟨S8x1x1024, .f32⟩
  | .hbm, ⟨88, _⟩ => ⟨S8x8x256, .f32⟩
  | .hbm, ⟨89, _⟩ => ⟨S8x1x128, .f32⟩
  | .hbm, ⟨90, _⟩ => ⟨S8x1x200, .f32⟩
  | .hbm, ⟨91, _⟩ => ⟨S8x200, .f32⟩
  | .hbm, ⟨92, _⟩ => ⟨S8x4x200, .f32⟩
  | .hbm, ⟨93, _⟩ => ⟨S8x200x4, .f32⟩
  | .hbm, ⟨94, _⟩ => ⟨S_, .f32⟩
  | .hbm, ⟨95, _⟩ => ⟨S8x200, .f32⟩
  | .hbm, ⟨96, _⟩ => ⟨S8x200, .i1⟩
  | .hbm, ⟨97, _⟩ => ⟨S8x1x200, .f32⟩
  | .hbm, ⟨98, _⟩ => ⟨S8x200, .f32⟩
  | .hbm, ⟨99, _⟩ => ⟨S8x200, .i32⟩
  | .hbm, ⟨100, _⟩ => ⟨S_, .i32⟩
  | .hbm, ⟨101, _⟩ => ⟨S_, .i32⟩
  | .hbm, ⟨102, _⟩ => ⟨S8x200, .i32⟩
  | .hbm, ⟨103, _⟩ => ⟨S8x200, .i32⟩
  | .hbm, ⟨104, _⟩ => ⟨S8x1x1, .f32⟩
  | .hbm, ⟨105, _⟩ => ⟨S8, .f32⟩
  | .hbm, ⟨106, _⟩ => ⟨S8, .i32⟩
  | .local _ .vmem, ⟨0, _⟩ => ⟨S1x85x12288, .f32⟩
  | .local _ .vmem, ⟨1, _⟩ => ⟨S1x85x12288, .f32⟩
  | .local _ .vmem, ⟨2, _⟩ => ⟨S4x12288, .f32⟩
  | .local _ .vmem, ⟨3, _⟩ => ⟨S1x1x12288, .f32⟩
  | .local _ .vmem, ⟨4, _⟩ => ⟨S1x1x12288, .f32⟩
  | .local _ .vmem, ⟨5, _⟩ => ⟨S1x4x12288, .f32⟩
  | .local _ .vmem, ⟨6, _⟩ => ⟨S1x4x12288, .f32⟩
  | .local _ .vmem, ⟨7, _⟩ => ⟨S1x1x12288, .f32⟩
  | .local _ .vmem, ⟨8, _⟩ => ⟨S1x1x12288, .f32⟩
  | .local _ .vmem, ⟨9, _⟩ => ⟨S1x85x3072, .f32⟩
  | .local _ .vmem, ⟨10, _⟩ => ⟨S1x85x3072, .f32⟩
  | .local _ .vmem, ⟨11, _⟩ => ⟨S4x3072, .f32⟩
  | .local _ .vmem, ⟨12, _⟩ => ⟨S1x1x3072, .f32⟩
  | .local _ .vmem, ⟨13, _⟩ => ⟨S1x1x3072, .f32⟩
  | .local _ .vmem, ⟨14, _⟩ => ⟨S1x4x3072, .f32⟩
  | .local _ .vmem, ⟨15, _⟩ => ⟨S1x4x3072, .f32⟩
  | .local _ .vmem, ⟨16, _⟩ => ⟨S1x1x3072, .f32⟩
  | .local _ .vmem, ⟨17, _⟩ => ⟨S1x1x3072, .f32⟩
  | .local _ .vmem, ⟨18, _⟩ => ⟨S1x85x768, .f32⟩
  | .local _ .vmem, ⟨19, _⟩ => ⟨S1x85x768, .f32⟩
  | .local _ .vmem, ⟨20, _⟩ => ⟨S4x768, .f32⟩
  | .local _ .vmem, ⟨21, _⟩ => ⟨S1x1x768, .f32⟩
  | .local _ .vmem, ⟨22, _⟩ => ⟨S1x1x768, .f32⟩
  | .local _ .vmem, ⟨23, _⟩ => ⟨S1x4x768, .f32⟩
  | .local _ .vmem, ⟨24, _⟩ => ⟨S1x4x768, .f32⟩
  | .local _ .vmem, ⟨25, _⟩ => ⟨S1x1x768, .f32⟩
  | .local _ .vmem, ⟨26, _⟩ => ⟨S1x1x768, .f32⟩
  | .local _ .vmem, ⟨27, _⟩ => ⟨S1x1x1024, .f32⟩
  | .local _ .vmem, ⟨28, _⟩ => ⟨S1x1x1024, .f32⟩
  | .local _ .vmem, ⟨29, _⟩ => ⟨S1x4x1024, .f32⟩
  | .local _ .vmem, ⟨30, _⟩ => ⟨S1x4x1024, .f32⟩
  | .local _ .vmem, ⟨31, _⟩ => ⟨S1x1024x4, .f32⟩
  | .local _ .vmem, ⟨32, _⟩ => ⟨S1x1024x4, .f32⟩
  | .local _ .vmem, ⟨33, _⟩ => ⟨S1x1x1024, .f32⟩
  | .local _ .vmem, ⟨34, _⟩ => ⟨S1x1x1024, .f32⟩
  | .local _ .vmem, ⟨35, _⟩ => ⟨S1x8x256, .f32⟩
  | .local _ .vmem, ⟨36, _⟩ => ⟨S1x8x256, .f32⟩
  | .local _ .vmem, ⟨37, _⟩ => ⟨S1x1x128, .f32⟩
  | .local _ .vmem, ⟨38, _⟩ => ⟨S1x1x128, .f32⟩
  | .local _ .vmem, ⟨39, _⟩ => ⟨S1024x1024, .f32⟩
  | _, _ => ⟨S8x64x64x255, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_values : Ref sig .tc := ⟨.hbm, 28, rfl⟩
abbrev main_indices : Ref sig .tc := ⟨.hbm, 29, rfl⟩
abbrev main_v15 : Ref sig .tc := ⟨.hbm, 30, rfl⟩
abbrev main_v16 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_c_1 : Ref sig .tc := ⟨.hbm, 39, rfl⟩
abbrev main_call0_c_2 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_c_3 : Ref sig .tc := ⟨.hbm, 47, rfl⟩
abbrev main_call0_v11 : Ref sig .tc := ⟨.hbm, 48, rfl⟩
abbrev main_call0_v12 : Ref sig .tc := ⟨.hbm, 49, rfl⟩
abbrev main_call0_v13 : Ref sig .tc := ⟨.hbm, 50, rfl⟩
abbrev main_call0_cst : Ref sig .tc := ⟨.hbm, 51, rfl⟩
abbrev main_call0_v14 : Ref sig .tc := ⟨.hbm, 52, rfl⟩
abbrev main_v17 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_cst : Ref sig .tc := ⟨.hbm, 73, rfl⟩
abbrev main_call1_v14 : Ref sig .tc := ⟨.hbm, 74, rfl⟩
abbrev main_v18 : Ref sig .tc := ⟨.hbm, 75, rfl⟩
abbrev main_c : Ref sig .tc := ⟨.hbm, 76, rfl⟩
abbrev main_call2_v0 : Ref sig .tc := ⟨.hbm, 77, rfl⟩
abbrev main_v19 : Ref sig .tc := ⟨.hbm, 78, rfl⟩
abbrev main_v20 : Ref sig .tc := ⟨.hbm, 79, rfl⟩
abbrev main_c_3 : Ref sig .tc := ⟨.hbm, 80, rfl⟩
abbrev main_call3_v0 : Ref sig .tc := ⟨.hbm, 81, rfl⟩
abbrev main_v21 : Ref sig .tc := ⟨.hbm, 82, rfl⟩
abbrev main_v22 : Ref sig .tc := ⟨.hbm, 83, rfl⟩
abbrev main_c_4 : Ref sig .tc := ⟨.hbm, 84, rfl⟩
abbrev main_call4_v0 : Ref sig .tc := ⟨.hbm, 85, rfl⟩
abbrev main_v23 : Ref sig .tc := ⟨.hbm, 86, rfl⟩
abbrev main_v24 : Ref sig .tc := ⟨.hbm, 87, rfl⟩
abbrev main_v25_0 : Ref sig .tc := ⟨.hbm, 88, rfl⟩
abbrev main_v25_1 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_cst_5 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_c_6 : Ref sig .tc := ⟨.hbm, 100, rfl⟩
abbrev main_call5_v0 : Ref sig .tc := ⟨.hbm, 101, rfl⟩
abbrev main_call5_v1 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg5_1 : Ref sig .tc := ⟨.vmem, 38, rfl⟩
abbrev cc3_scratch0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem4_1 : DmaSem sig := 36
abbrev cc3_sem5_0 : DmaSem sig := 37
abbrev cc3_sem5_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x85x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x12288 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x12288 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x85x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x3072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x85x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x4x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

@[reducible] def k3_t1_loop : Scf.Loop 32 :=
  let c0_i32 : BitVec 32 := 0#32
  let c1000_i32 : BitVec 32 := 1000#32
  let v55 : BitVec 32 := Scalar.addi c0_i32 c1000_i32
  let c1_i32 : BitVec 32 := 1#32
  ⟨c0_i32, v55, c1_i32⟩
def k3_off1 (k3_t1 : Fin k3_t1_loop.trips) : Fin 2 → Nat :=
  let c0_i32 : BitVec 32 := 0#32
  let c1_i32 : BitVec 32 := 1#32
  let arg8 : BitVec 32 := Scf.iv c0_i32 c1_i32 k3_t1
  let v144 : Index := Scalar.indexCast arg8
  let c0_59 : Index := 0#32
  ![v144.toNat, 0]
def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x4x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1024x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x8x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S8x64x64x255 : Shape := ⟨4, ![8, 64, 64, 255]⟩
abbrev S8x32x32x255 : Shape := ⟨4, ![8, 32, 32, 255]⟩
abbrev S8x16x16x255 : Shape := ⟨4, ![8, 16, 16, 255]⟩
abbrev S3x2 : Shape := ⟨2, ![3, 2]⟩
abbrev S2 : Shape := ⟨1, ![2]⟩
abbrev S8x64x64x3x85 : Shape := ⟨5, ![8, 64, 64, 3, 85]⟩
abbrev S8x64x64x3x4 : Shape := ⟨5, ![8, 64, 64, 3, 4]⟩
abbrev S8x64x64x3x1 : Shape := ⟨5, ![8, 64, 64, 3, 1]⟩
abbrev S8x64x64x3x80 : Shape := ⟨5, ![8, 64, 64, 3, 80]⟩
abbrev S64 : Shape := ⟨1, ![64]⟩
abbrev S64x64 : Shape := ⟨2, ![64, 64]⟩
abbrev S64x64x1 : Shape := ⟨3, ![64, 64, 1]⟩
abbrev S64x64x2 : Shape := ⟨3, ![64, 64, 2]⟩
abbrev S1x64x64x1x2 : Shape := ⟨5, ![1, 64, 64, 1, 2]⟩
abbrev S_ : Shape := ⟨0, ![]⟩
abbrev S8x64x64x3x2 : Shape := ⟨5, ![8, 64, 64, 3, 2]⟩
abbrev S1x1x1x1x2 : Shape := ⟨5, ![1, 1, 1, 1, 2]⟩
abbrev S1x1x1x3x2 : Shape := ⟨5, ![1, 1, 1, 3, 2]⟩
abbrev S8x64x64x3 : Shape := ⟨4, ![8, 64, 64, 3]⟩
abbrev S8x12288 : Shape := ⟨2, ![8, 12288]⟩
abbrev S8x12288x4 : Shape := ⟨3, ![8, 12288, 4]⟩
abbrev S8x12288x80 : Shape := ⟨3, ![8, 12288, 80]⟩
abbrev S8x32x32x3x85 : Shape := ⟨5, ![8, 32, 32, 3, 85]⟩
abbrev S8x32x32x3x4 : Shape := ⟨5, ![8, 32, 32, 3, 4]⟩
abbrev S8x32x32x3x1 : Shape := ⟨5, ![8, 32, 32, 3, 1]⟩
abbrev S8x32x32x3x80 : Shape := ⟨5, ![8, 32, 32, 3, 80]⟩
abbrev S32 : Shape := ⟨1, ![32]⟩
abbrev S32x32 : Shape := ⟨2, ![32, 32]⟩
abbrev S32x32x1 : Shape := ⟨3, ![32, 32, 1]⟩
abbrev S32x32x2 : Shape := ⟨3, ![32, 32, 2]⟩
abbrev S1x32x32x1x2 : Shape := ⟨5, ![1, 32, 32, 1, 2]⟩
abbrev S8x32x32x3x2 : Shape := ⟨5, ![8, 32, 32, 3, 2]⟩
abbrev S8x32x32x3 : Shape := ⟨4, ![8, 32, 32, 3]⟩
abbrev S8x3072 : Shape := ⟨2, ![8, 3072]⟩
abbrev S8x3072x4 : Shape := ⟨3, ![8, 3072, 4]⟩
abbrev S8x3072x80 : Shape := ⟨3, ![8, 3072, 80]⟩
abbrev S8x16x16x3x85 : Shape := ⟨5, ![8, 16, 16, 3, 85]⟩
abbrev S8x16x16x3x4 : Shape := ⟨5, ![8, 16, 16, 3, 4]⟩
abbrev S8x16x16x3x1 : Shape := ⟨5, ![8, 16, 16, 3, 1]⟩
abbrev S8x16x16x3x80 : Shape := ⟨5, ![8, 16, 16, 3, 80]⟩
abbrev S16 : Shape := ⟨1, ![16]⟩
abbrev S16x16 : Shape := ⟨2, ![16, 16]⟩
abbrev S16x16x1 : Shape := ⟨3, ![16, 16, 1]⟩
abbrev S16x16x2 : Shape := ⟨3, ![16, 16, 2]⟩
abbrev S1x16x16x1x2 : Shape := ⟨5, ![1, 16, 16, 1, 2]⟩
abbrev S8x16x16x3x2 : Shape := ⟨5, ![8, 16, 16, 3, 2]⟩
abbrev S8x16x16x3 : Shape := ⟨4, ![8, 16, 16, 3]⟩
abbrev S8x768 : Shape := ⟨2, ![8, 768]⟩
abbrev S8x768x4 : Shape := ⟨3, ![8, 768, 4]⟩
abbrev S8x768x80 : Shape := ⟨3, ![8, 768, 80]⟩
abbrev S8x16128 : Shape := ⟨2, ![8, 16128]⟩
abbrev S8x16128x4 : Shape := ⟨3, ![8, 16128, 4]⟩
abbrev S8x16128x80 : Shape := ⟨3, ![8, 16128, 80]⟩
abbrev S8x16128x1 : Shape := ⟨3, ![8, 16128, 1]⟩
abbrev S8x1000 : Shape := ⟨2, ![8, 1000]⟩
abbrev S8x1000x1 : Shape := ⟨3, ![8, 1000, 1]⟩
abbrev S1 : Shape := ⟨1, ![1]⟩
abbrev S1x1x1 : Shape := ⟨3, ![1, 1, 1]⟩
abbrev S8x1000x4 : Shape := ⟨3, ![8, 1000, 4]⟩
abbrev S8x1x1000 : Shape := ⟨3, ![8, 1, 1000]⟩
abbrev S8x1000x1000 : Shape := ⟨3, ![8, 1000, 1000]⟩
abbrev S1000 : Shape := ⟨1, ![1000]⟩
abbrev S8x1 : Shape := ⟨2, ![8, 1]⟩
abbrev S1x1000 : Shape := ⟨2, ![1, 1000]⟩
abbrev S8x200 : Shape := ⟨2, ![8, 200]⟩
abbrev S8x200x1 : Shape := ⟨3, ![8, 200, 1]⟩
abbrev S8x200x4 : Shape := ⟨3, ![8, 200, 4]⟩
abbrev S8 : Shape := ⟨1, ![8]⟩

abbrev nBuf : Space → Nat
  | .hbm => 625
  | .vmem => 0
  | .smem => 0
  | _ => 0

abbrev hbmTy0_0 (i : Nat) : BufTy := match i % 128 with
  | 0 => ⟨S8x64x64x255, .f32⟩
  | 1 => ⟨S8x32x32x255, .f32⟩
  | 2 => ⟨S8x16x16x255, .f32⟩
  | 3 => ⟨S3x2, .f32⟩
  | 4 => ⟨S2, .f32⟩
  | 5 => ⟨S3x2, .f32⟩
  | 6 => ⟨S2, .f32⟩
  | 7 => ⟨S3x2, .f32⟩
  | 8 => ⟨S2, .f32⟩
  | 9 => ⟨S8x64x64x3x85, .f32⟩
  | 10 => ⟨S8x64x64x3x4, .f32⟩
  | 11 => ⟨S8x64x64x3x1, .f32⟩
  | 12 => ⟨S8x64x64x3x80, .f32⟩
  | 13 => ⟨S64, .f32⟩
  | 14 => ⟨S64, .f32⟩
  | 15 => ⟨S64x64, .f32⟩
  | 16 => ⟨S64x64, .f32⟩
  | 17 => ⟨S64x64x1, .f32⟩
  | 18 => ⟨S64x64x1, .f32⟩
  | 19 => ⟨S64x64x2, .f32⟩
  | 20 => ⟨S1x64x64x1x2, .f32⟩
  | 21 => ⟨S_, .f32⟩
  | 22 => ⟨S3x2, .f32⟩
  | 23 => ⟨S3x2, .f32⟩
  | 24 => ⟨S8x64x64x3x2, .f32⟩
  | 25 => ⟨S8x64x64x3x2, .f32⟩
  | 26 => ⟨S8x64x64x3x2, .f32⟩
  | 27 => ⟨S_, .f32⟩
  | 28 => ⟨S8x64x64x3x2, .f32⟩
  | 29 => ⟨S8x64x64x3x2, .f32⟩
  | 30 => ⟨S_, .f32⟩
  | 31 => ⟨S8x64x64x3x2, .f32⟩
  | 32 => ⟨S8x64x64x3x2, .f32⟩
  | 33 => ⟨S_, .f32⟩
  | 34 => ⟨S8x64x64x3x2, .f32⟩
  | 35 => ⟨S8x64x64x3x2, .f32⟩
  | 36 => ⟨S_, .f32⟩
  | 37 => ⟨S8x64x64x3x2, .f32⟩
  | 38 => ⟨S8x64x64x3x2, .f32⟩
  | 39 => ⟨S8x64x64x3x2, .f32⟩
  | 40 => ⟨S8x64x64x3x2, .f32⟩
  | 41 => ⟨S1x1x1x1x2, .f32⟩
  | 42 => ⟨S8x64x64x3x2, .f32⟩
  | 43 => ⟨S8x64x64x3x2, .f32⟩
  | 44 => ⟨S8x64x64x3x2, .f32⟩
  | 45 => ⟨S8x64x64x3x2, .f32⟩
  | 46 => ⟨S1x1x1x3x2, .f32⟩
  | 47 => ⟨S8x64x64x3x2, .f32⟩
  | 48 => ⟨S8x64x64x3x2, .f32⟩
  | 49 => ⟨S1x1x1x1x2, .f32⟩
  | 50 => ⟨S8x64x64x3x2, .f32⟩
  | 51 => ⟨S8x64x64x3x2, .f32⟩
  | 52 => ⟨S8x64x64x3x1, .f32⟩
  | 53 => ⟨S8x64x64x3, .f32⟩
  | 54 => ⟨S8x64x64x3x1, .f32⟩
  | 55 => ⟨S8x64x64x3, .f32⟩
  | 56 => ⟨S8x64x64x3x1, .f32⟩
  | 57 => ⟨S8x64x64x3, .f32⟩
  | 58 => ⟨S8x64x64x3x1, .f32⟩
  | 59 => ⟨S8x64x64x3, .f32⟩
  | 60 => ⟨S_, .f32⟩
  | 61 => ⟨S8x64x64x3, .f32⟩
  | 62 => ⟨S8x64x64x3, .f32⟩
  | 63 => ⟨S8x64x64x3, .f32⟩
  | 64 => ⟨S_, .f32⟩
  | 65 => ⟨S8x64x64x3, .f32⟩
  | 66 => ⟨S8x64x64x3, .f32⟩
  | 67 => ⟨S8x64x64x3, .f32⟩
  | 68 => ⟨S_, .f32⟩
  | 69 => ⟨S8x64x64x3, .f32⟩
  | 70 => ⟨S8x64x64x3, .f32⟩
  | 71 => ⟨S8x64x64x3, .f32⟩
  | 72 => ⟨S_, .f32⟩
  | 73 => ⟨S8x64x64x3, .f32⟩
  | 74 => ⟨S8x64x64x3, .f32⟩
  | 75 => ⟨S8x64x64x3, .f32⟩
  | 76 => ⟨S8x64x64x3x1, .f32⟩
  | 77 => ⟨S8x64x64x3x1, .f32⟩
  | 78 => ⟨S8x64x64x3x1, .f32⟩
  | 79 => ⟨S8x64x64x3x1, .f32⟩
  | 80 => ⟨S8x64x64x3x4, .f32⟩
  | 81 => ⟨S8x64x64x3x1, .f32⟩
  | 82 => ⟨S8x64x64x3x1, .f32⟩
  | 83 => ⟨S_, .f32⟩
  | 84 => ⟨S8x64x64x3x1, .f32⟩
  | 85 => ⟨S8x64x64x3x1, .f32⟩
  | 86 => ⟨S_, .f32⟩
  | 87 => ⟨S8x64x64x3x1, .f32⟩
  | 88 => ⟨S8x64x64x3x1, .f32⟩
  | 89 => ⟨S8x64x64x3x80, .f32⟩
  | 90 => ⟨S8x64x64x3x80, .f32⟩
  | 91 => ⟨S_, .f32⟩
  | 92 => ⟨S8x64x64x3x80, .f32⟩
  | 93 => ⟨S8x64x64x3x80, .f32⟩
  | 94 => ⟨S_, .f32⟩
  | 95 => ⟨S8x64x64x3x80, .f32⟩
  | 96 => ⟨S8x64x64x3x80, .f32⟩
  | 97 => ⟨S8x64x64x3x80, .f32⟩
  | 98 => ⟨S8x64x64x3x80, .f32⟩
  | 99 => ⟨S8x12288, .f32⟩
  | 100 => ⟨S8x12288x4, .f32⟩
  | 101 => ⟨S8x12288x80, .f32⟩
  | 102 => ⟨S8x32x32x3x85, .f32⟩
  | 103 => ⟨S8x32x32x3x4, .f32⟩
  | 104 => ⟨S8x32x32x3x1, .f32⟩
  | 105 => ⟨S8x32x32x3x80, .f32⟩
  | 106 => ⟨S32, .f32⟩
  | 107 => ⟨S32, .f32⟩
  | 108 => ⟨S32x32, .f32⟩
  | 109 => ⟨S32x32, .f32⟩
  | 110 => ⟨S32x32x1, .f32⟩
  | 111 => ⟨S32x32x1, .f32⟩
  | 112 => ⟨S32x32x2, .f32⟩
  | 113 => ⟨S1x32x32x1x2, .f32⟩
  | 114 => ⟨S_, .f32⟩
  | 115 => ⟨S3x2, .f32⟩
  | 116 => ⟨S3x2, .f32⟩
  | 117 => ⟨S8x32x32x3x2, .f32⟩
  | 118 => ⟨S8x32x32x3x2, .f32⟩
  | 119 => ⟨S8x32x32x3x2, .f32⟩
  | 120 => ⟨S_, .f32⟩
  | 121 => ⟨S8x32x32x3x2, .f32⟩
  | 122 => ⟨S8x32x32x3x2, .f32⟩
  | 123 => ⟨S_, .f32⟩
  | 124 => ⟨S8x32x32x3x2, .f32⟩
  | 125 => ⟨S8x32x32x3x2, .f32⟩
  | 126 => ⟨S_, .f32⟩
  | 127 => ⟨S8x32x32x3x2, .f32⟩
  | _ => ⟨S8x64x64x255, .f32⟩

abbrev hbmTy0_1 (i : Nat) : BufTy := match i % 128 with
  | 0 => ⟨S8x32x32x3x2, .f32⟩
  | 1 => ⟨S_, .f32⟩
  | 2 => ⟨S8x32x32x3x2, .f32⟩
  | 3 => ⟨S8x32x32x3x2, .f32⟩
  | 4 => ⟨S8x32x32x3x2, .f32⟩
  | 5 => ⟨S8x32x32x3x2, .f32⟩
  | 6 => ⟨S1x1x1x1x2, .f32⟩
  | 7 => ⟨S8x32x32x3x2, .f32⟩
  | 8 => ⟨S8x32x32x3x2, .f32⟩
  | 9 => ⟨S8x32x32x3x2, .f32⟩
  | 10 => ⟨S8x32x32x3x2, .f32⟩
  | 11 => ⟨S1x1x1x3x2, .f32⟩
  | 12 => ⟨S8x32x32x3x2, .f32⟩
  | 13 => ⟨S8x32x32x3x2, .f32⟩
  | 14 => ⟨S1x1x1x1x2, .f32⟩
  | 15 => ⟨S8x32x32x3x2, .f32⟩
  | 16 => ⟨S8x32x32x3x2, .f32⟩
  | 17 => ⟨S8x32x32x3x1, .f32⟩
  | 18 => ⟨S8x32x32x3, .f32⟩
  | 19 => ⟨S8x32x32x3x1, .f32⟩
  | 20 => ⟨S8x32x32x3, .f32⟩
  | 21 => ⟨S8x32x32x3x1, .f32⟩
  | 22 => ⟨S8x32x32x3, .f32⟩
  | 23 => ⟨S8x32x32x3x1, .f32⟩
  | 24 => ⟨S8x32x32x3, .f32⟩
  | 25 => ⟨S_, .f32⟩
  | 26 => ⟨S8x32x32x3, .f32⟩
  | 27 => ⟨S8x32x32x3, .f32⟩
  | 28 => ⟨S8x32x32x3, .f32⟩
  | 29 => ⟨S_, .f32⟩
  | 30 => ⟨S8x32x32x3, .f32⟩
  | 31 => ⟨S8x32x32x3, .f32⟩
  | 32 => ⟨S8x32x32x3, .f32⟩
  | 33 => ⟨S_, .f32⟩
  | 34 => ⟨S8x32x32x3, .f32⟩
  | 35 => ⟨S8x32x32x3, .f32⟩
  | 36 => ⟨S8x32x32x3, .f32⟩
  | 37 => ⟨S_, .f32⟩
  | 38 => ⟨S8x32x32x3, .f32⟩
  | 39 => ⟨S8x32x32x3, .f32⟩
  | 40 => ⟨S8x32x32x3, .f32⟩
  | 41 => ⟨S8x32x32x3x1, .f32⟩
  | 42 => ⟨S8x32x32x3x1, .f32⟩
  | 43 => ⟨S8x32x32x3x1, .f32⟩
  | 44 => ⟨S8x32x32x3x1, .f32⟩
  | 45 => ⟨S8x32x32x3x4, .f32⟩
  | 46 => ⟨S8x32x32x3x1, .f32⟩
  | 47 => ⟨S8x32x32x3x1, .f32⟩
  | 48 => ⟨S_, .f32⟩
  | 49 => ⟨S8x32x32x3x1, .f32⟩
  | 50 => ⟨S8x32x32x3x1, .f32⟩
  | 51 => ⟨S_, .f32⟩
  | 52 => ⟨S8x32x32x3x1, .f32⟩
  | 53 => ⟨S8x32x32x3x1, .f32⟩
  | 54 => ⟨S8x32x32x3x80, .f32⟩
  | 55 => ⟨S8x32x32x3x80, .f32⟩
  | 56 => ⟨S_, .f32⟩
  | 57 => ⟨S8x32x32x3x80, .f32⟩
  | 58 => ⟨S8x32x32x3x80, .f32⟩
  | 59 => ⟨S_, .f32⟩
  | 60 => ⟨S8x32x32x3x80, .f32⟩
  | 61 => ⟨S8x32x32x3x80, .f32⟩
  | 62 => ⟨S8x32x32x3x80, .f32⟩
  | 63 => ⟨S8x32x32x3x80, .f32⟩
  | 64 => ⟨S8x3072, .f32⟩
  | 65 => ⟨S8x3072x4, .f32⟩
  | 66 => ⟨S8x3072x80, .f32⟩
  | 67 => ⟨S8x16x16x3x85, .f32⟩
  | 68 => ⟨S8x16x16x3x4, .f32⟩
  | 69 => ⟨S8x16x16x3x1, .f32⟩
  | 70 => ⟨S8x16x16x3x80, .f32⟩
  | 71 => ⟨S16, .f32⟩
  | 72 => ⟨S16, .f32⟩
  | 73 => ⟨S16x16, .f32⟩
  | 74 => ⟨S16x16, .f32⟩
  | 75 => ⟨S16x16x1, .f32⟩
  | 76 => ⟨S16x16x1, .f32⟩
  | 77 => ⟨S16x16x2, .f32⟩
  | 78 => ⟨S1x16x16x1x2, .f32⟩
  | 79 => ⟨S_, .f32⟩
  | 80 => ⟨S3x2, .f32⟩
  | 81 => ⟨S3x2, .f32⟩
  | 82 => ⟨S8x16x16x3x2, .f32⟩
  | 83 => ⟨S8x16x16x3x2, .f32⟩
  | 84 => ⟨S8x16x16x3x2, .f32⟩
  | 85 => ⟨S_, .f32⟩
  | 86 => ⟨S8x16x16x3x2, .f32⟩
  | 87 => ⟨S8x16x16x3x2, .f32⟩
  | 88 => ⟨S_, .f32⟩
  | 89 => ⟨S8x16x16x3x2, .f32⟩
  | 90 => ⟨S8x16x16x3x2, .f32⟩
  | 91 => ⟨S_, .f32⟩
  | 92 => ⟨S8x16x16x3x2, .f32⟩
  | 93 => ⟨S8x16x16x3x2, .f32⟩
  | 94 => ⟨S_, .f32⟩
  | 95 => ⟨S8x16x16x3x2, .f32⟩
  | 96 => ⟨S8x16x16x3x2, .f32⟩
  | 97 => ⟨S8x16x16x3x2, .f32⟩
  | 98 => ⟨S8x16x16x3x2, .f32⟩
  | 99 => ⟨S1x1x1x1x2, .f32⟩
  | 100 => ⟨S8x16x16x3x2, .f32⟩
  | 101 => ⟨S8x16x16x3x2, .f32⟩
  | 102 => ⟨S8x16x16x3x2, .f32⟩
  | 103 => ⟨S8x16x16x3x2, .f32⟩
  | 104 => ⟨S1x1x1x3x2, .f32⟩
  | 105 => ⟨S8x16x16x3x2, .f32⟩
  | 106 => ⟨S8x16x16x3x2, .f32⟩
  | 107 => ⟨S1x1x1x1x2, .f32⟩
  | 108 => ⟨S8x16x16x3x2, .f32⟩
  | 109 => ⟨S8x16x16x3x2, .f32⟩
  | 110 => ⟨S8x16x16x3x1, .f32⟩
  | 111 => ⟨S8x16x16x3, .f32⟩
  | 112 => ⟨S8x16x16x3x1, .f32⟩
  | 113 => ⟨S8x16x16x3, .f32⟩
  | 114 => ⟨S8x16x16x3x1, .f32⟩
  | 115 => ⟨S8x16x16x3, .f32⟩
  | 116 => ⟨S8x16x16x3x1, .f32⟩
  | 117 => ⟨S8x16x16x3, .f32⟩
  | 118 => ⟨S_, .f32⟩
  | 119 => ⟨S8x16x16x3, .f32⟩
  | 120 => ⟨S8x16x16x3, .f32⟩
  | 121 => ⟨S8x16x16x3, .f32⟩
  | 122 => ⟨S_, .f32⟩
  | 123 => ⟨S8x16x16x3, .f32⟩
  | 124 => ⟨S8x16x16x3, .f32⟩
  | 125 => ⟨S8x16x16x3, .f32⟩
  | 126 => ⟨S_, .f32⟩
  | 127 => ⟨S8x16x16x3, .f32⟩
  | _ => ⟨S8x64x64x255, .f32⟩

abbrev hbmTy0_2 (i : Nat) : BufTy := match i % 128 with
  | 0 => ⟨S8x16x16x3, .f32⟩
  | 1 => ⟨S8x16x16x3, .f32⟩
  | 2 => ⟨S_, .f32⟩
  | 3 => ⟨S8x16x16x3, .f32⟩
  | 4 => ⟨S8x16x16x3, .f32⟩
  | 5 => ⟨S8x16x16x3, .f32⟩
  | 6 => ⟨S8x16x16x3x1, .f32⟩
  | 7 => ⟨S8x16x16x3x1, .f32⟩
  | 8 => ⟨S8x16x16x3x1, .f32⟩
  | 9 => ⟨S8x16x16x3x1, .f32⟩
  | 10 => ⟨S8x16x16x3x4, .f32⟩
  | 11 => ⟨S8x16x16x3x1, .f32⟩
  | 12 => ⟨S8x16x16x3x1, .f32⟩
  | 13 => ⟨S_, .f32⟩
  | 14 => ⟨S8x16x16x3x1, .f32⟩
  | 15 => ⟨S8x16x16x3x1, .f32⟩
  | 16 => ⟨S_, .f32⟩
  | 17 => ⟨S8x16x16x3x1, .f32⟩
  | 18 => ⟨S8x16x16x3x1, .f32⟩
  | 19 => ⟨S8x16x16x3x80, .f32⟩
  | 20 => ⟨S8x16x16x3x80, .f32⟩
  | 21 => ⟨S_, .f32⟩
  | 22 => ⟨S8x16x16x3x80, .f32⟩
  | 23 => ⟨S8x16x16x3x80, .f32⟩
  | 24 => ⟨S_, .f32⟩
  | 25 => ⟨S8x16x16x3x80, .f32⟩
  | 26 => ⟨S8x16x16x3x80, .f32⟩
  | 27 => ⟨S8x16x16x3x80, .f32⟩
  | 28 => ⟨S8x16x16x3x80, .f32⟩
  | 29 => ⟨S8x768, .f32⟩
  | 30 => ⟨S8x768x4, .f32⟩
  | 31 => ⟨S8x768x80, .f32⟩
  | 32 => ⟨S8x16128, .f32⟩
  | 33 => ⟨S8x16128x4, .f32⟩
  | 34 => ⟨S8x16128x80, .f32⟩
  | 35 => ⟨S_, .f32⟩
  | 36 => ⟨S8x16128, .f32⟩
  | 37 => ⟨S8x16128, .i1⟩
  | 38 => ⟨S8x16128, .f32⟩
  | 39 => ⟨S_, .f32⟩
  | 40 => ⟨S8x16128x80, .f32⟩
  | 41 => ⟨S8x16128x80, .i1⟩
  | 42 => ⟨S8x16128x80, .f32⟩
  | 43 => ⟨S8x16128, .f32⟩
  | 44 => ⟨S8x16128x1, .f32⟩
  | 45 => ⟨S8x16128x80, .f32⟩
  | 46 => ⟨S8x16128x80, .f32⟩
  | 47 => ⟨S8x16128x80, .f32⟩
  | 48 => ⟨S_, .f32⟩
  | 49 => ⟨S8x16128, .f32⟩
  | 50 => ⟨S8x16128x80, .i32⟩
  | 51 => ⟨S_, .f32⟩
  | 52 => ⟨S_, .i32⟩
  | 53 => ⟨S8x16128, .f32⟩
  | 54 => ⟨S8x16128, .i32⟩
  | 55 => ⟨S8x1000, .f32⟩
  | 56 => ⟨S8x1000, .i32⟩
  | 57 => ⟨S8x1000x1, .i32⟩
  | 58 => ⟨S_, .i32⟩
  | 59 => ⟨S8x1000x1, .i32⟩
  | 60 => ⟨S8x1000x1, .i1⟩
  | 61 => ⟨S_, .i32⟩
  | 62 => ⟨S8x1000x1, .i32⟩
  | 63 => ⟨S8x1000x1, .i32⟩
  | 64 => ⟨S8x1000x1, .i32⟩
  | 65 => ⟨S1, .i32⟩
  | 66 => ⟨S_, .i32⟩
  | 67 => ⟨S8x1000x1, .i32⟩
  | 68 => ⟨S8x1000x1, .i1⟩
  | 69 => ⟨S1x1x1, .i32⟩
  | 70 => ⟨S8x1000x1, .i32⟩
  | 71 => ⟨S8x1000x1, .i1⟩
  | 72 => ⟨S8x1000x1, .i1⟩
  | 73 => ⟨S_, .i1⟩
  | 74 => ⟨S8x1000, .i1⟩
  | 75 => ⟨S8x1000x4, .f32⟩
  | 76 => ⟨S8x1000x4, .i1⟩
  | 77 => ⟨S_, .f32⟩
  | 78 => ⟨S8x1000x4, .f32⟩
  | 79 => ⟨S8x1000x4, .f32⟩
  | 80 => ⟨S_, .i32⟩
  | 81 => ⟨S8x1000, .i32⟩
  | 82 => ⟨S8x1000, .i1⟩
  | 83 => ⟨S_, .i32⟩
  | 84 => ⟨S8x1000, .i32⟩
  | 85 => ⟨S8x1000, .i32⟩
  | 86 => ⟨S8x1000, .i32⟩
  | 87 => ⟨S8x1000x1, .i32⟩
  | 88 => ⟨S1, .i32⟩
  | 89 => ⟨S_, .i32⟩
  | 90 => ⟨S8x1000x1, .i32⟩
  | 91 => ⟨S8x1000x1, .i1⟩
  | 92 => ⟨S1x1x1, .i32⟩
  | 93 => ⟨S8x1000x1, .i32⟩
  | 94 => ⟨S8x1000x1, .i1⟩
  | 95 => ⟨S8x1000x1, .i1⟩
  | 96 => ⟨S_, .i1⟩
  | 97 => ⟨S8x1000, .i1⟩
  | 98 => ⟨S8x1000, .i32⟩
  | 99 => ⟨S_, .i32⟩
  | 100 => ⟨S8x1000, .i32⟩
  | 101 => ⟨S8x1000, .i32⟩
  | 102 => ⟨S8x1000, .f32⟩
  | 103 => ⟨S8x1000, .i32⟩
  | 104 => ⟨S8x1000, .f32⟩
  | 105 => ⟨S8x1000, .i32⟩
  | 106 => ⟨S8x1000x1, .i32⟩
  | 107 => ⟨S_, .i32⟩
  | 108 => ⟨S8x1000x1, .i32⟩
  | 109 => ⟨S8x1000x1, .i1⟩
  | 110 => ⟨S_, .i32⟩
  | 111 => ⟨S8x1000x1, .i32⟩
  | 112 => ⟨S8x1000x1, .i32⟩
  | 113 => ⟨S8x1000x1, .i32⟩
  | 114 => ⟨S1, .i32⟩
  | 115 => ⟨S_, .i32⟩
  | 116 => ⟨S8x1000x1, .i32⟩
  | 117 => ⟨S8x1000x1, .i1⟩
  | 118 => ⟨S1x1x1, .i32⟩
  | 119 => ⟨S8x1000x1, .i32⟩
  | 120 => ⟨S8x1000x1, .i1⟩
  | 121 => ⟨S8x1000x1, .i1⟩
  | 122 => ⟨S_, .i1⟩
  | 123 => ⟨S8x1000, .i1⟩
  | 124 => ⟨S8x1000x4, .f32⟩
  | 125 => ⟨S8x1000x4, .i1⟩
  | 126 => ⟨S_, .f32⟩
  | 127 => ⟨S8x1000x4, .f32⟩
  | _ => ⟨S8x64x64x255, .f32⟩

abbrev hbmTy0_3 (i : Nat) : BufTy := match i % 128 with
  | 0 => ⟨S8x1000x4, .f32⟩
  | 1 => ⟨S_, .i32⟩
  | 2 => ⟨S8x1000, .i32⟩
  | 3 => ⟨S8x1000, .i1⟩
  | 4 => ⟨S_, .i32⟩
  | 5 => ⟨S8x1000, .i32⟩
  | 6 => ⟨S8x1000, .i32⟩
  | 7 => ⟨S8x1000, .i32⟩
  | 8 => ⟨S8x1000x1, .i32⟩
  | 9 => ⟨S1, .i32⟩
  | 10 => ⟨S_, .i32⟩
  | 11 => ⟨S8x1000x1, .i32⟩
  | 12 => ⟨S8x1000x1, .i1⟩
  | 13 => ⟨S1x1x1, .i32⟩
  | 14 => ⟨S8x1000x1, .i32⟩
  | 15 => ⟨S8x1000x1, .i1⟩
  | 16 => ⟨S8x1000x1, .i1⟩
  | 17 => ⟨S_, .i1⟩
  | 18 => ⟨S8x1000, .i1⟩
  | 19 => ⟨S8x1000, .f32⟩
  | 20 => ⟨S_, .f32⟩
  | 21 => ⟨S8x1000, .f32⟩
  | 22 => ⟨S8x1000, .f32⟩
  | 23 => ⟨S_, .i32⟩
  | 24 => ⟨S8x1000, .i32⟩
  | 25 => ⟨S8x1000, .i1⟩
  | 26 => ⟨S_, .i32⟩
  | 27 => ⟨S8x1000, .i32⟩
  | 28 => ⟨S8x1000, .i32⟩
  | 29 => ⟨S8x1000, .i32⟩
  | 30 => ⟨S8x1000x1, .i32⟩
  | 31 => ⟨S1, .i32⟩
  | 32 => ⟨S_, .i32⟩
  | 33 => ⟨S8x1000x1, .i32⟩
  | 34 => ⟨S8x1000x1, .i1⟩
  | 35 => ⟨S1x1x1, .i32⟩
  | 36 => ⟨S8x1000x1, .i32⟩
  | 37 => ⟨S8x1000x1, .i1⟩
  | 38 => ⟨S8x1000x1, .i1⟩
  | 39 => ⟨S_, .i1⟩
  | 40 => ⟨S8x1000, .i1⟩
  | 41 => ⟨S8x1000, .i32⟩
  | 42 => ⟨S_, .i32⟩
  | 43 => ⟨S8x1000, .i32⟩
  | 44 => ⟨S8x1000, .i32⟩
  | 45 => ⟨S8x1000x1, .f32⟩
  | 46 => ⟨S8x1000, .f32⟩
  | 47 => ⟨S8x1000x1, .f32⟩
  | 48 => ⟨S8x1000, .f32⟩
  | 49 => ⟨S8x1000, .f32⟩
  | 50 => ⟨S8x1000x1, .f32⟩
  | 51 => ⟨S8x1000, .f32⟩
  | 52 => ⟨S8x1000x1, .f32⟩
  | 53 => ⟨S8x1000, .f32⟩
  | 54 => ⟨S8x1000, .f32⟩
  | 55 => ⟨S8x1000, .f32⟩
  | 56 => ⟨S8x1000x1, .f32⟩
  | 57 => ⟨S8x1000, .f32⟩
  | 58 => ⟨S8x1000x1, .f32⟩
  | 59 => ⟨S8x1000, .f32⟩
  | 60 => ⟨S8x1000, .f32⟩
  | 61 => ⟨S8x1000x1, .f32⟩
  | 62 => ⟨S8x1000, .f32⟩
  | 63 => ⟨S8x1000x1, .f32⟩
  | 64 => ⟨S8x1000, .f32⟩
  | 65 => ⟨S8x1000, .f32⟩
  | 66 => ⟨S8x1000, .f32⟩
  | 67 => ⟨S8x1000x1, .f32⟩
  | 68 => ⟨S8x1000, .f32⟩
  | 69 => ⟨S8x1000x1, .f32⟩
  | 70 => ⟨S8x1000x1, .f32⟩
  | 71 => ⟨S8x1000, .f32⟩
  | 72 => ⟨S8x1x1000, .f32⟩
  | 73 => ⟨S8x1000x1000, .f32⟩
  | 74 => ⟨S8x1000x1000, .f32⟩
  | 75 => ⟨S8x1000x1000, .f32⟩
  | 76 => ⟨S8x1000x1, .f32⟩
  | 77 => ⟨S8x1000, .f32⟩
  | 78 => ⟨S8x1000x1, .f32⟩
  | 79 => ⟨S8x1000x1, .f32⟩
  | 80 => ⟨S8x1000, .f32⟩
  | 81 => ⟨S8x1x1000, .f32⟩
  | 82 => ⟨S8x1000x1000, .f32⟩
  | 83 => ⟨S8x1000x1000, .f32⟩
  | 84 => ⟨S8x1000x1000, .f32⟩
  | 85 => ⟨S8x1000x1, .f32⟩
  | 86 => ⟨S8x1000, .f32⟩
  | 87 => ⟨S8x1000x1, .f32⟩
  | 88 => ⟨S8x1000x1, .f32⟩
  | 89 => ⟨S8x1000, .f32⟩
  | 90 => ⟨S8x1x1000, .f32⟩
  | 91 => ⟨S8x1000x1000, .f32⟩
  | 92 => ⟨S8x1000x1000, .f32⟩
  | 93 => ⟨S8x1000x1000, .f32⟩
  | 94 => ⟨S8x1000x1, .f32⟩
  | 95 => ⟨S8x1000, .f32⟩
  | 96 => ⟨S8x1000x1, .f32⟩
  | 97 => ⟨S8x1000x1, .f32⟩
  | 98 => ⟨S8x1000, .f32⟩
  | 99 => ⟨S8x1x1000, .f32⟩
  | 100 => ⟨S8x1000x1000, .f32⟩
  | 101 => ⟨S8x1000x1000, .f32⟩
  | 102 => ⟨S8x1000x1000, .f32⟩
  | 103 => ⟨S8x1000x1000, .f32⟩
  | 104 => ⟨S_, .f32⟩
  | 105 => ⟨S8x1000x1000, .f32⟩
  | 106 => ⟨S8x1000x1000, .f32⟩
  | 107 => ⟨S8x1000x1000, .f32⟩
  | 108 => ⟨S_, .f32⟩
  | 109 => ⟨S8x1000x1000, .f32⟩
  | 110 => ⟨S8x1000x1000, .f32⟩
  | 111 => ⟨S8x1000x1000, .f32⟩
  | 112 => ⟨S8x1000x1, .f32⟩
  | 113 => ⟨S8x1x1000, .f32⟩
  | 114 => ⟨S8x1000x1000, .f32⟩
  | 115 => ⟨S8x1000x1000, .f32⟩
  | 116 => ⟨S8x1000x1000, .f32⟩
  | 117 => ⟨S8x1000x1000, .f32⟩
  | 118 => ⟨S_, .f32⟩
  | 119 => ⟨S8x1000x1000, .f32⟩
  | 120 => ⟨S8x1000x1000, .f32⟩
  | 121 => ⟨S8x1000x1000, .f32⟩
  | 122 => ⟨S1000, .i32⟩
  | 123 => ⟨S_, .i1⟩
  | 124 => ⟨S8x1000, .i1⟩
  | 125 => ⟨S_, .i32⟩
  | 126 => ⟨S_, .i32⟩
  | 127 => ⟨S8x1000x1000, .f32⟩
  | _ => ⟨S8x64x64x255, .f32⟩

abbrev hbmTy0_4 (i : Nat) : BufTy := match i % 128 with
  | 0 => ⟨S1000, .i32⟩
  | 1 => ⟨S_, .i32⟩
  | 2 => ⟨S_, .i32⟩
  | 3 => ⟨S8x1000, .i1⟩
  | 4 => ⟨S_, .i32⟩
  | 5 => ⟨S_, .i1⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S8x1x1000, .f32⟩
  | 17 => ⟨S8x1000, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S8x1, .i1⟩
  | 26 => ⟨S_, .f32⟩
  | 27 => ⟨S8x1000, .f32⟩
  | 28 => ⟨S8x1000, .i1⟩
  | 29 => ⟨S_, .i32⟩
  | 30 => ⟨S1000, .i32⟩
  | 31 => ⟨S1000, .i1⟩
  | 32 => ⟨S1x1000, .i1⟩
  | 33 => ⟨S8x1000, .i1⟩
  | 34 => ⟨S8x1000, .i1⟩
  | 35 => ⟨S8x1000, .i1⟩
  | 36 => ⟨S8x1000, .i1⟩
  | 37 => ⟨S8x1000, .i1⟩
  | 38 => ⟨S8x1000, .i1⟩
  | 39 => ⟨S_, .i32⟩
  | 40 => ⟨S_, .i32⟩
  | 41 => ⟨S_, .f32⟩
  | 42 => ⟨S_, .f32⟩
  | 43 => ⟨S8x1000, .f32⟩
  | 44 => ⟨S8x1000, .f32⟩
  | 45 => ⟨S8x200, .f32⟩
  | 46 => ⟨S8x200, .i32⟩
  | 47 => ⟨S_, .f32⟩
  | 48 => ⟨S8x200, .f32⟩
  | 49 => ⟨S8x200, .i1⟩
  | 50 => ⟨S8x200, .f32⟩
  | 51 => ⟨S8x200x1, .i32⟩
  | 52 => ⟨S_, .i32⟩
  | 53 => ⟨S8x200x1, .i32⟩
  | 54 => ⟨S8x200x1, .i1⟩
  | 55 => ⟨S_, .i32⟩
  | 56 => ⟨S8x200x1, .i32⟩
  | 57 => ⟨S8x200x1, .i32⟩
  | 58 => ⟨S8x200x1, .i32⟩
  | 59 => ⟨S1, .i32⟩
  | 60 => ⟨S_, .i32⟩
  | 61 => ⟨S8x200x1, .i32⟩
  | 62 => ⟨S8x200x1, .i1⟩
  | 63 => ⟨S1x1x1, .i32⟩
  | 64 => ⟨S8x200x1, .i32⟩
  | 65 => ⟨S8x200x1, .i1⟩
  | 66 => ⟨S8x200x1, .i1⟩
  | 67 => ⟨S_, .i1⟩
  | 68 => ⟨S8x200, .i1⟩
  | 69 => ⟨S8x200x4, .f32⟩
  | 70 => ⟨S8x200x4, .i1⟩
  | 71 => ⟨S_, .f32⟩
  | 72 => ⟨S8x200x4, .f32⟩
  | 73 => ⟨S8x200x4, .f32⟩
  | 74 => ⟨S8x200x1, .f32⟩
  | 75 => ⟨S8x200x4, .f32⟩
  | 76 => ⟨S8x200x4, .f32⟩
  | 77 => ⟨S8x200, .f32⟩
  | 78 => ⟨S_, .f32⟩
  | 79 => ⟨S8x200, .f32⟩
  | 80 => ⟨S8x200, .i1⟩
  | 81 => ⟨S_, .i32⟩
  | 82 => ⟨S8x200, .i32⟩
  | 83 => ⟨S8x200, .i1⟩
  | 84 => ⟨S_, .i32⟩
  | 85 => ⟨S8x200, .i32⟩
  | 86 => ⟨S8x200, .i32⟩
  | 87 => ⟨S8x200, .i32⟩
  | 88 => ⟨S8x200x1, .i32⟩
  | 89 => ⟨S1, .i32⟩
  | 90 => ⟨S_, .i32⟩
  | 91 => ⟨S8x200x1, .i32⟩
  | 92 => ⟨S8x200x1, .i1⟩
  | 93 => ⟨S1x1x1, .i32⟩
  | 94 => ⟨S8x200x1, .i32⟩
  | 95 => ⟨S8x200x1, .i1⟩
  | 96 => ⟨S8x200x1, .i1⟩
  | 97 => ⟨S_, .i1⟩
  | 98 => ⟨S8x200, .i1⟩
  | 99 => ⟨S8x200, .i32⟩
  | 100 => ⟨S_, .i32⟩
  | 101 => ⟨S8x200, .i32⟩
  | 102 => ⟨S8x200, .i32⟩
  | 103 => ⟨S_, .i32⟩
  | 104 => ⟨S_, .i32⟩
  | 105 => ⟨S8x200, .i32⟩
  | 106 => ⟨S8x200, .i32⟩
  | 107 => ⟨S_, .f32⟩
  | 108 => ⟨S8x200, .f32⟩
  | 109 => ⟨S8x200, .i1⟩
  | 110 => ⟨S8x200, .i32⟩
  | 111 => ⟨S_, .i32⟩
  | 112 => ⟨S8, .i32⟩
  | _ => ⟨S8x64x64x255, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x64x64x255, .f32⟩

abbrev bufTy : (tb : Table) → Fin (tcTables nBuf tb) → BufTy
  | .hbm, ⟨i, _⟩ => hbmTy i
  | _, _ => ⟨S8x64x64x255, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_cst_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_cst_8 : Ref sig .tc := ⟨.hbm, 33, rfl⟩
abbrev main_v21 : Ref sig .tc := ⟨.hbm, 34, rfl⟩
abbrev main_v22 : Ref sig .tc := ⟨.hbm, 35, rfl⟩
abbrev main_cst_9 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_13 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_14 : Ref sig .tc := ⟨.hbm, 83, rfl⟩
abbrev main_v65 : Ref sig .tc := ⟨.hbm, 84, rfl⟩
abbrev main_v66 : Ref sig .tc := ⟨.hbm, 85, rfl⟩
abbrev main_cst_15 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩
abbrev main_v72 : Ref sig .tc := ⟨.hbm, 93, rfl⟩
abbrev main_cst_17 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_18 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_19 : Ref sig .tc := ⟨.hbm, 120, rfl⟩
abbrev main_v97 : Ref sig .tc := ⟨.hbm, 121, rfl⟩
abbrev main_v98 : Ref sig .tc := ⟨.hbm, 122, rfl⟩
abbrev main_cst_20 : Ref sig .tc := ⟨.hbm, 123, rfl⟩
abbrev main_v99 : Ref sig .tc := ⟨.hbm, 124, rfl⟩
abbrev main_v100 : Ref sig .tc := ⟨.hbm, 125, rfl⟩
abbrev main_cst_21 : Ref sig .tc := ⟨.hbm, 126, rfl⟩
abbrev main_v101 : Ref sig .tc := ⟨.hbm, 127, rfl⟩
abbrev main_v102 : Ref sig .tc := ⟨.hbm, 128, rfl⟩
abbrev main_cst_22 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_23 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_cst_24 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_cst_25 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_26 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_cst_27 : Ref sig .tc := ⟨.hbm, 176, rfl⟩
abbrev main_v145 : Ref sig .tc := ⟨.hbm, 177, rfl⟩
abbrev main_v146 : Ref sig .tc := ⟨.hbm, 178, rfl⟩
abbrev main_cst_28 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_cst_29 : Ref sig .tc := ⟨.hbm, 184, rfl⟩
abbrev main_v151 : Ref sig .tc := ⟨.hbm, 185, rfl⟩
abbrev main_v152 : Ref sig .tc := ⟨.hbm, 186, rfl⟩
abbrev main_cst_30 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_cst_31 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_32 : Ref sig .tc := ⟨.hbm, 213, rfl⟩
abbrev main_v177 : Ref sig .tc := ⟨.hbm, 214, rfl⟩
abbrev main_v178 : Ref sig .tc := ⟨.hbm, 215, rfl⟩
abbrev main_cst_33 : Ref sig .tc := ⟨.hbm, 216, rfl⟩
abbrev main_v179 : Ref sig .tc := ⟨.hbm, 217, rfl⟩
abbrev main_v180 : Ref sig .tc := ⟨.hbm, 218, rfl⟩
abbrev main_cst_34 : Ref sig .tc := ⟨.hbm, 219, rfl⟩
abbrev main_v181 : Ref sig .tc := ⟨.hbm, 220, rfl⟩
abbrev main_v182 : Ref sig .tc := ⟨.hbm, 221, rfl⟩
abbrev main_cst_35 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_cst_36 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_cst_37 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_cst_38 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_cst_39 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_v218 : Ref sig .tc := ⟨.hbm, 262, rfl⟩
abbrev main_v219 : Ref sig .tc := ⟨.hbm, 263, rfl⟩
abbrev main_v220 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_cst_40 : Ref sig .tc := ⟨.hbm, 269, rfl⟩
abbrev main_v225 : Ref sig .tc := ⟨.hbm, 270, rfl⟩
abbrev main_v226 : Ref sig .tc := ⟨.hbm, 271, rfl⟩
abbrev main_cst_41 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_cst_42 : Ref sig .tc := ⟨.hbm, 277, rfl⟩
abbrev main_v231 : Ref sig .tc := ⟨.hbm, 278, rfl⟩
abbrev main_v232 : Ref sig .tc := ⟨.hbm, 279, rfl⟩
abbrev main_cst_43 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_cst_44 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_cst_45 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_cst_46 : Ref sig .tc := ⟨.hbm, 304, rfl⟩
abbrev main_v254 : Ref sig .tc := ⟨.hbm, 305, rfl⟩
abbrev main_call0_v0 : Ref sig .tc := ⟨.hbm, 306, rfl⟩
abbrev main_call0_cst : Ref sig .tc := ⟨.hbm, 307, rfl⟩
abbrev main_call0_c : Ref sig .tc := ⟨.hbm, 308, rfl⟩
abbrev main_call0_v1_0 : Ref sig .tc := ⟨.hbm, 309, rfl⟩
abbrev main_v255 : Ref sig .tc := ⟨.hbm, 310, rfl⟩
abbrev main_values : Ref sig .tc := ⟨.hbm, 311, rfl⟩
abbrev main_indices : Ref sig .tc := ⟨.hbm, 312, rfl⟩
abbrev main_v256 : Ref sig .tc := ⟨.hbm, 313, rfl⟩
abbrev main_call1_c : Ref sig .tc := ⟨.hbm, 314, rfl⟩
abbrev main_call1_v0 : Ref sig .tc := ⟨.hbm, 315, rfl⟩
abbrev main_call1_v1 : Ref sig .tc := ⟨.hbm, 316, rfl⟩
abbrev main_call1_c_0 : Ref sig .tc := ⟨.hbm, 317, rfl⟩
abbrev main_call1_v2 : Ref sig .tc := ⟨.hbm, 318, rfl⟩
abbrev main_call1_v3 : Ref sig .tc := ⟨.hbm, 319, rfl⟩
abbrev main_call1_v4 : Ref sig .tc := ⟨.hbm, 320, rfl⟩
abbrev main_call1_c_1 : Ref sig .tc := ⟨.hbm, 321, rfl⟩
abbrev main_call1_c_2 : Ref sig .tc := ⟨.hbm, 322, rfl⟩
abbrev main_call1_v5 : Ref sig .tc := ⟨.hbm, 323, rfl⟩
abbrev main_call1_v6 : Ref sig .tc := ⟨.hbm, 324, rfl⟩
abbrev main_call1_v7 : Ref sig .tc := ⟨.hbm, 325, rfl⟩
abbrev main_call1_v8 : Ref sig .tc := ⟨.hbm, 326, rfl⟩
abbrev main_call1_v9 : Ref sig .tc := ⟨.hbm, 327, rfl⟩
abbrev main_call1_v10 : Ref sig .tc := ⟨.hbm, 328, rfl⟩
abbrev main_call1_c_3 : Ref sig .tc := ⟨.hbm, 329, rfl⟩
abbrev main_call1_v11 : Ref sig .tc := ⟨.hbm, 330, rfl⟩
abbrev main_call1_v12 : Ref sig .tc := ⟨.hbm, 331, rfl⟩
abbrev main_call1_v13 : Ref sig .tc := ⟨.hbm, 332, rfl⟩
abbrev main_call1_cst : Ref sig .tc := ⟨.hbm, 333, rfl⟩
abbrev main_call1_v14 : Ref sig .tc := ⟨.hbm, 334, rfl⟩
abbrev main_v257 : Ref sig .tc := ⟨.hbm, 335, rfl⟩
abbrev main_call2_c : Ref sig .tc := ⟨.hbm, 336, rfl⟩
abbrev main_call2_v0 : Ref sig .tc := ⟨.hbm, 337, rfl⟩
abbrev main_call2_v1 : Ref sig .tc := ⟨.hbm, 338, rfl⟩
abbrev main_call2_c_0 : Ref sig .tc := ⟨.hbm, 339, rfl⟩
abbrev main_call2_v2 : Ref sig .tc := ⟨.hbm, 340, rfl⟩
abbrev main_call2_v3 : Ref sig .tc := ⟨.hbm, 341, rfl⟩
abbrev main_call2_v4 : Ref sig .tc := ⟨.hbm, 342, rfl⟩
abbrev main_call2_v5 : Ref sig .tc := ⟨.hbm, 343, rfl⟩
abbrev main_call2_c_1 : Ref sig .tc := ⟨.hbm, 344, rfl⟩
abbrev main_call2_c_2 : Ref sig .tc := ⟨.hbm, 345, rfl⟩
abbrev main_call2_v6 : Ref sig .tc := ⟨.hbm, 346, rfl⟩
abbrev main_call2_v7 : Ref sig .tc := ⟨.hbm, 347, rfl⟩
abbrev main_call2_v8 : Ref sig .tc := ⟨.hbm, 348, rfl⟩
abbrev main_call2_v9 : Ref sig .tc := ⟨.hbm, 349, rfl⟩
abbrev main_call2_v10 : Ref sig .tc := ⟨.hbm, 350, rfl⟩
abbrev main_call2_v11 : Ref sig .tc := ⟨.hbm, 351, rfl⟩
abbrev main_call2_c_3 : Ref sig .tc := ⟨.hbm, 352, rfl⟩
abbrev main_call2_v12 : Ref sig .tc := ⟨.hbm, 353, rfl⟩
abbrev main_call2_v13 : Ref sig .tc := ⟨.hbm, 354, rfl⟩
abbrev main_call2_c_4 : Ref sig .tc := ⟨.hbm, 355, rfl⟩
abbrev main_call2_v14 : Ref sig .tc := ⟨.hbm, 356, rfl⟩
abbrev main_v258 : Ref sig .tc := ⟨.hbm, 357, rfl⟩
abbrev main_v259 : Ref sig .tc := ⟨.hbm, 358, rfl⟩
abbrev main_call3_v0 : Ref sig .tc := ⟨.hbm, 359, rfl⟩
abbrev main_call3_v1_0 : Ref sig .tc := ⟨.hbm, 360, rfl⟩
abbrev main_v260 : Ref sig .tc := ⟨.hbm, 361, rfl⟩
abbrev main_v261 : Ref sig .tc := ⟨.hbm, 362, rfl⟩
abbrev main_call4_c : Ref sig .tc := ⟨.hbm, 363, rfl⟩
abbrev main_call4_v0 : Ref sig .tc := ⟨.hbm, 364, rfl⟩
abbrev main_call4_v1 : Ref sig .tc := ⟨.hbm, 365, rfl⟩
abbrev main_call4_c_0 : Ref sig .tc := ⟨.hbm, 366, rfl⟩
abbrev main_call4_v2 : Ref sig .tc := ⟨.hbm, 367, rfl⟩
abbrev main_call4_v3 : Ref sig .tc := ⟨.hbm, 368, rfl⟩
abbrev main_call4_v4 : Ref sig .tc := ⟨.hbm, 369, rfl⟩
abbrev main_call4_c_1 : Ref sig .tc := ⟨.hbm, 370, rfl⟩
abbrev main_call4_c_2 : Ref sig .tc := ⟨.hbm, 371, rfl⟩
abbrev main_call4_v5 : Ref sig .tc := ⟨.hbm, 372, rfl⟩
abbrev main_call4_v6 : Ref sig .tc := ⟨.hbm, 373, rfl⟩
abbrev main_call4_v7 : Ref sig .tc := ⟨.hbm, 374, rfl⟩
abbrev main_call4_v8 : Ref sig .tc := ⟨.hbm, 375, rfl⟩
abbrev main_call4_v9 : Ref sig .tc := ⟨.hbm, 376, rfl⟩
abbrev main_call4_v10 : Ref sig .tc := ⟨.hbm, 377, rfl⟩
abbrev main_call4_c_3 : Ref sig .tc := ⟨.hbm, 378, rfl⟩
abbrev main_call4_v11 : Ref sig .tc := ⟨.hbm, 379, rfl⟩
abbrev main_call4_v12 : Ref sig .tc := ⟨.hbm, 380, rfl⟩
abbrev main_call4_v13 : Ref sig .tc := ⟨.hbm, 381, rfl⟩
abbrev main_call4_cst : Ref sig .tc := ⟨.hbm, 382, rfl⟩
abbrev main_call4_v14 : Ref sig .tc := ⟨.hbm, 383, rfl⟩
abbrev main_v262 : Ref sig .tc := ⟨.hbm, 384, rfl⟩
abbrev main_call5_c : Ref sig .tc := ⟨.hbm, 385, rfl⟩
abbrev main_call5_v0 : Ref sig .tc := ⟨.hbm, 386, rfl⟩
abbrev main_call5_v1 : Ref sig .tc := ⟨.hbm, 387, rfl⟩
abbrev main_call5_c_0 : Ref sig .tc := ⟨.hbm, 388, rfl⟩
abbrev main_call5_v2 : Ref sig .tc := ⟨.hbm, 389, rfl⟩
abbrev main_call5_v3 : Ref sig .tc := ⟨.hbm, 390, rfl⟩
abbrev main_call5_v4 : Ref sig .tc := ⟨.hbm, 391, rfl⟩
abbrev main_call5_v5 : Ref sig .tc := ⟨.hbm, 392, rfl⟩
abbrev main_call5_c_1 : Ref sig .tc := ⟨.hbm, 393, rfl⟩
abbrev main_call5_c_2 : Ref sig .tc := ⟨.hbm, 394, rfl⟩
abbrev main_call5_v6 : Ref sig .tc := ⟨.hbm, 395, rfl⟩
abbrev main_call5_v7 : Ref sig .tc := ⟨.hbm, 396, rfl⟩
abbrev main_call5_v8 : Ref sig .tc := ⟨.hbm, 397, rfl⟩
abbrev main_call5_v9 : Ref sig .tc := ⟨.hbm, 398, rfl⟩
abbrev main_call5_v10 : Ref sig .tc := ⟨.hbm, 399, rfl⟩
abbrev main_call5_v11 : Ref sig .tc := ⟨.hbm, 400, rfl⟩
abbrev main_call5_c_3 : Ref sig .tc := ⟨.hbm, 401, rfl⟩
abbrev main_call5_v12 : Ref sig .tc := ⟨.hbm, 402, rfl⟩
abbrev main_call5_v13 : Ref sig .tc := ⟨.hbm, 403, rfl⟩
abbrev main_call5_cst : Ref sig .tc := ⟨.hbm, 404, rfl⟩
abbrev main_call5_v14 : Ref sig .tc := ⟨.hbm, 405, rfl⟩
abbrev main_v263 : Ref sig .tc := ⟨.hbm, 406, rfl⟩
abbrev main_call6_c : Ref sig .tc := ⟨.hbm, 407, rfl⟩
abbrev main_call6_v0 : Ref sig .tc := ⟨.hbm, 408, rfl⟩
abbrev main_call6_v1 : Ref sig .tc := ⟨.hbm, 409, rfl⟩
abbrev main_call6_c_0 : Ref sig .tc := ⟨.hbm, 410, rfl⟩
abbrev main_call6_v2 : Ref sig .tc := ⟨.hbm, 411, rfl⟩
abbrev main_call6_v3 : Ref sig .tc := ⟨.hbm, 412, rfl⟩
abbrev main_call6_v4 : Ref sig .tc := ⟨.hbm, 413, rfl⟩
abbrev main_call6_v5 : Ref sig .tc := ⟨.hbm, 414, rfl⟩
abbrev main_call6_c_1 : Ref sig .tc := ⟨.hbm, 415, rfl⟩
abbrev main_call6_c_2 : Ref sig .tc := ⟨.hbm, 416, rfl⟩
abbrev main_call6_v6 : Ref sig .tc := ⟨.hbm, 417, rfl⟩
abbrev main_call6_v7 : Ref sig .tc := ⟨.hbm, 418, rfl⟩
abbrev main_call6_v8 : Ref sig .tc := ⟨.hbm, 419, rfl⟩
abbrev main_call6_v9 : Ref sig .tc := ⟨.hbm, 420, rfl⟩
abbrev main_call6_v10 : Ref sig .tc := ⟨.hbm, 421, rfl⟩
abbrev main_call6_v11 : Ref sig .tc := ⟨.hbm, 422, rfl⟩
abbrev main_call6_c_3 : Ref sig .tc := ⟨.hbm, 423, rfl⟩
abbrev main_call6_v12 : Ref sig .tc := ⟨.hbm, 424, rfl⟩
abbrev main_call6_v13 : Ref sig .tc := ⟨.hbm, 425, rfl⟩
abbrev main_call6_c_4 : Ref sig .tc := ⟨.hbm, 426, rfl⟩
abbrev main_call6_v14 : Ref sig .tc := ⟨.hbm, 427, rfl⟩
abbrev main_v264 : Ref sig .tc := ⟨.hbm, 428, rfl⟩
abbrev main_v265 : Ref sig .tc := ⟨.hbm, 429, rfl⟩
abbrev main_v266 : Ref sig .tc := ⟨.hbm, 430, rfl⟩
abbrev main_v267 : Ref sig .tc := ⟨.hbm, 431, rfl⟩
abbrev main_v268 : Ref sig .tc := ⟨.hbm, 432, rfl⟩
abbrev main_v269 : Ref sig .tc := ⟨.hbm, 433, rfl⟩
abbrev main_v270 : Ref sig .tc := ⟨.hbm, 434, rfl⟩
abbrev main_v271 : Ref sig .tc := ⟨.hbm, 435, rfl⟩
abbrev main_v272 : Ref sig .tc := ⟨.hbm, 436, rfl⟩
abbrev main_v273 : Ref sig .tc := ⟨.hbm, 437, rfl⟩
abbrev main_v274 : Ref sig .tc := ⟨.hbm, 438, rfl⟩
abbrev main_v275 : Ref sig .tc := ⟨.hbm, 439, rfl⟩
abbrev main_v276 : Ref sig .tc := ⟨.hbm, 440, rfl⟩
abbrev main_v277 : Ref sig .tc := ⟨.hbm, 441, rfl⟩
abbrev main_v278 : Ref sig .tc := ⟨.hbm, 442, rfl⟩
abbrev main_v279 : Ref sig .tc := ⟨.hbm, 443, rfl⟩
abbrev main_v280 : Ref sig .tc := ⟨.hbm, 444, rfl⟩
abbrev main_v281 : Ref sig .tc := ⟨.hbm, 445, rfl⟩
abbrev main_v282 : Ref sig .tc := ⟨.hbm, 446, rfl⟩
abbrev main_v283 : Ref sig .tc := ⟨.hbm, 447, rfl⟩
abbrev main_v284 : Ref sig .tc := ⟨.hbm, 448, rfl⟩
abbrev main_v285 : Ref sig .tc := ⟨.hbm, 449, rfl⟩
abbrev main_v286 : Ref sig .tc := ⟨.hbm, 450, rfl⟩
abbrev main_v287 : Ref sig .tc := ⟨.hbm, 451, rfl⟩
abbrev main_v288 : Ref sig .tc := ⟨.hbm, 452, rfl⟩
abbrev main_v289 : Ref sig .tc := ⟨.hbm, 453, rfl⟩
abbrev main_v290 : Ref sig .tc := ⟨.hbm, 454, rfl⟩
abbrev main_v291 : Ref sig .tc := ⟨.hbm, 455, rfl⟩
abbrev main_v292 : Ref sig .tc := ⟨.hbm, 456, rfl⟩
abbrev main_v293 : Ref sig .tc := ⟨.hbm, 457, rfl⟩
abbrev main_v294 : Ref sig .tc := ⟨.hbm, 458, rfl⟩
abbrev main_v295 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_v299 : Ref sig .tc := ⟨.hbm, 463, rfl⟩
abbrev main_v300 : Ref sig .tc := ⟨.hbm, 464, rfl⟩
abbrev main_v301 : Ref sig .tc := ⟨.hbm, 465, rfl⟩
abbrev main_v302 : Ref sig .tc := ⟨.hbm, 466, rfl⟩
abbrev main_v303 : Ref sig .tc := ⟨.hbm, 467, rfl⟩
abbrev main_v304 : Ref sig .tc := ⟨.hbm, 468, rfl⟩
abbrev main_v305 : Ref sig .tc := ⟨.hbm, 469, rfl⟩
abbrev main_v306 : Ref sig .tc := ⟨.hbm, 470, rfl⟩
abbrev main_v307 : Ref sig .tc := ⟨.hbm, 471, rfl⟩
abbrev main_v308 : Ref sig .tc := ⟨.hbm, 472, rfl⟩
abbrev main_v309 : Ref sig .tc := ⟨.hbm, 473, rfl⟩
abbrev main_v310 : Ref sig .tc := ⟨.hbm, 474, rfl⟩
abbrev main_v311 : Ref sig .tc := ⟨.hbm, 475, rfl⟩
abbrev main_v312 : Ref sig .tc := ⟨.hbm, 476, rfl⟩
abbrev main_v313 : Ref sig .tc := ⟨.hbm, 477, rfl⟩
abbrev main_v314 : Ref sig .tc := ⟨.hbm, 478, rfl⟩
abbrev main_v315 : Ref sig .tc := ⟨.hbm, 479, rfl⟩
abbrev main_v316 : Ref sig .tc := ⟨.hbm, 480, rfl⟩
abbrev main_v317 : Ref sig .tc := ⟨.hbm, 481, rfl⟩
abbrev main_v318 : Ref sig .tc := ⟨.hbm, 482, rfl⟩
abbrev main_v319 : Ref sig .tc := ⟨.hbm, 483, rfl⟩
abbrev main_v320 : Ref sig .tc := ⟨.hbm, 484, rfl⟩
abbrev main_v321 : Ref sig .tc := ⟨.hbm, 485, rfl⟩
abbrev main_v322 : Ref sig .tc := ⟨.hbm, 486, rfl⟩
abbrev main_v323 : Ref sig .tc := ⟨.hbm, 487, rfl⟩
abbrev main_cst_47 : Ref sig .tc := ⟨.hbm, 488, rfl⟩
abbrev main_v324 : Ref sig .tc := ⟨.hbm, 489, rfl⟩
abbrev main_v325 : Ref sig .tc := ⟨.hbm, 490, rfl⟩
abbrev main_v326 : Ref sig .tc := ⟨.hbm, 491, rfl⟩
abbrev main_cst_48 : Ref sig .tc := ⟨.hbm, 492, rfl⟩
abbrev main_v327 : Ref sig .tc := ⟨.hbm, 493, rfl⟩
abbrev main_v328 : Ref sig .tc := ⟨.hbm, 494, rfl⟩
abbrev main_v329 : Ref sig .tc := ⟨.hbm, 495, rfl⟩
abbrev main_v330 : Ref sig .tc := ⟨.hbm, 496, rfl⟩
abbrev main_v331 : Ref sig .tc := ⟨.hbm, 497, rfl⟩
abbrev main_v332 : Ref sig .tc := ⟨.hbm, 498, rfl⟩
abbrev main_v333 : Ref sig .tc := ⟨.hbm, 499, rfl⟩
abbrev main_v334 : Ref sig .tc := ⟨.hbm, 500, rfl⟩
abbrev main_v335 : Ref sig .tc := ⟨.hbm, 501, rfl⟩
abbrev main_cst_49 : Ref sig .tc := ⟨.hbm, 502, rfl⟩
abbrev main_v336 : Ref sig .tc := ⟨.hbm, 503, rfl⟩
abbrev main_v337 : Ref sig .tc := ⟨.hbm, 504, rfl⟩
abbrev main_v338 : Ref sig .tc := ⟨.hbm, 505, rfl⟩
abbrev main_v339 : Ref sig .tc := ⟨.hbm, 506, rfl⟩
abbrev main_c : Ref sig .tc := ⟨.hbm, 507, rfl⟩
abbrev main_v340 : Ref sig .tc := ⟨.hbm, 508, rfl⟩
abbrev main_c_50 : Ref sig .tc := ⟨.hbm, 509, rfl⟩
abbrev main_c_51 : Ref sig .tc := ⟨.hbm, 510, rfl⟩
abbrev main_v341_0 : Ref sig .tc := ⟨.hbm, 511, rfl⟩
abbrev main_v341_1 : Ref sig .tc := ⟨.hbm, 512, rfl⟩
abbrev main_v341_2 : Ref sig .tc := ⟨.hbm, 513, rfl⟩
abbrev main_v341_3 : Ref sig .tc := ⟨.hbm, 514, rfl⟩
abbrev main_v341_4 : Ref sig .tc := ⟨.hbm, 515, rfl⟩
abbrev main_while0c_c_64 : Ref sig .tc := ⟨.hbm, 516, rfl⟩
abbrev main_while0c_v360 : Ref sig .tc := ⟨.hbm, 517, rfl⟩
abbrev main_while0b_c_64 : Ref sig .tc := ⟨.hbm, 518, rfl⟩
abbrev main_while0b_v360 : Ref sig .tc := ⟨.hbm, 519, rfl⟩
abbrev main_while0b_call7_c : Ref sig .tc := ⟨.hbm, 520, rfl⟩
abbrev main_while0b_call7_v0 : Ref sig .tc := ⟨.hbm, 521, rfl⟩
abbrev main_while0b_call7_v1 : Ref sig .tc := ⟨.hbm, 522, rfl⟩
abbrev main_while0b_call7_c_0 : Ref sig .tc := ⟨.hbm, 523, rfl⟩
abbrev main_while0b_call7_v2 : Ref sig .tc := ⟨.hbm, 524, rfl⟩
abbrev main_while0b_call7_v3 : Ref sig .tc := ⟨.hbm, 525, rfl⟩
abbrev main_while0b_call7_c_1 : Ref sig .tc := ⟨.hbm, 526, rfl⟩
abbrev main_while0b_call7_c_2 : Ref sig .tc := ⟨.hbm, 527, rfl⟩
abbrev main_while0b_call7_v4 : Ref sig .tc := ⟨.hbm, 528, rfl⟩
abbrev main_while0b_v361 : Ref sig .tc := ⟨.hbm, 529, rfl⟩
abbrev main_while0b_call8_c : Ref sig .tc := ⟨.hbm, 530, rfl⟩
abbrev main_while0b_call8_v0 : Ref sig .tc := ⟨.hbm, 531, rfl⟩
abbrev main_while0b_call8_v1 : Ref sig .tc := ⟨.hbm, 532, rfl⟩
abbrev main_while0b_call8_c_0 : Ref sig .tc := ⟨.hbm, 533, rfl⟩
abbrev main_while0b_call8_v2 : Ref sig .tc := ⟨.hbm, 534, rfl⟩
abbrev main_while0b_call8_v3 : Ref sig .tc := ⟨.hbm, 535, rfl⟩
abbrev main_while0b_call8_c_1 : Ref sig .tc := ⟨.hbm, 536, rfl⟩
abbrev main_while0b_v362 : Ref sig .tc := ⟨.hbm, 537, rfl⟩
abbrev main_while0b_cst_65 : Ref sig .tc := ⟨.hbm, 538, rfl⟩
abbrev main_while0b_v363 : Ref sig .tc := ⟨.hbm, 539, rfl⟩
abbrev main_while0b_v364 : Ref sig .tc := ⟨.hbm, 540, rfl⟩
abbrev main_while0b_v365 : Ref sig .tc := ⟨.hbm, 541, rfl⟩
abbrev main_while0b_v366 : Ref sig .tc := ⟨.hbm, 542, rfl⟩
abbrev main_while0b_v367 : Ref sig .tc := ⟨.hbm, 543, rfl⟩
abbrev main_while0b_v368 : Ref sig .tc := ⟨.hbm, 544, rfl⟩
abbrev main_while0b_v369 : Ref sig .tc := ⟨.hbm, 545, rfl⟩
abbrev main_while0b_v370 : Ref sig .tc := ⟨.hbm, 546, rfl⟩
abbrev main_while0b_v371 : Ref sig .tc := ⟨.hbm, 547, rfl⟩
abbrev main_while0b_v372 : Ref sig .tc := ⟨.hbm, 548, rfl⟩
abbrev main_while0b_v373 : Ref sig .tc := ⟨.hbm, 549, rfl⟩
abbrev main_while0b_v374 : Ref sig .tc := ⟨.hbm, 550, rfl⟩
abbrev main_while0b_c_66 : Ref sig .tc := ⟨.hbm, 551, rfl⟩
abbrev main_while0b_v375 : Ref sig .tc := ⟨.hbm, 552, rfl⟩
abbrev main_cst_52 : Ref sig .tc := ⟨.hbm, 553, rfl⟩
abbrev main_call9_v0 : Ref sig .tc := ⟨.hbm, 554, rfl⟩
abbrev main_call9_v1 : Ref sig .tc := ⟨.hbm, 555, rfl⟩
abbrev main_v342 : Ref sig .tc := ⟨.hbm, 556, rfl⟩
abbrev main_values_53 : Ref sig .tc := ⟨.hbm, 557, rfl⟩
abbrev main_indices_54 : Ref sig .tc := ⟨.hbm, 558, rfl⟩
abbrev main_cst_55 : Ref sig .tc := ⟨.hbm, 559, rfl⟩
abbrev main_v343 : Ref sig .tc := ⟨.hbm, 560, rfl⟩
abbrev main_v344 : Ref sig .tc := ⟨.hbm, 561, rfl⟩
abbrev main_v345 : Ref sig .tc := ⟨.hbm, 562, rfl⟩
abbrev main_v346 : Ref sig .tc := ⟨.hbm, 563, rfl⟩
abbrev main_call10_c : Ref sig .tc := ⟨.hbm, 564, rfl⟩
abbrev main_call10_v0 : Ref sig .tc := ⟨.hbm, 565, rfl⟩
abbrev main_call10_v1 : Ref sig .tc := ⟨.hbm, 566, rfl⟩
abbrev main_call10_c_0 : Ref sig .tc := ⟨.hbm, 567, rfl⟩
abbrev main_call10_v2 : Ref sig .tc := ⟨.hbm, 568, rfl⟩
abbrev main_call10_v3 : Ref sig .tc := ⟨.hbm, 569, rfl⟩
abbrev main_call10_v4 : Ref sig .tc := ⟨.hbm, 570, rfl⟩
abbrev main_call10_c_1 : Ref sig .tc := ⟨.hbm, 571, rfl⟩
abbrev main_call10_c_2 : Ref sig .tc := ⟨.hbm, 572, rfl⟩
abbrev main_call10_v5 : Ref sig .tc := ⟨.hbm, 573, rfl⟩
abbrev main_call10_v6 : Ref sig .tc := ⟨.hbm, 574, rfl⟩
abbrev main_call10_v7 : Ref sig .tc := ⟨.hbm, 575, rfl⟩
abbrev main_call10_v8 : Ref sig .tc := ⟨.hbm, 576, rfl⟩
abbrev main_call10_v9 : Ref sig .tc := ⟨.hbm, 577, rfl⟩
abbrev main_call10_v10 : Ref sig .tc := ⟨.hbm, 578, rfl⟩
abbrev main_call10_c_3 : Ref sig .tc := ⟨.hbm, 579, rfl⟩
abbrev main_call10_v11 : Ref sig .tc := ⟨.hbm, 580, rfl⟩
abbrev main_call10_v12 : Ref sig .tc := ⟨.hbm, 581, rfl⟩
abbrev main_call10_v13 : Ref sig .tc := ⟨.hbm, 582, rfl⟩
abbrev main_call10_cst : Ref sig .tc := ⟨.hbm, 583, rfl⟩
abbrev main_call10_v14 : Ref sig .tc := ⟨.hbm, 584, rfl⟩
abbrev main_v347 : Ref sig .tc := ⟨.hbm, 585, rfl⟩
abbrev main_v348 : Ref sig .tc := ⟨.hbm, 586, rfl⟩
abbrev main_v349 : Ref sig .tc := ⟨.hbm, 587, rfl⟩
abbrev main_v350 : Ref sig .tc := ⟨.hbm, 588, rfl⟩
abbrev main_v351 : Ref sig .tc := ⟨.hbm, 589, rfl⟩
abbrev main_cst_56 : Ref sig .tc := ⟨.hbm, 590, rfl⟩
abbrev main_v352 : Ref sig .tc := ⟨.hbm, 591, rfl⟩
abbrev main_v353 : Ref sig .tc := ⟨.hbm, 592, rfl⟩
abbrev main_call11_c : Ref sig .tc := ⟨.hbm, 593, rfl⟩
abbrev main_call11_v0 : Ref sig .tc := ⟨.hbm, 594, rfl⟩
abbrev main_call11_v1 : Ref sig .tc := ⟨.hbm, 595, rfl⟩
abbrev main_call11_c_0 : Ref sig .tc := ⟨.hbm, 596, rfl⟩
abbrev main_call11_v2 : Ref sig .tc := ⟨.hbm, 597, rfl⟩
abbrev main_call11_v3 : Ref sig .tc := ⟨.hbm, 598, rfl⟩
abbrev main_call11_v4 : Ref sig .tc := ⟨.hbm, 599, rfl⟩
abbrev main_call11_v5 : Ref sig .tc := ⟨.hbm, 600, rfl⟩
abbrev main_call11_c_1 : Ref sig .tc := ⟨.hbm, 601, rfl⟩
abbrev main_call11_c_2 : Ref sig .tc := ⟨.hbm, 602, rfl⟩
abbrev main_call11_v6 : Ref sig .tc := ⟨.hbm, 603, rfl⟩
abbrev main_call11_v7 : Ref sig .tc := ⟨.hbm, 604, rfl⟩
abbrev main_call11_v8 : Ref sig .tc := ⟨.hbm, 605, rfl⟩
abbrev main_call11_v9 : Ref sig .tc := ⟨.hbm, 606, rfl⟩
abbrev main_call11_v10 : Ref sig .tc := ⟨.hbm, 607, rfl⟩
abbrev main_call11_v11 : Ref sig .tc := ⟨.hbm, 608, rfl⟩
abbrev main_call11_c_3 : Ref sig .tc := ⟨.hbm, 609, rfl⟩
abbrev main_call11_v12 : Ref sig .tc := ⟨.hbm, 610, rfl⟩
abbrev main_call11_v13 : Ref sig .tc := ⟨.hbm, 611, rfl⟩
abbrev main_call11_c_4 : Ref sig .tc := ⟨.hbm, 612, rfl⟩
abbrev main_call11_v14 : Ref sig .tc := ⟨.hbm, 613, rfl⟩
abbrev main_v354 : Ref sig .tc := ⟨.hbm, 614, rfl⟩
abbrev main_c_57 : Ref sig .tc := ⟨.hbm, 615, rfl⟩
abbrev main_call12_v0 : Ref sig .tc := ⟨.hbm, 616, rfl⟩
abbrev main_call12_v1 : Ref sig .tc := ⟨.hbm, 617, rfl⟩
abbrev main_v355 : Ref sig .tc := ⟨.hbm, 618, rfl⟩
abbrev main_cst_58 : Ref sig .tc := ⟨.hbm, 619, rfl⟩
abbrev main_v356 : Ref sig .tc := ⟨.hbm, 620, rfl⟩
abbrev main_v357 : Ref sig .tc := ⟨.hbm, 621, rfl⟩
abbrev main_v358 : Ref sig .tc := ⟨.hbm, 622, rfl⟩
abbrev main_c_59 : Ref sig .tc := ⟨.hbm, 623, rfl⟩
abbrev main_v359 : Ref sig .tc := ⟨.hbm, 624, rfl⟩

abbrev nD : Nat := 1
abbrev τ : Topo := Topo.v7x

variable {F : FTy → Type} [FloatOps F]

abbrev main_while0_count : Scf.Loop 32 := ⟨0#32, 1000#32, 1#32⟩
-- ==== Proof.RefRun.lean ====
/- The reference program's run: every buffer ends at the fold of its host operations, the arguments as launched and every
   counter at zero. -/
module

public import proofs.«01_k».proof.Proof.Gen.ReferenceIdeal
public import proofs.«01_k».proof.Proof.Gen.ReferenceIdeal.Run
public import Idealize.ShloMosaic.Lib.Quiescent

@[expose] public section

set_option maxRecDepth 8192

noncomputable section

namespace Cert.ReferenceIdeal.Value

open Idealize.ShloMosaic Idealize.ShloMosaic.TcCoe Idealize.ShloMosaic.StableHlo
open Idealize.SL Idealize.SL.RA Idealize.SL.BI Idealize.SL.Sem
open Cert.ReferenceIdeal Cert.ReferenceIdeal.Gen

variable {F : FTy → Type} [FloatOps F]
variable (m : (ℓ : Loc nD τ sig) → Buf (Elt F) ℓ) (ρ : Dev nD → PrngReg)

/-- What stretch 12 writes. -/
abbrev hostOps0_12_W : List (Ref sig .tc) := [main_cst_52]
theorem hostOps0_12_writes : (hostOps0_12 : List (HloOp τ sig (Elt F))).Forall fun op => op.writes ⊆ (hostOps0_12_W.map (Proc.devRef (τ := τ) .tc)).toFinset :=
  StableHlo.forall_writes_sub_of_map rfl

/-- What stretch 13 writes. -/
abbrev hostOps0_13_W : List (Ref sig .tc) := [main_call9_v0, main_call9_v1, main_v342]
theorem hostOps0_13_writes : (hostOps0_13 : List (HloOp τ sig (Elt F))).Forall fun op => op.writes ⊆ (hostOps0_13_W.map (Proc.devRef (τ := τ) .tc)).toFinset :=
  StableHlo.forall_writes_sub_of_map rfl

/-- What stretch 14 writes. -/
abbrev hostOps0_14_W : List (Ref sig .tc) := [main_values_53, main_indices_54, main_cst_55, main_v343, main_v344, main_v345, main_v346]
theorem hostOps0_14_writes : (hostOps0_14 : List (HloOp τ sig (Elt F))).Forall fun op => op.writes ⊆ (hostOps0_14_W.map (Proc.devRef (τ := τ) .tc)).toFinset :=
  StableHlo.forall_writes_sub_of_map rfl

/-- What stretch 15 writes. -/
abbrev hostOps0_15_W : List (Ref sig .tc) := [main_call10_c, main_call10_v0, main_call10_v1, main_call10_c_0, main_call10_v2, main_call10_v3, main_call10_v4, main_call10_c_1, main_call10_c_2, main_call10_v5, main_call10_v6, main_call10_v7, main_call10_v8, main_call10_v9, main_call10_v10, main_call10_c_3, main_call10_v11, main_call10_v12, main_call10_v13, main_call10_cst, main_call10_v14, main_v347]
theorem hostOps0_15_writes : (hostOps0_15 : List (HloOp τ sig (Elt F))).Forall fun op => op.writes ⊆ (hostOps0_15_W.map (Proc.devRef (τ := τ) .tc)).toFinset :=
  StableHlo.forall_writes_sub_of_map rfl

/-- What stretch 16 writes. -/
abbrev hostOps0_16_W : List (Ref sig .tc) := [main_v348, main_v349, main_v350, main_v351, main_cst_56, main_v352, main_v353]
theorem hostOps0_16_writes : (hostOps0_16 : List (HloOp τ sig (Elt F))).Forall fun op => op.writes ⊆ (hostOps0_16_W.map (Proc.devRef (τ := τ) .tc)).toFinset :=
  StableHlo.forall_writes_sub_of_map rfl

/-- What stretch 17 writes. -/
abbrev hostOps0_17_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_c_4, main_call11_v14, main_v354]
theorem hostOps0_17_writes : (hostOps0_17 : List (HloOp τ sig (Elt F))).Forall fun op => op.writes ⊆ (hostOps0_17_W.map (Proc.devRef (τ := τ) .tc)).toFinset :=
  StableHlo.forall_writes_sub_of_map rfl

/-- What stretch 18 writes. -/
abbrev hostOps0_18_W : List (Ref sig .tc) := [main_c_57]
theorem hostOps0_18_writes : (hostOps0_18 : List (HloOp τ sig (Elt F))).Forall fun op => op.writes ⊆ (hostOps0_18_W.map (Proc.devRef (τ := τ) .tc)).toFinset :=
  StableHlo.forall_writes_sub_of_map rfl

/-- What stretch 19 writes. -/
abbrev hostOps0_19_W : List (Ref sig .tc) := [main_call12_v0, main_call12_v1, main_v355]
theorem hostOps0_19_writes : (hostOps0_19 : List (HloOp τ sig (Elt F))).Forall fun op => op.writes ⊆ (hostOps0_19_W.map (Proc.devRef (τ := τ) .tc)).toFinset :=
  StableHlo.forall_writes_sub_of_map rfl

/-- What stretch 20 writes. -/
abbrev hostOps0_20_W : List (Ref sig .tc) := [main_cst_58, main_v356, main_v357, main_v358, main_c_59, main_v359]
theorem hostOps0_20_writes : (hostOps0_20 : List (HloOp τ sig (Elt F))).Forall fun op => op.writes ⊆ (hostOps0_20_W.map (Proc.devRef (τ := τ) .tc)).toFinset :=
  StableHlo.forall_writes_sub_of_map rfl

/-- One trip of the loop keeps a buffer that neither its test nor its body writes. -/
theorem trip_keep (V : Valuation τ sig (Elt F)) (r : Ref sig .tc) (hc : r ∉ condOps_W) (h0 : r ∉ while0Ops0_W)
    (h1 : r ∉ while0Ops0_1_W) (h2 : r ∉ while0Ops0_2_W) (h3 : r ∉ while0Ops0_3_W) :
    afterL bodyI (after condOps V) (Proc.devRef .tc r) = V (Proc.devRef .tc r) := by
  simp only [bodyI, afterL_cons, afterL_nil]
  rw [after_of_writes_sub while0Ops0_3 _ while0Ops0_3_writes h3, after_of_writes_sub while0Ops0_2 _ while0Ops0_2_writes h2,
    after_of_writes_sub while0Ops0_1 _ while0Ops0_1_writes h1, after_of_writes_sub while0Ops0 _ while0Ops0_writes h0,
    after_of_writes_sub condOps _ condOps_writes hc]

/-- So does any number of trips. -/
theorem atK_keep (c : Dev nD) (r : Ref sig .tc) (hc : r ∉ condOps_W) (h0 : r ∉ while0Ops0_W)
    (h1 : r ∉ while0Ops0_1_W) (h2 : r ∉ while0Ops0_2_W) (h3 : r ∉ while0Ops0_3_W) :
    ∀ k, atK m k c (Proc.devRef .tc r) = entryContents preI m c (Proc.devRef .tc r)
  | 0 => rfl
  | k + 1 => (trip_keep _ r hc h0 h1 h2 h3).trans (atK_keep c r hc h0 h1 h2 h3 k)

/-- The buffers when the loop is left: after the last, failing test. -/
def exitContents (c : Dev nD) : Valuation τ sig (Elt F) := after condOps (atK m 1000 c)

/-- A buffer the loop does not write is at its exit what it was at its entry. -/
theorem exit_keep (c : Dev nD) (r : Ref sig .tc) (hc : r ∉ condOps_W) (h0 : r ∉ while0Ops0_W)
    (h1 : r ∉ while0Ops0_1_W) (h2 : r ∉ while0Ops0_2_W) (h3 : r ∉ while0Ops0_3_W) :
    exitContents m c (Proc.devRef .tc r) = entryContents preI m c (Proc.devRef .tc r) :=
  (after_of_writes_sub condOps _ condOps_writes hc).trans (atK_keep m c r hc h0 h1 h2 h3 1000)

/-- The arguments. -/
abbrev argRefs : List (Ref sig .tc) := [main_arg0, main_arg1, main_arg2]

/-- Before the loop the arguments are as launched. -/
theorem entry_args (c : Dev nD) : ∀ a ∈ argRefs, entryContents preI m c (Proc.devRef .tc a) = m ((c : Thread nD τ).loc a) := by
  intro a ha
  simp only [preI, entryContents, afterL_cons, afterL_nil]
  fin_cases ha <;>
    rw [after_of_writes_sub hostOps0_11 _ hostOps0_11_writes (by decide +kernel), after_of_writes_sub hostOps0_10 _ hostOps0_10_writes (by decide +kernel),
      after_of_writes_sub hostOps0_9 _ hostOps0_9_writes (by decide +kernel), after_of_writes_sub hostOps0_8 _ hostOps0_8_writes (by decide +kernel),
      after_of_writes_sub hostOps0_7 _ hostOps0_7_writes (by decide +kernel), after_of_writes_sub hostOps0_6 _ hostOps0_6_writes (by decide +kernel),
      after_of_writes_sub hostOps0_5 _ hostOps0_5_writes (by decide +kernel), after_of_writes_sub hostOps0_4 _ hostOps0_4_writes (by decide +kernel),
      after_of_writes_sub hostOps0_3 _ hostOps0_3_writes (by decide +kernel), after_of_writes_sub hostOps0_2 _ hostOps0_2_writes (by decide +kernel),
      after_of_writes_sub hostOps0_1 _ hostOps0_1_writes (by decide +kernel), after_of_writes_sub hostOps0 _ hostOps0_writes (by decide +kernel)]

/-- At the end the arguments are as launched. -/
theorem final_args (c : Dev nD) : ∀ a ∈ argRefs, afterL postI (exitContents m c) (Proc.devRef .tc a) = m ((c : Thread nD τ).loc a) := by
  intro a ha
  simp only [postI, afterL_cons, afterL_nil]
  fin_cases ha <;>
    (rw [after_of_writes_sub hostOps0_20 _ hostOps0_20_writes (by decide +kernel), after_of_writes_sub hostOps0_19 _ hostOps0_19_writes (by decide +kernel),
      after_of_writes_sub hostOps0_18 _ hostOps0_18_writes (by decide +kernel), after_of_writes_sub hostOps0_17 _ hostOps0_17_writes (by decide +kernel),
      after_of_writes_sub hostOps0_16 _ hostOps0_16_writes (by decide +kernel), after_of_writes_sub hostOps0_15 _ hostOps0_15_writes (by decide +kernel),
      after_of_writes_sub hostOps0_14 _ hostOps0_14_writes (by decide +kernel), after_of_writes_sub hostOps0_13 _ hostOps0_13_writes (by decide +kernel),
      after_of_writes_sub hostOps0_12 _ hostOps0_12_writes (by decide +kernel),
      exit_keep m c _ (by decide +kernel) (by decide +kernel) (by decide +kernel) (by decide +kernel) (by decide +kernel)]
     exact entry_args m c _ (by decide))

/-- THE RUN: the four results at the fold's contents, the arguments as launched, no counter raised. -/
theorem run : θ_run (defs (F := F)) (onTc (τ := τ) (main (F := F))) ⟨m, fun _ => 0, ρ⟩ (fun r =>
    (∀ c : Dev nD,
      r.2.mem ((c.tc : Thread nD τ).loc main_v350) = afterL postI (exitContents m c) (Proc.devRef .tc main_v350)
      ∧ r.2.mem ((c.tc : Thread nD τ).loc main_v351) = afterL postI (exitContents m c) (Proc.devRef .tc main_v351)
      ∧ r.2.mem ((c.tc : Thread nD τ).loc main_v355) = afterL postI (exitContents m c) (Proc.devRef .tc main_v355)
      ∧ r.2.mem ((c.tc : Thread nD τ).loc main_v359) = afterL postI (exitContents m c) (Proc.devRef .tc main_v359)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run _ _ _).mono (fun r h => ⟨fun c =>
    ⟨h c main_v350 (by decide), h c main_v351 (by decide), h c main_v355 (by decide), h c main_v359 (by decide),
     (h c main_arg0 (by decide)).trans (final_args m c main_arg0 (by decide)),
     (h c main_arg1 (by decide)).trans (final_args m c main_arg1 (by decide)),
     (h c main_arg2 (by decide)).trans (final_args m c main_arg2 (by decide))⟩,
    sem_eq_zero_of_no_sems (by decide) _⟩) (run_fold m ρ)

/-- The frame: the arguments end unchanged, every counter at zero. -/
theorem frame : θ_run (defs (F := F)) (onTc (τ := τ) (main (F := F))) ⟨m, fun _ => 0, ρ⟩ (fun r =>
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run _ _ _).mono (fun _ h => ⟨fun c => (h.1 c).2.2.2.2, h.2⟩) (run m ρ)

end Cert.ReferenceIdeal.Value

end
-- ==== Proof.KernelRun.lean ====
/- The kernel's run with its four results: the frame's launch, each result read at the contents after the last host
   stretch. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN: the four results at the contents after the last host stretch, the arguments as launched, no counter raised. -/
theorem run : θ_run defs (onTc (τ := τ) (main (F := F))) ⟨m, fun _ => 0, ρ⟩ (fun r => (∀ c : Dev nD,
      r.2.mem ((c.tc : Thread nD τ).loc main_v29) = W20 m ρ c (Proc.devRef .tc main_v29)
      ∧ r.2.mem ((c.tc : Thread nD τ).loc main_v27) = W20 m ρ c (Proc.devRef .tc main_v27)
      ∧ r.2.mem ((c.tc : Thread nD τ).loc main_v35) = W20 m ρ c (Proc.devRef .tc main_v35)
      ∧ r.2.mem ((c.tc : Thread nD τ).loc main_v38) = W20 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h hz => ⟨(fun c =>
      ⟨h c _ (mem_uc main_v29 (by decide)), h c _ (mem_uc main_v27 (by decide)), h c _ (mem_uc main_v35 (by decide)),
       h c _ (mem_uc main_v38 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c)⟩), funext fun g => hz g (.inr (no_unscoped g.2))⟩)

end Cert.KernelIdeal.Value

end
-- ==== Proof.NmsBlock.lean ====
/- One batch row's suppression block: what the body leaves in its two outputs, as a function of its four inputs. -/
module

public import proofs.«01_k».proof.Proof.Gen.KernelIdeal.Frame
public import Idealize.ShloMosaic.Lib.Pipeline.Value

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The pieces of the inputs the body reads -/

/-- Coordinate 0 of every candidate's box, along the lanes. -/
abbrev c0 (x1 : Vec F S1x4x1024 .f32) : Vec F S1x1x1024 .f32 := View.ld x1 (Rect.unit ![0, 0, 0] S1x1x1024.size inb_S1x4x1024_S1x1x1024_0_0_0)
/-- Coordinate 1. -/
abbrev c1 (x1 : Vec F S1x4x1024 .f32) : Vec F S1x1x1024 .f32 := View.ld x1 (Rect.unit ![0, 1, 0] S1x1x1024.size inb_S1x4x1024_S1x1x1024_0_1_0)
/-- Coordinate 2. -/
abbrev c2 (x1 : Vec F S1x4x1024 .f32) : Vec F S1x1x1024 .f32 := View.ld x1 (Rect.unit ![0, 2, 0] S1x1x1024.size inb_S1x4x1024_S1x1x1024_0_2_0)
/-- Coordinate 3. -/
abbrev c3 (x1 : Vec F S1x4x1024 .f32) : Vec F S1x1x1024 .f32 := View.ld x1 (Rect.unit ![0, 3, 0] S1x1x1024.size inb_S1x4x1024_S1x1x1024_0_3_0)
/-- Coordinate 0 again, down the rows. -/
abbrev r0 (x2 : Vec F S1x1024x4 .f32) : Vec F S1x1024x1 .f32 := View.ld x2 (Rect.unit ![0, 0, 0] S1x1024x1.size inb_S1x1024x4_S1x1024x1_0_0_0)
/-- Coordinate 1, down the rows. -/
abbrev r1 (x2 : Vec F S1x1024x4 .f32) : Vec F S1x1024x1 .f32 := View.ld x2 (Rect.unit ![0, 0, 1] S1x1024x1.size inb_S1x1024x4_S1x1024x1_0_0_1)
/-- Coordinate 2, down the rows. -/
abbrev r2 (x2 : Vec F S1x1024x4 .f32) : Vec F S1x1024x1 .f32 := View.ld x2 (Rect.unit ![0, 0, 2] S1x1024x1.size inb_S1x1024x4_S1x1024x1_0_0_2)
/-- Coordinate 3, down the rows. -/
abbrev r3 (x2 : Vec F S1x1024x4 .f32) : Vec F S1x1024x1 .f32 := View.ld x2 (Rect.unit ![0, 0, 3] S1x1024x1.size inb_S1x1024x4_S1x1024x1_0_0_3)

/-- The overlap matrix the body parks before its loop. -/
def iouBlk (x1 : Vec F S1x4x1024 .f32) (x2 : Vec F S1x1024x4 .f32) : Vec F S1024x1024 .f32 :=
  k3_pay18 (k3_pay7 (c3 x1)) (k3_pay11 (r3 x2)) (k3_pay12 (c0 x1) (c1 x1) (c2 x1) (c3 x1)) (k3_pay13 (r0 x2) (r1 x2) (r2 x2) (r3 x2))
    (k3_pay14 (c0 x1) (r0 x2)) (k3_pay15 (c1 x1) (r1 x2)) (k3_pay16 (r2 x2)) (k3_pay17 (c2 x1))

/-- Row `k` of the overlap matrix, as a trip loads it. -/
abbrev iouRow (M : Vec F S1024x1024 .f32) (k : Fin k3_t1_loop.trips) : Vec F S1x1024 .f32 :=
  View.ld M (Rect.unit (s := S1024x1024) (k3_off1 k) S1x1024.size (k3_off1_inb k))

/-- The kept lanes before trip `k`. -/
def keepBlk (M : Vec F S1024x1024 .f32) : ℕ → FVec F S1x1024 .f32
  | 0 => k3_pay19
  | k + 1 => if h : k < k3_t1_loop.trips then k3_pay20 ⟨k, h⟩ (keepBlk M k) (iouRow M ⟨k, h⟩) else keepBlk M k

/-- The kept lanes the loop leaves. -/
abbrev kept (x1 : Vec F S1x4x1024 .f32) (x2 : Vec F S1x1024x4 .f32) : FVec F S1x1024 .f32 := keepBlk (iouBlk x1 x2) 1000

/-- The masked scores. -/
abbrev kScore (x0 : Vec F S1x1x1024 .f32) (x1 : Vec F S1x4x1024 .f32) (x2 : Vec F S1x1024x4 .f32) : FVec F S1x1024 .f32 :=
  k3_pay21 (k3_pay3 (View.ld x0 (Rect.unit ![0, 0, 0] S1x1x1024.size inb_S1x1x1024_S1x1x1024_0_0_0))) (kept x1 x2)

/-- The one-hot product of the body's last part. -/
abbrev dotBlk (x0 : Vec F S1x1x1024 .f32) (x1 : Vec F S1x4x1024 .f32) (x2 : Vec F S1x1024x4 .f32) (x3 : Vec F S1x1x1024 .f32) : FVec F S8x256 .f32 :=
  k3_pay25 (k3_pay4 (c0 x1)) (k3_pay5 (c1 x1)) (k3_pay6 (c2 x1)) (k3_pay7 (c3 x1)) (kept x1 x2) (kScore x0 x1 x2)
    (k3_pay22 (kept x1 x2)) k3_pay23 (k3_pay24 (kept x1 x2))
    (View.ld x3 (Rect.unit ![0, 0, 0] S1x1x1024.size inb_S1x1x1024_S1x1x1024_0_0_0))

/-- Output 0 of the body: the selected scores, boxes and classes. -/
def outBlk (x0 : Vec F S1x1x1024 .f32) (x1 : Vec F S1x4x1024 .f32) (x2 : Vec F S1x1024x4 .f32) (x3 : Vec F S1x1x1024 .f32) : FVec F S1x8x256 .f32 :=
  k3_pay1 (dotBlk x0 x1 x2 x3)
    (k3_pay26 (k3_pay4 (c0 x1)) (k3_pay5 (c1 x1)) (k3_pay6 (c2 x1)) (k3_pay7 (c3 x1)) (kept x1 x2) (kScore x0 x1 x2)
      (k3_pay22 (kept x1 x2)) k3_pay23 (k3_pay24 (kept x1 x2))
      (View.ld x3 (Rect.unit ![0, 0, 0] S1x1x1024.size inb_S1x1x1024_S1x1x1024_0_0_0)))
    (k3_pay27 (k3_pay4 (c0 x1)) (k3_pay5 (c1 x1)) (k3_pay6 (c2 x1)) (k3_pay7 (c3 x1)) (kept x1 x2) (kScore x0 x1 x2)
      (k3_pay22 (kept x1 x2)) k3_pay23 (k3_pay24 (kept x1 x2))
      (View.ld x3 (Rect.unit ![0, 0, 0] S1x1x1024.size inb_S1x1x1024_S1x1x1024_0_0_0)))
    (Scalar.ofBits .f32 0x00000000#32)
    (k3_pay28 (k3_pay4 (c0 x1)) (k3_pay5 (c1 x1)) (k3_pay6 (c2 x1)) (k3_pay7 (c3 x1)) (kept x1 x2) (kScore x0 x1 x2)
      (k3_pay22 (kept x1 x2)) k3_pay23 (k3_pay24 (kept x1 x2))
      (View.ld x3 (Rect.unit ![0, 0, 0] S1x1x1024.size inb_S1x1x1024_S1x1x1024_0_0_0)))

/-- Output 1 of the body: the capped count. -/
def countBlk (x0 : Vec F S1x1x1024 .f32) (x1 : Vec F S1x4x1024 .f32) (x2 : Vec F S1x1024x4 .f32) : FVec F S1x1x128 .f32 :=
  k3_pay2 (kScore x0 x1 x2)

/-! ## The body leaves them -/

/-- The loop's carried value is the recursion above, when the scratch holds the matrix `M`. -/
theorem st_eq (c : Dev nD) (i : grid3.Coords) (arg1 : Memref sig .tc .vmem S1x1x1024 .f32) (harg1 : arg1.IsWhole) (arg2 : Memref sig .tc .vmem S1x4x1024 .f32) (harg2 : arg2.IsWhole) (arg3 : Memref sig .tc .vmem S1x1024x4 .f32) (harg3 : arg3.IsWhole) (arg4 : Memref sig .tc .vmem S1x1x1024 .f32) (harg4 : arg4.IsWhole) (arg5 : Memref sig .tc .vmem S1x8x256 .f32) (harg5 : arg5.IsWhole) (arg6 : Memref sig .tc .vmem S1x1x128 .f32) (harg6 : arg6.IsWhole) (arg7 : Memref sig .tc .vmem S1024x1024 .f32) (harg7 : arg7.IsWhole) (v1 : FVec F S1x1024 .f32) (v9 : FVec F S1x1024 .f32) (v17 : FVec F S1024x1 .f32) (v20 : FVec F S1x1024 .f32) (v23 : FVec F S1024x1 .f32) (v26 : FVec F S1024x1024 .f32) (v29 : FVec F S1024x1024 .f32) (v30 : FVec F S1024x1024 .f32) (v31 : FVec F S1024x1024 .f32)
    (M : Vec F S1024x1024 .f32) : ∀ (n : ℕ) (a : n ≤ k3_t1_loop.trips),
    st_k3_t1 (F := F) Variants.none c none i arg1 harg1 arg2 harg2 arg3 harg3 arg4 harg4 arg5 harg5 arg6 harg6 arg7 harg7 v1 v9 v17 v20 v23 v26 v29 v30 v31
      (arg7.view.writes (Elt F) arg7.view.junk [⟨Rect.unit ![0, 0] S1024x1024.size inb_S1024x1024_S1024x1024_0_0, M⟩]) k3_pay19 n = keepBlk M n
  | 0, _ => rfl
  | n + 1, h => by
    rw [st_k3_t1_succ Variants.none c none i arg1 harg1 arg2 harg2 arg3 harg3 arg4 harg4 arg5 harg5 arg6 harg6 arg7 harg7 v1 v9 v17 v20 v23 v26 v29 v30 v31 _ _ ⟨n, h⟩, keepBlk, dif_pos (show n < k3_t1_loop.trips from h),
      st_eq c i arg1 harg1 arg2 harg2 arg3 harg3 arg4 harg4 arg5 harg5 arg6 harg6 arg7 harg7 v1 v9 v17 v20 v23 v26 v29 v30 v31 M n (Nat.le_of_succ_le h)]
    delta tripR_k3_t1
    unfold trip_k3_t1
    dsimp only
    sl_unfold_words
    have hr : arg7.view.read (Elt F) (arg7.view.writes (Elt F) arg7.view.junk
        [⟨Rect.unit ![0, 0] S1024x1024.size inb_S1024x1024_S1024x1024_0_0, M⟩]) = M := by
      rw [View.read_writes_eq_canon _ _ _ (View.cover_of_tiled _ S1024x1024.size (by rfl)), View.canon_unit_zero hz2]
    rw [View.readAt_eq_ld, hr]
    rfl

/-- Output 0 is `outBlk` of the four inputs. -/
theorem out_4 (c : Dev nD) (i : grid3.Coords) (arg1 : Memref sig .tc .vmem S1x1x1024 .f32) (harg1 : arg1.IsWhole) (arg2 : Memref sig .tc .vmem S1x4x1024 .f32) (harg2 : arg2.IsWhole) (arg3 : Memref sig .tc .vmem S1x1024x4 .f32) (harg3 : arg3.IsWhole) (arg4 : Memref sig .tc .vmem S1x1x1024 .f32) (harg4 : arg4.IsWhole) (arg5 : Memref sig .tc .vmem S1x8x256 .f32) (harg5 : arg5.IsWhole) (arg6 : Memref sig .tc .vmem S1x1x128 .f32) (harg6 : arg6.IsWhole) (arg7 : Memref sig .tc .vmem S1024x1024 .f32) (harg7 : arg7.IsWhole)
    (x0 : Vec F S1x1x1024 .f32) (x1 : Vec F S1x4x1024 .f32) (x2 : Vec F S1x1024x4 .f32) (x3 : Vec F S1x1x1024 .f32) :
    out3_A_4 c i arg1 harg1 arg2 harg2 arg3 harg3 arg4 harg4 arg5 harg5 arg6 harg6 arg7 harg7 x0 x1 x2 x3 = outBlk x0 x1 x2 x3 := by
  unfold out3_A_4
  rw [View.read_writes_eq_canon _ _ _ (cover3_A_4 c i arg1 harg1 arg2 harg2 arg3 harg3 arg4 harg4 arg5 harg5 arg6 harg6 arg7 harg7 x0 x1 x2 x3)]
  unfold kernelRun3_A
  dsimp only
  sl_unfold_words
  rw [View.canon_unit_zero hz3]
  simp only [View.readAt_eq_ld, harg1.read_unread, harg2.read_unread, harg3.read_unread, harg4.read_unread]
  have ht : Scf.trips (0#32) (Scalar.addi 0#32 1000#32) 1#32 = 1000 := by decide
  rw [ht]
  simp only [st_eq (n := 1000) (a := by decide)]
  rfl

/-- Output 1 is `countBlk`. -/
theorem out_5 (c : Dev nD) (i : grid3.Coords) (arg1 : Memref sig .tc .vmem S1x1x1024 .f32) (harg1 : arg1.IsWhole) (arg2 : Memref sig .tc .vmem S1x4x1024 .f32) (harg2 : arg2.IsWhole) (arg3 : Memref sig .tc .vmem S1x1024x4 .f32) (harg3 : arg3.IsWhole) (arg4 : Memref sig .tc .vmem S1x1x1024 .f32) (harg4 : arg4.IsWhole) (arg5 : Memref sig .tc .vmem S1x8x256 .f32) (harg5 : arg5.IsWhole) (arg6 : Memref sig .tc .vmem S1x1x128 .f32) (harg6 : arg6.IsWhole) (arg7 : Memref sig .tc .vmem S1024x1024 .f32) (harg7 : arg7.IsWhole)
    (x0 : Vec F S1x1x1024 .f32) (x1 : Vec F S1x4x1024 .f32) (x2 : Vec F S1x1024x4 .f32) (x3 : Vec F S1x1x1024 .f32) :
    out3_A_5 c i arg1 harg1 arg2 harg2 arg3 harg3 arg4 harg4 arg5 harg5 arg6 harg6 arg7 harg7 x0 x1 x2 x3 = countBlk x0 x1 x2 := by
  unfold out3_A_5
  rw [View.read_writes_eq_canon _ _ _ (cover3_A_5 c i arg1 harg1 arg2 harg2 arg3 harg3 arg4 harg4 arg5 harg5 arg6 harg6 arg7 harg7 x0 x1 x2 x3)]
  unfold kernelRun3_A
  dsimp only
  sl_unfold_words
  rw [View.canon_unit_zero hz3]
  simp only [View.readAt_eq_ld, harg1.read_unread, harg2.read_unread, harg3.read_unread, harg4.read_unread]
  have ht : Scf.trips (0#32) (Scalar.addi 0#32 1000#32) 1#32 = 1000 := by decide
  rw [ht]
  simp only [st_eq (n := 1000) (a := by decide)]
  rfl

end Cert.KernelIdeal.Value

end
-- ==== Proof.Regions.lean ====
/- What each custom call leaves in its result arrays: row `b` of a result is the body's block at grid point `b`. -/
module

public import proofs.«01_k».proof.Proof.NmsBlock
public import Idealize.ShloMosaic.Lib.Pipeline.ValueKit
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

variable {F : FTy → Type} [FloatOps F]
variable (V : (c : Dev nD) → (b : Ref sig .tc) → Buf (Elt F) ((c : Thread nD τ).loc b))

/-- Row `b` of a rank-3 array whose first axis is the batch. -/
abbrev row {α : Type} {n0 n1 n2 : ℕ} (X : (⟨3, ![n0, n1, n2]⟩ : Shape).Idx → α) (b : Fin n0) : (⟨3, ![1, n1, n2]⟩ : Shape).Idx → α :=
  fun y => X (ix3 b (y 1) (y 2))

/-- An array put together from its rows. -/
abbrev ofRows {α : Type} {n0 n1 n2 : ℕ} (f : Fin n0 → (⟨3, ![1, n1, n2]⟩ : Shape).Idx → α) : (⟨3, ![n0, n1, n2]⟩ : Shape).Idx → α :=
  fun i => f (i 0) (ix3 0 (i 1) (i 2))

/-- An array of rows, read where row `t` of it sits. -/
theorem ofRows_row {α : Type} {n0 n1 n2 : ℕ} (f : Fin n0 → (⟨3, ![1, n1, n2]⟩ : Shape).Idx → α) (t : Fin n0)
    (y : (⟨3, ![1, n1, n2]⟩ : Shape).Idx) : f t y = ofRows f (ix3 t (y 1) (y 2)) := by
  refine congrArg (f t) ?_
  rw [eq_ix3 y]
  congr 1
  exact Fin.ext (by
    have h : (y 0).val < 1 := (y 0).isLt
    show (y 0).val = 0
    omega)

end Cert.KernelIdeal.Value

end
-- ==== Proof.Cell.lean ====
/- One anchor's decoding, as mathematics: the class probabilities, the objectness, the box. -/
module

public import Idealize.ShloMosaic.PureOps
public import Idealize.ShloMosaic.Lib.Pointwise

@[expose] public section

noncomputable section

namespace Cert.Cell

open Idealize.ShloMosaic

/-- Channel `c` of anchor `p` of image `b` in a `W × W` grid with three anchors per cell, `W3` of them per grid row. -/
def raw (W W3 n : ℕ) (h : n = W * W3) (h3 : W3 = 3 * W) (A : (⟨4, ![8, W, W, 255]⟩ : Shape).Idx → EReal) (b : Fin 8) (p : Fin n) (c : Fin 85) : EReal :=
  A (ix4 b ⟨p.val / W3, by
        have := p.isLt
        have h0 : 0 < W3 := by rcases Nat.eq_zero_or_pos W3 with h0 | h0; · subst h0; omega
                               · exact h0
        exact Nat.div_lt_of_lt_mul (by rw [Nat.mul_comm]; omega)⟩
      ⟨p.val / 3 % W, Nat.mod_lt _ (by
        have := p.isLt
        rcases Nat.eq_zero_or_pos W with h0 | h0
        · subst h0; omega
        · exact h0)⟩
      ⟨p.val % 3 * 85 + c.val, by have := Nat.mod_lt p.val (show 0 < 3 by omega); have := c.isLt; omega⟩)

/-- The greatest class logit. -/
def top (x : Fin 85 → EReal) : EReal := Finset.univ.fold max (Ideal.ofBits .f32 0xFF800000#32) fun k : Fin 80 => x ⟨5 + k.val, by omega⟩

/-- The score: the greatest class probability times the objectness. -/
def score (x : Fin 85 → EReal) : EReal := Ideal.logistic (top x) * Ideal.logistic (x 4)

/-- A class's probability times the objectness. -/
def prob (x : Fin 85 → EReal) (k : Fin 80) : EReal := Ideal.logistic (x ⟨5 + k.val, by omega⟩) * Ideal.logistic (x 4)

/-- The box's corners `y1 x1 y2 x2`, every size divided as it is met. -/
def refBox (xy off sz str : BitVec 32) (x : Fin 85 → EReal) (gx gy : ℕ) (a0 a1 : BitVec 32) : Fin 4 → EReal :=
  let xc := Ideal.div (Ideal.logistic (x 0) * Ideal.ofBits .f32 xy - Ideal.ofBits .f32 off + FloatOps.sitofp (F := Ideal) .f32 (BitVec.ofNat 32 gx)) (Ideal.ofBits .f32 sz)
  let yc := Ideal.div (Ideal.logistic (x 1) * Ideal.ofBits .f32 xy - Ideal.ofBits .f32 off + FloatOps.sitofp (F := Ideal) .f32 (BitVec.ofNat 32 gy)) (Ideal.ofBits .f32 sz)
  let w := Ideal.div (Ideal.exp (x 2) * Ideal.div (Ideal.ofBits .f32 a0) (Ideal.ofBits .f32 str)) (Ideal.ofBits .f32 sz)
  let h := Ideal.div (Ideal.exp (x 3) * Ideal.div (Ideal.ofBits .f32 a1) (Ideal.ofBits .f32 str)) (Ideal.ofBits .f32 sz)
  let two := Ideal.ofBits .f32 0x40000000#32
  ![yc - Ideal.div h two, xc - Ideal.div w two, yc + Ideal.div h two, xc + Ideal.div w two]

/-- The same corners with the divisions done beforehand: the offsets and the sizes come scaled. -/
def kerBox (xy off inv : BitVec 32) (x : Fin 85 → EReal) (a0 a1 a2 a3 : EReal) : Fin 4 → EReal :=
  let xc := (Ideal.logistic (x 0) * Ideal.ofBits .f32 xy - Ideal.ofBits .f32 off + a0) * Ideal.ofBits .f32 inv
  let yc := (Ideal.logistic (x 1) * Ideal.ofBits .f32 xy - Ideal.ofBits .f32 off + a1) * Ideal.ofBits .f32 inv
  let w := Ideal.exp (x 2) * a2
  let h := Ideal.exp (x 3) * a3
  let half := Ideal.ofBits .f32 0x3F000000#32
  ![yc - h * half, xc - w * half, yc + h * half, xc + w * half]

end Cert.Cell

end
-- ==== Proof.CellMath.lean ====
/- What a cell's decoding comes to on the extended reals: the masks are idle, the greatest probability is the greatest logit's. -/
module

public import proofs.«01_k».proof.Proof.Cell

@[expose] public section

noncomputable section

namespace Cert.Cell

open Idealize.ShloMosaic

/-- The logistic function is strictly increasing on the extended reals. -/
theorem logistic_strictMono : StrictMono Ideal.logistic := by
  intro a b h
  induction a using EReal.rec with
  | top => exact absurd h (not_lt.2 le_top)
  | bot =>
    induction b using EReal.rec with
    | bot => exact absurd h (lt_irrefl _)
    | coe s =>
      rw [Ideal.logistic_bot, Ideal.logistic_coe]
      exact_mod_cast (by positivity : (0 : ℝ) < (1 + Real.exp (-s))⁻¹)
    | top => rw [Ideal.logistic_bot, Ideal.logistic_top]; exact zero_lt_one
  | coe r =>
    induction b using EReal.rec with
    | bot => exact absurd h (not_lt.2 bot_le)
    | coe s =>
      rw [Ideal.logistic_coe, Ideal.logistic_coe]
      have hrs : r < s := by exact_mod_cast h
      have e : Real.exp (-s) < Real.exp (-r) := Real.exp_lt_exp.2 (by linarith)
      have p : 0 < 1 + Real.exp (-s) := by positivity
      exact_mod_cast inv_strictAnti₀ p (by linarith)
    | top =>
      rw [Ideal.logistic_coe, Ideal.logistic_top]
      have p : (0 : ℝ) < Real.exp (-r) := Real.exp_pos _
      have q : (1 + Real.exp (-r))⁻¹ < 1 := inv_lt_one_of_one_lt₀ (by linarith)
      exact_mod_cast q

theorem logistic_nonneg (a : EReal) : 0 ≤ Ideal.logistic a := by
  rw [← Ideal.logistic_bot]; exact logistic_strictMono.monotone bot_le

theorem logistic_le_one (a : EReal) : Ideal.logistic a ≤ 1 := by
  rw [← Ideal.logistic_top]; exact logistic_strictMono.monotone le_top

theorem prob_nonneg (x : Fin 85 → EReal) (k : Fin 80) : 0 ≤ prob x k := mul_nonneg (logistic_nonneg _) (logistic_nonneg _)
theorem score_nonneg (x : Fin 85 → EReal) : 0 ≤ score x := mul_nonneg (logistic_nonneg _) (logistic_nonneg _)

/-- A truth value read as a number. -/
theorem uitofp_ofBool (p : Bool) : FloatOps.uitofp (F := Ideal) .f32 (BitVec.ofBool p) = if p then 1 else 0 := by
  cases p
  · show (((BitVec.ofBool false).toNat : ℝ) : EReal) = _; simp
  · show (((BitVec.ofBool true).toNat : ℝ) : EReal) = _; simp

/-- Both masks leave every probability as it is. -/
theorem prob_mask (x : Fin 85 → EReal) (k : Fin 80) :
    prob x k * FloatOps.uitofp (F := Ideal) .f32 (BitVec.ofBool (decide (0 < Ideal.logistic (x 4))))
      * FloatOps.uitofp (F := Ideal) .f32 (BitVec.ofBool (decide (0 < prob x k))) = prob x k := by
  rw [uitofp_ofBool, uitofp_ofBool]
  rcases (prob_nonneg x k).lt_or_eq with h | h
  · have ho : 0 < Ideal.logistic (x 4) := by
      rcases (logistic_nonneg (x 4)).lt_or_eq with h' | h'
      · exact h'
      · unfold prob at h; rw [← h', mul_zero] at h; exact absurd h (lt_irrefl _)
    simp [h, ho]
  · rw [← h]; simp

theorem ofBits_ninf : Ideal.ofBits .f32 0xFF800000#32 = (⊥ : EReal) := by
  simp [Ideal.ofBits, Ideal.ieee]

theorem le_top' (x : Fin 85 → EReal) (k : Fin 80) : x ⟨5 + k.val, by omega⟩ ≤ top x :=
  (Finset.le_fold_max _).2 (.inr ⟨k, Finset.mem_univ _, le_rfl⟩)

/-- The greatest logit is attained. -/
theorem top_attained (x : Fin 85 → EReal) : ∃ k : Fin 80, x ⟨5 + k.val, by omega⟩ = top x := by
  obtain ⟨k, -, hk⟩ := Finset.exists_max_image (Finset.univ : Finset (Fin 80)) (fun k => x ⟨5 + k.val, by omega⟩) ⟨0, Finset.mem_univ _⟩
  refine ⟨k, le_antisymm (le_top' x k) ?_⟩
  refine (Finset.fold_max_le _).2 ⟨?_, fun j hj => hk j hj⟩
  rw [ofBits_ninf]; exact bot_le

theorem prob_le_score (x : Fin 85 → EReal) (k : Fin 80) : prob x k ≤ score x :=
  mul_le_mul_of_nonneg_right (logistic_strictMono.monotone (le_top' x k)) (logistic_nonneg _)

/-- The greatest of the class scores is the score of the greatest logit. -/
theorem fold_prob (x : Fin 85 → EReal) :
    Finset.fold max (Ideal.ofBits .f32 0xFF800000#32) (fun k : Fin 80 => prob x k) Finset.univ = score x := by
  refine le_antisymm ((Finset.fold_max_le _).2 ⟨?_, fun k _ => prob_le_score x k⟩) ?_
  · rw [ofBits_ninf]; exact bot_le
  · obtain ⟨k, hk⟩ := top_attained x
    exact (Finset.le_fold_max _).2 (.inr ⟨k, Finset.mem_univ _, by unfold score prob; rw [hk]⟩)

/-- A class whose score is the greatest, that being positive, has the greatest logit. -/
theorem eq_top_of_prob (x : Fin 85 → EReal) (h : 0 < score x) (k : Fin 80) (hk : score x ≤ prob x k) :
    x ⟨5 + k.val, by omega⟩ = top x := by
  by_contra hne
  have hlt := logistic_strictMono (lt_of_le_of_ne (le_top' x k) hne)
  have ho : 0 < Ideal.logistic (x 4) := by
    rcases (logistic_nonneg (x 4)).lt_or_eq with h' | h'
    · exact h'
    · unfold score at h; rw [← h', mul_zero] at h; exact absurd h (lt_irrefl _)
  have ht : Ideal.logistic (x 4) ≠ ⊤ := ((logistic_le_one _).trans_lt (EReal.coe_lt_top 1)).ne
  have ht2 : Ideal.logistic (top x) ≠ ⊤ := ((logistic_le_one _).trans_lt (EReal.coe_lt_top 1)).ne
  unfold score prob at hk
  generalize Ideal.logistic (x 4) = o at *
  generalize Ideal.logistic (top x) = t at *
  have hn := logistic_nonneg (x ⟨5 + k.val, by omega⟩)
  generalize Ideal.logistic (x ⟨5 + k.val, by omega⟩) = s at *
  have hs : s ≠ ⊤ := (hlt.trans_le le_top).ne
  lift o to ℝ using ⟨ht, (lt_of_le_of_lt bot_le ho).ne'⟩
  lift s to ℝ using ⟨hs, (lt_of_lt_of_le EReal.bot_lt_zero hn).ne'⟩
  lift t to ℝ using ⟨ht2, (lt_of_le_of_lt bot_le hlt).ne'⟩
  have a : t * o ≤ s * o := by exact_mod_cast hk
  have b : s < t := by exact_mod_cast hlt
  have c : 0 < o := by exact_mod_cast ho
  nlinarith

/-- The first class with the greatest logit. -/
def cls (x : Fin 85 → EReal) : Fin 80 :=
  (Finset.univ.filter fun k : Fin 80 => x ⟨5 + k.val, by omega⟩ = top x).min' (by
    obtain ⟨k, hk⟩ := top_attained x
    exact ⟨k, by simpa using hk⟩)

theorem cls_top (x : Fin 85 → EReal) : x ⟨5 + (cls x).val, by omega⟩ = top x := by
  have h := Finset.min'_mem (Finset.univ.filter fun k : Fin 80 => x ⟨5 + k.val, by omega⟩ = top x) (by
    obtain ⟨k, hk⟩ := top_attained x
    exact ⟨k, by simpa using hk⟩)
  exact (Finset.mem_filter.1 h).2

theorem cls_le (x : Fin 85 → EReal) (k : Fin 80) (hk : x ⟨5 + k.val, by omega⟩ = top x) : cls x ≤ k :=
  Finset.min'_le _ _ (by simpa using hk)

/-- A small number as a signed word. -/
theorem toInt_small (n : ℕ) (h : n < 2147483648) : (BitVec.ofNat 32 n).toInt = n := by
  have e : (BitVec.ofNat 32 n).toNat = n := by rw [BitVec.toNat_ofNat]; omega
  rw [BitVec.toInt_eq_toNat_of_lt (by omega), e]

theorem minsi_toInt (a b : BitVec 32) : (IntOp.minsi a b).toInt = min a.toInt b.toInt := by
  unfold IntOp.minsi
  split <;> rename_i h <;> simp [BitVec.slt, BitVec.sle] at h <;> omega

/-- The least of the class numbers that carry the greatest logit is the first such class. -/
theorem fold_minsi (x : Fin 85 → EReal) :
    Finset.fold IntOp.minsi 2147483647#32 (fun k : Fin 80 => if x ⟨5 + k.val, by omega⟩ = top x then BitVec.ofNat 32 k else 80#32) Finset.univ
      = BitVec.ofNat 32 (cls x) := by
  apply BitVec.eq_of_toInt_eq
  rw [← Finset.fold_hom (op' := min) (m := BitVec.toInt) minsi_toInt, toInt_small (cls x).val (by omega)]
  refine le_antisymm ?_ ?_
  · refine (Finset.fold_min_le _).2 (.inr ⟨cls x, Finset.mem_univ _, ?_⟩)
    rw [if_pos (cls_top x), toInt_small (cls x).val (by omega)]
  · refine (Finset.le_fold_min _).2 ⟨?_, fun k _ => ?_⟩
    · have := (cls x).isLt
      have e : (2147483647#32 : BitVec 32).toInt = 2147483647 := by decide
      omega
    · split
      · rename_i hk
        have := cls_le x k hk
        rw [toInt_small k.val (by omega)]
        exact_mod_cast this
      · have := (cls x).isLt
        have e : (80#32 : BitVec 32).toInt = 80 := by decide
        omega

/-- A small number carried as a float comes back unchanged. -/
theorem fptosi_sitofp (n : ℕ) (h : n < 2147483648) :
    Ideal.fptosi 32 (FloatOps.sitofp (F := Ideal) .f32 (BitVec.ofNat 32 n)) = BitVec.ofNat 32 n := by
  show Ideal.fptosi 32 (((BitVec.ofNat 32 n).toInt : ℝ) : EReal) = _
  rw [toInt_small n h, Ideal.fptosi, Ideal.toIntClamped_coe]
  have h0 : (0 : ℝ) ≤ ((n : ℤ) : ℝ) := by positivity
  rw [if_pos h0, Int.floor_intCast]
  rw [show max (-((2 ^ (32 - 1) : ℕ) : ℤ)) (min (((2 ^ (32 - 1) : ℕ) : ℤ) - 1) (n : ℤ)) = n from by
    norm_num; omega]
  simp

end Cert.Cell

end
-- ==== Proof.Region0.lean ====
/- The decoding call of level 0: what its three result arrays hold, entry by entry. -/
module

public import proofs.«01_k».proof.Proof.Regions
public import proofs.«01_k».proof.Proof.CellMath

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

section Arrays

variable {F : FTy → Type} [FloatOps F]
variable (V : (c : Dev nD) → (b : Ref sig .tc) → Buf (Elt F) ((c : Thread nD τ).loc b))

/-- Block `b` along the batch axis starts at row `b`. -/
theorem index0_0 : ∀ t : Fin cfg0.N, win0_0.index t = ![t.val, 0, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0, 0] := (by decide +kernel : ∀ t : Fin grid0.N, _)
theorem index0_3 : ∀ t : Fin cfg0.N, win0_3.index t = ![t.val, 0, 0] := (by decide +kernel : ∀ t : Fin grid0.N, _)
theorem index0_4 : ∀ t : Fin cfg0.N, win0_4.index t = ![t.val, 0, 0] := (by decide +kernel : ∀ t : Fin grid0.N, _)

/-- The call's blocks of its two operands. -/
theorem iblk0_0_eq (c : Dev nD) (t : Fin cfg0.N) : iblk0 V c 0 t = row (n0 := 8) (n1 := 85) (n2 := 12288) (V c main_v1) t := by
  funext y
  blk_simp [iblk0, row]
  exact congrArg (V c main_v1) (by blk_ext [index0_0])

theorem iblk0_1_eq (c : Dev nD) (t : Fin cfg0.N) : iblk0 V c 1 t = V c main_cst := by
  funext y
  blk_simp [iblk0, row]
  exact congrArg (V c main_cst) (by blk_ext [index0_1])

theorem arr0_2 (c : Dev nD) : (dat0 V c).arrAt 2 cfg0.N
    = ofRows (n0 := 8) (n1 := 1) (n2 := 12288) fun b => out0_2 (row (n0 := 8) (n1 := 85) (n2 := 12288) (V c main_v1) b) (V c main_cst) := by
  refine (dat0 V c).arrAt_eq_of_covers 2 _ (by decide +kernel) fun t hf y => ?_
  blk_simp
  rw [after0_2, iblk0_0_eq, iblk0_1_eq]
  rw [show (win0_2.blk t).view.emb y = ix3 (n0 := 8) (n1 := 1) (n2 := 12288) t (y 1) (y 2) from by blk_ext [index0_2]]
  exact ofRows_row (n0 := 8) (n1 := 1) (n2 := 12288) (fun b => out0_2 (row (n0 := 8) (n1 := 85) (n2 := 12288) (V c main_v1) b) (V c main_cst)) t y

theorem arr0_3 (c : Dev nD) : (dat0 V c).arrAt 3 cfg0.N
    = ofRows (n0 := 8) (n1 := 4) (n2 := 12288) fun b => out0_3 (row (n0 := 8) (n1 := 85) (n2 := 12288) (V c main_v1) b) (V c main_cst) := by
  refine (dat0 V c).arrAt_eq_of_covers 3 _ (by decide +kernel) fun t hf y => ?_
  blk_simp
  rw [after0_3, iblk0_0_eq, iblk0_1_eq]
  rw [show (win0_3.blk t).view.emb y = ix3 (n0 := 8) (n1 := 4) (n2 := 12288) t (y 1) (y 2) from by blk_ext [index0_3]]
  exact ofRows_row (n0 := 8) (n1 := 4) (n2 := 12288) (fun b => out0_3 (row (n0 := 8) (n1 := 85) (n2 := 12288) (V c main_v1) b) (V c main_cst)) t y

theorem arr0_4 (c : Dev nD) : (dat0 V c).arrAt 4 cfg0.N
    = ofRows (n0 := 8) (n1 := 1) (n2 := 12288) fun b => out0_4 (row (n0 := 8) (n1 := 85) (n2 := 12288) (V c main_v1) b) (V c main_cst) := by
  refine (dat0 V c).arrAt_eq_of_covers 4 _ (by decide +kernel) fun t hf y => ?_
  blk_simp
  rw [after0_4, iblk0_0_eq, iblk0_1_eq]
  rw [show (win0_4.blk t).view.emb y = ix3 (n0 := 8) (n1 := 1) (n2 := 12288) t (y 1) (y 2) from by blk_ext [index0_4]]
  exact ofRows_row (n0 := 8) (n1 := 1) (n2 := 12288) (fun b => out0_4 (row (n0 := 8) (n1 := 85) (n2 := 12288) (V c main_v1) b) (V c main_cst)) t y

end Arrays

end Cert.KernelIdeal.Value

end
-- ==== Proof.Region1.lean ====
/- The decoding call of level 1: what its three result arrays hold, entry by entry. -/
module

public import proofs.«01_k».proof.Proof.Regions
public import proofs.«01_k».proof.Proof.CellMath

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

section Arrays

variable {F : FTy → Type} [FloatOps F]
variable (V : (c : Dev nD) → (b : Ref sig .tc) → Buf (Elt F) ((c : Thread nD τ).loc b))

/-- Block `b` along the batch axis starts at row `b`. -/
theorem index1_0 : ∀ t : Fin cfg1.N, win1_0.index t = ![t.val, 0, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![t.val, 0, 0] := (by decide +kernel : ∀ t : Fin grid1.N, _)
theorem index1_3 : ∀ t : Fin cfg1.N, win1_3.index t = ![t.val, 0, 0] := (by decide +kernel : ∀ t : Fin grid1.N, _)
theorem index1_4 : ∀ t : Fin cfg1.N, win1_4.index t = ![t.val, 0, 0] := (by decide +kernel : ∀ t : Fin grid1.N, _)

/-- The call's blocks of its two operands. -/
theorem iblk1_0_eq (c : Dev nD) (t : Fin cfg1.N) : iblk1 V c 0 t = row (n0 := 8) (n1 := 85) (n2 := 3072) (V c main_v4) t := by
  funext y
  blk_simp [iblk1, row]
  exact congrArg (V c main_v4) (by blk_ext [index1_0])

theorem iblk1_1_eq (c : Dev nD) (t : Fin cfg1.N) : iblk1 V c 1 t = V c main_cst_0 := by
  funext y
  blk_simp [iblk1, row]
  exact congrArg (V c main_cst_0) (by blk_ext [index1_1])

theorem arr1_2 (c : Dev nD) : (dat1 V c).arrAt 2 cfg1.N
    = ofRows (n0 := 8) (n1 := 1) (n2 := 3072) fun b => out1_2 (row (n0 := 8) (n1 := 85) (n2 := 3072) (V c main_v4) b) (V c main_cst_0) := by
  refine (dat1 V c).arrAt_eq_of_covers 2 _ (by decide +kernel) fun t hf y => ?_
  blk_simp
  rw [after1_2, iblk1_0_eq, iblk1_1_eq]
  rw [show (win1_2.blk t).view.emb y = ix3 (n0 := 8) (n1 := 1) (n2 := 3072) t (y 1) (y 2) from by blk_ext [index1_2]]
  exact ofRows_row (n0 := 8) (n1 := 1) (n2 := 3072) (fun b => out1_2 (row (n0 := 8) (n1 := 85) (n2 := 3072) (V c main_v4) b) (V c main_cst_0)) t y

theorem arr1_3 (c : Dev nD) : (dat1 V c).arrAt 3 cfg1.N
    = ofRows (n0 := 8) (n1 := 4) (n2 := 3072) fun b => out1_3 (row (n0 := 8) (n1 := 85) (n2 := 3072) (V c main_v4) b) (V c main_cst_0) := by
  refine (dat1 V c).arrAt_eq_of_covers 3 _ (by decide +kernel) fun t hf y => ?_
  blk_simp
  rw [after1_3, iblk1_0_eq, iblk1_1_eq]
  rw [show (win1_3.blk t).view.emb y = ix3 (n0 := 8) (n1 := 4) (n2 := 3072) t (y 1) (y 2) from by blk_ext [index1_3]]
  exact ofRows_row (n0 := 8) (n1 := 4) (n2 := 3072) (fun b => out1_3 (row (n0 := 8) (n1 := 85) (n2 := 3072) (V c main_v4) b) (V c main_cst_0)) t y

theorem arr1_4 (c : Dev nD) : (dat1 V c).arrAt 4 cfg1.N
    = ofRows (n0 := 8) (n1 := 1) (n2 := 3072) fun b => out1_4 (row (n0 := 8) (n1 := 85) (n2 := 3072) (V c main_v4) b) (V c main_cst_0) := by
  refine (dat1 V c).arrAt_eq_of_covers 4 _ (by decide +kernel) fun t hf y => ?_
  blk_simp
  rw [after1_4, iblk1_0_eq, iblk1_1_eq]
  rw [show (win1_4.blk t).view.emb y = ix3 (n0 := 8) (n1 := 1) (n2 := 3072) t (y 1) (y 2) from by blk_ext [index1_4]]
  exact ofRows_row (n0 := 8) (n1 := 1) (n2 := 3072) (fun b => out1_4 (row (n0 := 8) (n1 := 85) (n2 := 3072) (V c main_v4) b) (V c main_cst_0)) t y

end Arrays

end Cert.KernelIdeal.Value

end
-- ==== Proof.Region2.lean ====
/- The decoding call of level 2: what its three result arrays hold, entry by entry. -/
module

public import proofs.«01_k».proof.Proof.Regions
public import proofs.«01_k».proof.Proof.CellMath

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

section Arrays

variable {F : FTy → Type} [FloatOps F]
variable (V : (c : Dev nD) → (b : Ref sig .tc) → Buf (Elt F) ((c : Thread nD τ).loc b))

/-- Block `b` along the batch axis starts at row `b`. -/
theorem index2_0 : ∀ t : Fin cfg2.N, win2_0.index t = ![t.val, 0, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![t.val, 0, 0] := (by decide +kernel : ∀ t : Fin grid2.N, _)
theorem index2_3 : ∀ t : Fin cfg2.N, win2_3.index t = ![t.val, 0, 0] := (by decide +kernel : ∀ t : Fin grid2.N, _)
theorem index2_4 : ∀ t : Fin cfg2.N, win2_4.index t = ![t.val, 0, 0] := (by decide +kernel : ∀ t : Fin grid2.N, _)

/-- The call's blocks of its two operands. -/
theorem iblk2_0_eq (c : Dev nD) (t : Fin cfg2.N) : iblk2 V c 0 t = row (n0 := 8) (n1 := 85) (n2 := 768) (V c main_v7) t := by
  funext y
  blk_simp [iblk2, row]
  exact congrArg (V c main_v7) (by blk_ext [index2_0])

theorem iblk2_1_eq (c : Dev nD) (t : Fin cfg2.N) : iblk2 V c 1 t = V c main_cst_1 := by
  funext y
  blk_simp [iblk2, row]
  exact congrArg (V c main_cst_1) (by blk_ext [index2_1])

theorem arr2_2 (c : Dev nD) : (dat2 V c).arrAt 2 cfg2.N
    = ofRows (n0 := 8) (n1 := 1) (n2 := 768) fun b => out2_2 (row (n0 := 8) (n1 := 85) (n2 := 768) (V c main_v7) b) (V c main_cst_1) := by
  refine (dat2 V c).arrAt_eq_of_covers 2 _ (by decide +kernel) fun t hf y => ?_
  blk_simp
  rw [after2_2, iblk2_0_eq, iblk2_1_eq]
  rw [show (win2_2.blk t).view.emb y = ix3 (n0 := 8) (n1 := 1) (n2 := 768) t (y 1) (y 2) from by blk_ext [index2_2]]
  exact ofRows_row (n0 := 8) (n1 := 1) (n2 := 768) (fun b => out2_2 (row (n0 := 8) (n1 := 85) (n2 := 768) (V c main_v7) b) (V c main_cst_1)) t y

theorem arr2_3 (c : Dev nD) : (dat2 V c).arrAt 3 cfg2.N
    = ofRows (n0 := 8) (n1 := 4) (n2 := 768) fun b => out2_3 (row (n0 := 8) (n1 := 85) (n2 := 768) (V c main_v7) b) (V c main_cst_1) := by
  refine (dat2 V c).arrAt_eq_of_covers 3 _ (by decide +kernel) fun t hf y => ?_
  blk_simp
  rw [after2_3, iblk2_0_eq, iblk2_1_eq]
  rw [show (win2_3.blk t).view.emb y = ix3 (n0 := 8) (n1 := 4) (n2 := 768) t (y 1) (y 2) from by blk_ext [index2_3]]
  exact ofRows_row (n0 := 8) (n1 := 4) (n2 := 768) (fun b => out2_3 (row (n0 := 8) (n1 := 85) (n2 := 768) (V c main_v7) b) (V c main_cst_1)) t y

theorem arr2_4 (c : Dev nD) : (dat2 V c).arrAt 4 cfg2.N
    = ofRows (n0 := 8) (n1 := 1) (n2 := 768) fun b => out2_4 (row (n0 := 8) (n1 := 85) (n2 := 768) (V c main_v7) b) (V c main_cst_1) := by
  refine (dat2 V c).arrAt_eq_of_covers 4 _ (by decide +kernel) fun t hf y => ?_
  blk_simp
  rw [after2_4, iblk2_0_eq, iblk2_1_eq]
  rw [show (win2_4.blk t).view.emb y = ix3 (n0 := 8) (n1 := 1) (n2 := 768) t (y 1) (y 2) from by blk_ext [index2_4]]
  exact ofRows_row (n0 := 8) (n1 := 1) (n2 := 768) (fun b => out2_4 (row (n0 := 8) (n1 := 85) (n2 := 768) (V c main_v7) b) (V c main_cst_1)) t y

end Arrays

end Cert.KernelIdeal.Value

end
-- ==== Proof.Block0.lean ====
/- One block of the decoding call of level 0: its scores, classes and boxes. -/
module

public import proofs.«01_k».proof.Proof.Regions
public import proofs.«01_k».proof.Proof.CellMath

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

/-- Channel by channel, anchor `p` of a block. -/
abbrev chan0 (x0 : S1x85x12288.Idx → EReal) (p : Fin 12288) : Fin 85 → EReal := fun ch => x0 (ix3 0 ch p)

/-- The block's scores. -/
theorem score0 (x0 : S1x85x12288.Idx → EReal) (x1 : S4x12288.Idx → EReal) (p : Fin 12288) :
    out0_2 (F := Ideal) x0 x1 (ix3 0 0 p) = Cell.score (chan0 x0 p) := by
  unfold out0_2
  rw [View.canon_unit_zero hz3]
  unfold_payloads
  pointwise []
  rfl

/-- The block's classes, as floats. -/
theorem class0 (x0 : S1x85x12288.Idx → EReal) (x1 : S4x12288.Idx → EReal) (p : Fin 12288) :
    out0_4 (F := Ideal) x0 x1 (ix3 0 0 p) = FloatOps.sitofp (F := Ideal) .f32 (BitVec.ofNat 32 (Cell.cls (chan0 x0 p))) := by
  rw [← Cell.fold_minsi]
  unfold out0_4
  rw [View.canon_unit_zero hz3]
  unfold_payloads
  pointwise []
  rfl

/-- The block's boxes. -/
theorem box0k (x0 : S1x85x12288.Idx → EReal) (x1 : S4x12288.Idx → EReal) (q : Fin 4) (p : Fin 12288) :
    out0_3 (F := Ideal) x0 x1 (ix3 0 q p)
      = Cell.kerBox 0x3F99999A#32 0x3DCCCCCD#32 0x3C800000#32 (chan0 x0 p) (x1 (ix2 0 p)) (x1 (ix2 1 p)) (x1 (ix2 2 p)) (x1 (ix2 3 p)) q := by
  unfold_out out0_3
  refine View.canon_apply_of_pieces (Val := Elt Ideal) (S := S1x4x12288) (e := .f32) (fun y : S1x4x12288.Idx => Cell.kerBox 0x3F99999A#32 0x3DCCCCCD#32 0x3C800000#32 (chan0 x0 (y 2))
    (x1 (ix2 0 (y 2))) (x1 (ix2 1 (y 2))) (x1 (ix2 2 (y 2))) (x1 (ix2 3 (y 2))) (y 1)) _ ?_ (ix3 0 q p) (cover0_3 _ _ _ _ _)
  simp only [List.forall_mem_cons]
  refine ⟨fun x => ?_, fun x => ?_, fun x => ?_, fun x => ?_, by simp⟩
  · rw [show r0_8.emb x = ix3 (n0 := 1) (n1 := 4) (n2 := 12288) 0 3 (x 2) from by blk_ext []]
    idx_vars x
    unfold_payloads
    pointwise []
    rfl
  · rw [show r0_7.emb x = ix3 (n0 := 1) (n1 := 4) (n2 := 12288) 0 2 (x 2) from by blk_ext []]
    idx_vars x
    unfold_payloads
    pointwise []
    rfl
  · rw [show r0_6.emb x = ix3 (n0 := 1) (n1 := 4) (n2 := 12288) 0 1 (x 2) from by blk_ext []]
    idx_vars x
    unfold_payloads
    pointwise []
    rfl
  · rw [show r0_5.emb x = ix3 (n0 := 1) (n1 := 4) (n2 := 12288) 0 0 (x 2) from by blk_ext []]
    idx_vars x
    unfold_payloads
    pointwise []
    rfl

end Cert.KernelIdeal.Value

end
-- ==== Proof.Block1.lean ====
/- One block of the decoding call of level 1: its scores, classes and boxes. -/
module

public import proofs.«01_k».proof.Proof.Regions
public import proofs.«01_k».proof.Proof.CellMath

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

/-- Channel by channel, anchor `p` of a block. -/
abbrev chan1 (x0 : S1x85x3072.Idx → EReal) (p : Fin 3072) : Fin 85 → EReal := fun ch => x0 (ix3 0 ch p)

/-- The block's scores. -/
theorem score1 (x0 : S1x85x3072.Idx → EReal) (x1 : S4x3072.Idx → EReal) (p : Fin 3072) :
    out1_2 (F := Ideal) x0 x1 (ix3 0 0 p) = Cell.score (chan1 x0 p) := by
  unfold out1_2
  rw [View.canon_unit_zero hz3]
  unfold_payloads
  pointwise []
  rfl

/-- The block's classes, as floats. -/
theorem class1 (x0 : S1x85x3072.Idx → EReal) (x1 : S4x3072.Idx → EReal) (p : Fin 3072) :
    out1_4 (F := Ideal) x0 x1 (ix3 0 0 p) = FloatOps.sitofp (F := Ideal) .f32 (BitVec.ofNat 32 (Cell.cls (chan1 x0 p))) := by
  rw [← Cell.fold_minsi]
  unfold out1_4
  rw [View.canon_unit_zero hz3]
  unfold_payloads
  pointwise []
  rfl

/-- The block's boxes. -/
theorem box1k (x0 : S1x85x3072.Idx → EReal) (x1 : S4x3072.Idx → EReal) (q : Fin 4) (p : Fin 3072) :
    out1_3 (F := Ideal) x0 x1 (ix3 0 q p)
      = Cell.kerBox 0x3F8CCCCD#32 0x3D4CCCCD#32 0x3D000000#32 (chan1 x0 p) (x1 (ix2 0 p)) (x1 (ix2 1 p)) (x1 (ix2 2 p)) (x1 (ix2 3 p)) q := by
  unfold_out out1_3
  refine View.canon_apply_of_pieces (Val := Elt Ideal) (S := S1x4x3072) (e := .f32) (fun y : S1x4x3072.Idx => Cell.kerBox 0x3F8CCCCD#32 0x3D4CCCCD#32 0x3D000000#32 (chan1 x0 (y 2))
    (x1 (ix2 0 (y 2))) (x1 (ix2 1 (y 2))) (x1 (ix2 2 (y 2))) (x1 (ix2 3 (y 2))) (y 1)) _ ?_ (ix3 0 q p) (cover1_3 _ _ _ _ _)
  simp only [List.forall_mem_cons]
  refine ⟨fun x => ?_, fun x => ?_, fun x => ?_, fun x => ?_, by simp⟩
  · rw [show r1_8.emb x = ix3 (n0 := 1) (n1 := 4) (n2 := 3072) 0 3 (x 2) from by blk_ext []]
    idx_vars x
    unfold_payloads
    pointwise []
    rfl
  · rw [show r1_7.emb x = ix3 (n0 := 1) (n1 := 4) (n2 := 3072) 0 2 (x 2) from by blk_ext []]
    idx_vars x
    unfold_payloads
    pointwise []
    rfl
  · rw [show r1_6.emb x = ix3 (n0 := 1) (n1 := 4) (n2 := 3072) 0 1 (x 2) from by blk_ext []]
    idx_vars x
    unfold_payloads
    pointwise []
    rfl
  · rw [show r1_5.emb x = ix3 (n0 := 1) (n1 := 4) (n2 := 3072) 0 0 (x 2) from by blk_ext []]
    idx_vars x
    unfold_payloads
    pointwise []
    rfl

end Cert.KernelIdeal.Value

end
-- ==== Proof.Block2.lean ====
/- One block of the decoding call of level 2: its scores, classes and boxes. -/
module

public import proofs.«01_k».proof.Proof.Regions
public import proofs.«01_k».proof.Proof.CellMath

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

/-- Channel by channel, anchor `p` of a block. -/
abbrev chan2 (x0 : S1x85x768.Idx → EReal) (p : Fin 768) : Fin 85 → EReal := fun ch => x0 (ix3 0 ch p)

/-- The block's scores. -/
theorem score2 (x0 : S1x85x768.Idx → EReal) (x1 : S4x768.Idx → EReal) (p : Fin 768) :
    out2_2 (F := Ideal) x0 x1 (ix3 0 0 p) = Cell.score (chan2 x0 p) := by
  unfold out2_2
  rw [View.canon_unit_zero hz3]
  unfold_payloads
  pointwise []
  rfl

/-- The block's classes, as floats. -/
theorem class2 (x0 : S1x85x768.Idx → EReal) (x1 : S4x768.Idx → EReal) (p : Fin 768) :
    out2_4 (F := Ideal) x0 x1 (ix3 0 0 p) = FloatOps.sitofp (F := Ideal) .f32 (BitVec.ofNat 32 (Cell.cls (chan2 x0 p))) := by
  rw [← Cell.fold_minsi]
  unfold out2_4
  rw [View.canon_unit_zero hz3]
  unfold_payloads
  pointwise []
  rfl

/-- The block's boxes. -/
theorem box2k (x0 : S1x85x768.Idx → EReal) (x1 : S4x768.Idx → EReal) (q : Fin 4) (p : Fin 768) :
    out2_3 (F := Ideal) x0 x1 (ix3 0 q p)
      = Cell.kerBox 0x3F866666#32 0x3CCCCCCD#32 0x3D800000#32 (chan2 x0 p) (x1 (ix2 0 p)) (x1 (ix2 1 p)) (x1 (ix2 2 p)) (x1 (ix2 3 p)) q := by
  unfold_out out2_3
  refine View.canon_apply_of_pieces (Val := Elt Ideal) (S := S1x4x768) (e := .f32) (fun y : S1x4x768.Idx => Cell.kerBox 0x3F866666#32 0x3CCCCCCD#32 0x3D800000#32 (chan2 x0 (y 2))
    (x1 (ix2 0 (y 2))) (x1 (ix2 1 (y 2))) (x1 (ix2 2 (y 2))) (x1 (ix2 3 (y 2))) (y 1)) _ ?_ (ix3 0 q p) (cover2_3 _ _ _ _ _)
  simp only [List.forall_mem_cons]
  refine ⟨fun x => ?_, fun x => ?_, fun x => ?_, fun x => ?_, by simp⟩
  · rw [show r2_8.emb x = ix3 (n0 := 1) (n1 := 4) (n2 := 768) 0 3 (x 2) from by blk_ext []]
    idx_vars x
    unfold_payloads
    pointwise []
    rfl
  · rw [show r2_7.emb x = ix3 (n0 := 1) (n1 := 4) (n2 := 768) 0 2 (x 2) from by blk_ext []]
    idx_vars x
    unfold_payloads
    pointwise []
    rfl
  · rw [show r2_6.emb x = ix3 (n0 := 1) (n1 := 4) (n2 := 768) 0 1 (x 2) from by blk_ext []]
    idx_vars x
    unfold_payloads
    pointwise []
    rfl
  · rw [show r2_5.emb x = ix3 (n0 := 1) (n1 := 4) (n2 := 768) 0 0 (x 2) from by blk_ext []]
    idx_vars x
    unfold_payloads
    pointwise []
    rfl

end Cert.KernelIdeal.Value

end
-- ==== Proof.KernelDecode.lean ====
/- What the kernel's three decoding calls leave, entry by entry, in terms of the arguments. -/
module

public import proofs.«01_k».proof.Proof.Region0
public import proofs.«01_k».proof.Proof.Region1
public import proofs.«01_k».proof.Proof.Region2
public import proofs.«01_k».proof.Proof.Block0
public import proofs.«01_k».proof.Proof.Block1
public import proofs.«01_k».proof.Proof.Block2
public import Idealize.ShloMosaic.Lib.StableHlo.ReadAt

@[expose] public section

set_option maxRecDepth 16384

noncomputable section

namespace Cert.KernelIdeal.Value

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The channels of an anchor at the three levels. -/
abbrev chn0 (c : Dev nD) (b : Fin 8) (p : Fin 12288) : Fin 85 → EReal := Cell.raw 64 192 12288 rfl rfl (m ((c : Thread nD τ).loc main_arg0)) b p
abbrev chn1 (c : Dev nD) (b : Fin 8) (p : Fin 3072) : Fin 85 → EReal := Cell.raw 32 96 3072 rfl rfl (m ((c : Thread nD τ).loc main_arg1)) b p
abbrev chn2 (c : Dev nD) (b : Fin 8) (p : Fin 768) : Fin 85 → EReal := Cell.raw 16 48 768 rfl rfl (m ((c : Thread nD τ).loc main_arg2)) b p

/-! ## What each call is handed -/

theorem in0 (c : Dev nD) (b : Fin 8) (ch : Fin 85) (p : Fin 12288) :
    (W1 m ρ c (Proc.devRef .tc main_v1) : S8x85x12288.Idx → EReal) (ix3 b ch p) = chn0 m c b p ch := by
  rw [show chn0 m c b p ch = Cell.raw 64 192 12288 rfl rfl (W0 m ρ c (Proc.devRef .tc main_arg0)) b p ch from rfl]
  after_reads_at
  rfl

theorem in1 (c : Dev nD) (b : Fin 8) (ch : Fin 85) (p : Fin 3072) :
    (W3 m ρ c (Proc.devRef .tc main_v4) : S8x85x3072.Idx → EReal) (ix3 b ch p) = chn1 m c b p ch := by
  rw [show chn1 m c b p ch = Cell.raw 32 96 3072 rfl rfl (W2 m ρ c (Proc.devRef .tc main_arg1)) b p ch from by rw [W2_args m ρ c main_arg1 (by decide)]]
  after_reads_at
  rfl

theorem in2 (c : Dev nD) (b : Fin 8) (ch : Fin 85) (p : Fin 768) :
    (W5 m ρ c (Proc.devRef .tc main_v7) : S8x85x768.Idx → EReal) (ix3 b ch p) = chn2 m c b p ch := by
  rw [show chn2 m c b p ch = Cell.raw 16 48 768 rfl rfl (W4 m ρ c (Proc.devRef .tc main_arg2)) b p ch from by rw [W4_args m ρ c main_arg2 (by decide)]]
  after_reads_at
  rfl

theorem tab0 (c : Dev nD) (q : Fin 4) (p : Fin 12288) :
    (W1 m ρ c (Proc.devRef .tc main_cst) : S4x12288.Idx → EReal) (ix2 q p) = Ideal.ofBits .f32 (lit0 (S4x12288.rowMajor (ix2 q p))) := by
  generalize W0 m ρ c = W
  after_reads_at

theorem tab1 (c : Dev nD) (q : Fin 4) (p : Fin 3072) :
    (W3 m ρ c (Proc.devRef .tc main_cst_0) : S4x3072.Idx → EReal) (ix2 q p) = Ideal.ofBits .f32 (lit1 (S4x3072.rowMajor (ix2 q p))) := by
  rw [W3_of m ρ c main_cst_0 (by decide), W2_of m ρ c main_cst_0 (by decide)]
  generalize W0 m ρ c = W
  after_reads_at

theorem tab2 (c : Dev nD) (q : Fin 4) (p : Fin 768) :
    (W5 m ρ c (Proc.devRef .tc main_cst_1) : S4x768.Idx → EReal) (ix2 q p) = Ideal.ofBits .f32 (lit2 (S4x768.rowMajor (ix2 q p))) := by
  rw [W5_of m ρ c main_cst_1 (by decide), W4_of m ρ c main_cst_1 (by decide), W3_of m ρ c main_cst_1 (by decide), W2_of m ρ c main_cst_1 (by decide)]
  generalize W0 m ρ c = W
  after_reads_at

/-! ## What each call leaves, read after the third of them -/

theorem keep6_0 (c : Dev nD) (r : Ref sig .tc) (h1 : r ∉ hostOps1_W) (h2 : ∀ w : Fin cfg1.W, Pipeline.arrRef spec1 w = r → (cfg1.win w).isOut = false)
    (h3 : r ∉ hostOps2_W) (h4 : ∀ w : Fin cfg2.W, Pipeline.arrRef spec2 w = r → (cfg2.win w).isOut = false) :
    W6 m ρ c (Proc.devRef .tc r) = W2 m ρ c (Proc.devRef .tc r) := by
  rw [W6_of m ρ c r h4, W5_of m ρ c r h3, W4_of m ρ c r h2, W3_of m ρ c r h1]

theorem keep6_1 (c : Dev nD) (r : Ref sig .tc)
    (h3 : r ∉ hostOps2_W) (h4 : ∀ w : Fin cfg2.W, Pipeline.arrRef spec2 w = r → (cfg2.win w).isOut = false) :
    W6 m ρ c (Proc.devRef .tc r) = W4 m ρ c (Proc.devRef .tc r) := by
  rw [W6_of m ρ c r h4, W5_of m ρ c r h3]

theorem s0 (c : Dev nD) (b : Fin 8) (p : Fin 12288) :
    (W6 m ρ c (Proc.devRef .tc main_v2_0) : S8x1x12288.Idx → EReal) (ix3 b 0 p) = Cell.score (chn0 m c b p) := by
  rw [keep6_0 m ρ c main_v2_0 (by decide) (by decide) (by decide) (by decide)]
  refine (congrFun ((W2_arr m ρ c 2).trans (arr0_2 (V1 m ρ) c)) (ix3 b 0 p)).trans ?_
  exact (score0 _ _ p).trans (congrArg Cell.score (funext fun ch => in0 m ρ c b ch p))

theorem k0 (c : Dev nD) (b : Fin 8) (p : Fin 12288) :
    (W6 m ρ c (Proc.devRef .tc main_v2_2) : S8x1x12288.Idx → EReal) (ix3 b 0 p)
      = FloatOps.sitofp (F := Ideal) .f32 (BitVec.ofNat 32 (Cell.cls (chn0 m c b p))) := by
  rw [keep6_0 m ρ c main_v2_2 (by decide) (by decide) (by decide) (by decide)]
  refine (congrFun ((W2_arr m ρ c 4).trans (arr0_4 (V1 m ρ) c)) (ix3 b 0 p)).trans ?_
  exact (class0 _ _ p).trans (congrArg (fun x => FloatOps.sitofp (F := Ideal) .f32 (BitVec.ofNat 32 (Cell.cls x : ℕ))) (funext fun ch => in0 m ρ c b ch p))

theorem b0 (c : Dev nD) (b : Fin 8) (q : Fin 4) (p : Fin 12288) :
    (W6 m ρ c (Proc.devRef .tc main_v2_1) : S8x4x12288.Idx → EReal) (ix3 b q p)
      = Cell.kerBox 0x3F99999A#32 0x3DCCCCCD#32 0x3C800000#32 (chn0 m c b p)
          (Ideal.ofBits .f32 (lit0 (S4x12288.rowMajor (ix2 0 p)))) (Ideal.ofBits .f32 (lit0 (S4x12288.rowMajor (ix2 1 p))))
          (Ideal.ofBits .f32 (lit0 (S4x12288.rowMajor (ix2 2 p)))) (Ideal.ofBits .f32 (lit0 (S4x12288.rowMajor (ix2 3 p)))) q := by
  rw [keep6_0 m ρ c main_v2_1 (by decide) (by decide) (by decide) (by decide)]
  refine (congrFun ((W2_arr m ρ c 3).trans (arr0_3 (V1 m ρ) c)) (ix3 b q p)).trans ?_
  refine (box0k (row (n0 := 8) (n1 := 85) (n2 := 12288) (V1 m ρ c main_v1) b) _ q p).trans ?_
  rw [show (chan0 (row (n0 := 8) (n1 := 85) (n2 := 12288) (V1 m ρ c main_v1) b) p) = chn0 m c b p from
      funext fun ch => in0 m ρ c b ch p]
  rw [← tab0 m ρ c 0 p, ← tab0 m ρ c 1 p, ← tab0 m ρ c 2 p, ← tab0 m ρ c 3 p]

theorem s1 (c : Dev nD) (b : Fin 8) (p : Fin 3072) :
    (W6 m ρ c (Proc.devRef .tc main_v5_0) : S8x1x3072.Idx → EReal) (ix3 b 0 p) = Cell.score (chn1 m c b p) := by
  rw [keep6_1 m ρ c main_v5_0 (by decide) (by decide)]
  refine (congrFun ((W4_arr m ρ c 2).trans (arr1_2 (V3 m ρ) c)) (ix3 b 0 p)).trans ?_
  exact (score1 _ _ p).trans (congrArg Cell.score (funext fun ch => in1 m ρ c b ch p))

theorem k1 (c : Dev nD) (b : Fin 8) (p : Fin 3072) :
    (W6 m ρ c (Proc.devRef .tc main_v5_2) : S8x1x3072.Idx → EReal) (ix3 b 0 p)
      = FloatOps.sitofp (F := Ideal) .f32 (BitVec.ofNat 32 (Cell.cls (chn1 m c b p))) := by
  rw [keep6_1 m ρ c main_v5_2 (by decide) (by decide)]
  refine (congrFun ((W4_arr m ρ c 4).trans (arr1_4 (V3 m ρ) c)) (ix3 b 0 p)).trans ?_
  exact (class1 _ _ p).trans (congrArg (fun x => FloatOps.sitofp (F := Ideal) .f32 (BitVec.ofNat 32 (Cell.cls x : ℕ))) (funext fun ch => in1 m ρ c b ch p))

theorem b1 (c : Dev nD) (b : Fin 8) (q : Fin 4) (p : Fin 3072) :
    (W6 m ρ c (Proc.devRef .tc main_v5_1) : S8x4x3072.Idx → EReal) (ix3 b q p)
      = Cell.kerBox 0x3F8CCCCD#32 0x3D4CCCCD#32 0x3D000000#32 (chn1 m c b p)
          (Ideal.ofBits .f32 (lit1 (S4x3072.rowMajor (ix2 0 p)))) (Ideal.ofBits .f32 (lit1 (S4x3072.rowMajor (ix2 1 p))))
          (Ideal.ofBits .f32 (lit1 (S4x3072.rowMajor (ix2 2 p)))) (Ideal.ofBits .f32 (lit1 (S4x3072.rowMajor (ix2 3 p)))) q := by
  rw [keep6_1 m ρ c main_v5_1 (by decide) (by decide)]
  refine (congrFun ((W4_arr m ρ c 3).trans (arr1_3 (V3 m ρ) c)) (ix3 b q p)).trans ?_
  refine (box1k (row (n0 := 8) (n1 := 85) (n2 := 3072) (V3 m ρ c main_v4) b) _ q p).trans ?_
  rw [show (chan1 (row (n0 := 8) (n1 := 85) (n2 := 3072) (V3 m ρ c main_v4) b) p) = chn1 m c b p from
      funext fun ch => in1 m ρ c b ch p]
  rw [← tab1 m ρ c 0 p, ← tab1 m ρ c 1 p, ← tab1 m ρ c 2 p, ← tab1 m ρ c 3 p]

theorem s2 (c : Dev nD) (b : Fin 8) (p : Fin 768) :
    (W6 m ρ c (Proc.devRef .tc main_v8_0) : S8x1x768.Idx → EReal) (ix3 b 0 p) = Cell.score (chn2 m c b p) := by
  refine (congrFun ((W6_arr m ρ c 2).trans (arr2_2 (V5 m ρ) c)) (ix3 b 0 p)).trans ?_
  exact (score2 _ _ p).trans (congrArg Cell.score (funext fun ch => in2 m ρ c b ch p))

theorem k2 (c : Dev nD) (b : Fin 8) (p : Fin 768) :
    (W6 m ρ c (Proc.devRef .tc main_v8_2) : S8x1x768.Idx → EReal) (ix3 b 0 p)
      = FloatOps.sitofp (F := Ideal) .f32 (BitVec.ofNat 32 (Cell.cls (chn2 m c b p))) := by
  refine (congrFun ((W6_arr m ρ c 4).trans (arr2_4 (V5 m ρ) c)) (ix3 b 0 p)).trans ?_
  exact (class2 _ _ p).trans (congrArg (fun x => FloatOps.sitofp (F := Ideal) .f32 (BitVec.ofNat 32 (Cell.cls x : ℕ))) (funext fun ch => in2 m ρ c b ch p))

theorem b2 (c : Dev nD) (b : Fin 8) (q : Fin 4) (p : Fin 768) :
    (W6 m ρ c (Proc.devRef .tc main_v8_1) : S8x4x768.Idx → EReal) (ix3 b q p)
      = Cell.kerBox 0x3F866666#32 0x3CCCCCCD#32 0x3D800000#32 (chn2 m c b p)
          (Ideal.ofBits .f32 (lit2 (S4x768.rowMajor (ix2 0 p)))) (Ideal.ofBits .f32 (lit2 (S4x768.rowMajor (ix2 1 p))))
          (Ideal.ofBits .f32 (lit2 (S4x768.rowMajor (ix2 2 p)))) (Ideal.ofBits .f32 (lit2 (S4x768.rowMajor (ix2 3 p)))) q := by
  refine (congrFun ((W6_arr m ρ c 3).trans (arr2_3 (V5 m ρ) c)) (ix3 b q p)).trans ?_
  refine (box2k (row (n0 := 8) (n1 := 85) (n2 := 768) (V5 m ρ c main_v7) b) _ q p).trans ?_
  rw [show (chan2 (row (n0 := 8) (n1 := 85) (n2 := 768) (V5 m ρ c main_v7) b) p) = chn2 m c b p from
      funext fun ch => in2 m ρ c b ch p]
  rw [← tab2 m ρ c 0 p, ← tab2 m ρ c 1 p, ← tab2 m ρ c 2 p, ← tab2 m ρ c 3 p]

end Cert.KernelIdeal.Value

end
-- ==== Proof.KernelAll.lean ====
/- The three levels together on the kernel's side: what its host joins before it selects. -/
module

public import proofs.«01_k».proof.Proof.KernelDecode

@[expose] public section

set_option maxRecDepth 16384

noncomputable section

namespace Cert.KernelIdeal.Value

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The channels of anchor `P` of all the levels together. -/
def chnAll (c : Dev nD) (b : Fin 8) (P : Fin 16128) : Fin 85 → EReal :=
  if h : P.val < 12288 then chn0 m c b ⟨P.val, h⟩
  else if h1 : P.val - 12288 < 3072 then chn1 m c b ⟨P.val - 12288, h1⟩
  else chn2 m c b ⟨P.val - 12288 - 3072, by omega⟩

/-- The kernel's box of anchor `P`. -/
def kBox (c : Dev nD) (b : Fin 8) (P : Fin 16128) (q : Fin 4) : EReal :=
  if h : P.val < 12288 then (W6 m ρ c (Proc.devRef .tc main_v2_1) : S8x4x12288.Idx → EReal) (ix3 b q ⟨P.val, h⟩)
  else if h1 : P.val - 12288 < 3072 then (W6 m ρ c (Proc.devRef .tc main_v5_1) : S8x4x3072.Idx → EReal) (ix3 b q ⟨P.val - 12288, h1⟩)
  else (W6 m ρ c (Proc.devRef .tc main_v8_1) : S8x4x768.Idx → EReal) (ix3 b q ⟨P.val - 12288 - 3072, by omega⟩)

theorem score_read (W : Valuation τ sig (Elt Ideal)) : (after hostOps3 W (Proc.devRef .tc main_v11) : S8x16384.Idx → EReal)
      = shapeCast S8x16384 (concatenate S8x1x16384 2 [⟨S8x1x12288, W (Proc.devRef .tc main_v2_0)⟩, ⟨S8x1x3072, W (Proc.devRef .tc main_v5_0)⟩,
          ⟨S8x1x768, W (Proc.devRef .tc main_v8_0)⟩, ⟨S8x1x256, broadcastInDim S8x1x256 ![] bcast_S_S8x1x256 (constant (F := Ideal) S_ .f32 0xBF800000#32)⟩]
          concatenates_S8x1x12288_S8x1x3072_S8x1x768_S8x1x256_S8x1x16384_d2) shapeCasts_S8x1x16384_S8x16384 := by
  after_reads_simp; rfl

theorem class_read (W : Valuation τ sig (Elt Ideal)) : (after hostOps3 W (Proc.devRef .tc main_v14) : S8x16128.Idx → EReal)
      = shapeCast S8x16128 (concatenate S8x1x16128 2 [⟨S8x1x12288, W (Proc.devRef .tc main_v2_2)⟩, ⟨S8x1x3072, W (Proc.devRef .tc main_v5_2)⟩,
          ⟨S8x1x768, W (Proc.devRef .tc main_v8_2)⟩]
          concatenates_S8x1x12288_S8x1x3072_S8x1x768_S8x1x16128_d2) shapeCasts_S8x1x16128_S8x16128 := by
  after_reads_simp; rfl

theorem box_read (W : Valuation τ sig (Elt Ideal)) : (after hostOps3 W (Proc.devRef .tc main_v15) : S8x16128x4.Idx → EReal)
      = transpose S8x16128x4 [0, 2, 1] (concatenate S8x4x16128 2 [⟨S8x4x12288, W (Proc.devRef .tc main_v2_1)⟩, ⟨S8x4x3072, W (Proc.devRef .tc main_v5_1)⟩,
          ⟨S8x4x768, W (Proc.devRef .tc main_v8_1)⟩]
          concatenates_S8x4x12288_S8x4x3072_S8x4x768_S8x4x16128_d2) transposes_S8x4x16128_S8x16128x4_0_2_1 := by
  after_reads_simp; rfl

/-- The joined scores, from the scores of each level. -/
theorem score_join (X0 : S8x1x12288.Idx → EReal) (X1 : S8x1x3072.Idx → EReal) (X2 : S8x1x768.Idx → EReal) (b : Fin 8) (P : Fin 16384) :
    shapeCast S8x16384 (concatenate S8x1x16384 2 [⟨S8x1x12288, X0⟩, ⟨S8x1x3072, X1⟩,
          ⟨S8x1x768, X2⟩, ⟨S8x1x256, broadcastInDim S8x1x256 ![] bcast_S_S8x1x256 (constant (F := Ideal) S_ .f32 0xBF800000#32)⟩]
          concatenates_S8x1x12288_S8x1x3072_S8x1x768_S8x1x256_S8x1x16384_d2) shapeCasts_S8x1x16384_S8x16384 (ix2 b P)
      = if h : P.val < 12288 then X0 (ix3 b 0 ⟨P.val, h⟩) else if h1 : P.val - 12288 < 3072 then X1 (ix3 b 0 ⟨P.val - 12288, h1⟩)
        else if h2 : P.val - 12288 - 3072 < 768 then X2 (ix3 b 0 ⟨P.val - 12288 - 3072, h2⟩) else Ideal.ofBits .f32 0xBF800000#32 := by
  pointwise []

theorem class_join (X0 : S8x1x12288.Idx → EReal) (X1 : S8x1x3072.Idx → EReal) (X2 : S8x1x768.Idx → EReal) (b : Fin 8) (P : Fin 16128) :
    shapeCast S8x16128 (concatenate S8x1x16128 2 [⟨S8x1x12288, X0⟩, ⟨S8x1x3072, X1⟩, ⟨S8x1x768, X2⟩]
          concatenates_S8x1x12288_S8x1x3072_S8x1x768_S8x1x16128_d2) shapeCasts_S8x1x16128_S8x16128 (ix2 b P)
      = if h : P.val < 12288 then X0 (ix3 b 0 ⟨P.val, h⟩) else if h1 : P.val - 12288 < 3072 then X1 (ix3 b 0 ⟨P.val - 12288, h1⟩)
        else X2 (ix3 b 0 ⟨P.val - 12288 - 3072, by omega⟩) := by
  pointwise []

theorem box_join (X0 : S8x4x12288.Idx → EReal) (X1 : S8x4x3072.Idx → EReal) (X2 : S8x4x768.Idx → EReal) (b : Fin 8) (P : Fin 16128) (q : Fin 4) :
    transpose S8x16128x4 [0, 2, 1] (concatenate S8x4x16128 2 [⟨S8x4x12288, X0⟩, ⟨S8x4x3072, X1⟩, ⟨S8x4x768, X2⟩]
          concatenates_S8x4x12288_S8x4x3072_S8x4x768_S8x4x16128_d2) transposes_S8x4x16128_S8x16128x4_0_2_1 (ix3 b P q)
      = if h : P.val < 12288 then X0 (ix3 b q ⟨P.val, h⟩) else if h1 : P.val - 12288 < 3072 then X1 (ix3 b q ⟨P.val - 12288, h1⟩)
        else X2 (ix3 b q ⟨P.val - 12288 - 3072, by omega⟩) := by
  pointwise []

/-- The kernel selects among the scores of all the anchors, -1 after them. -/
theorem all_score (c : Dev nD) (b : Fin 8) (P : Fin 16384) :
    (W7 m ρ c (Proc.devRef .tc main_v11) : S8x16384.Idx → EReal) (ix2 b P)
      = if h : P.val < 16128 then Cell.score (chnAll m c b ⟨P.val, h⟩) else Ideal.ofBits .f32 0xBF800000#32 := by
  refine (congrFun (score_read (W6 m ρ c)) (ix2 b P)).trans ((score_join _ _ _ b P).trans ?_)
  unfold chnAll
  split
  · rw [dif_pos (by omega)]
    exact s0 m ρ c b _
  · split
    · rw [dif_pos (by omega)]
      exact s1 m ρ c b _
    · split
      · rw [dif_pos (by omega)]
        exact s2 m ρ c b _
      · rw [dif_neg (by omega)]

theorem all_class (c : Dev nD) (b : Fin 8) (P : Fin 16128) :
    (W7 m ρ c (Proc.devRef .tc main_v14) : S8x16128.Idx → EReal) (ix2 b P)
      = FloatOps.sitofp (F := Ideal) .f32 (BitVec.ofNat 32 (Cell.cls (chnAll m c b P))) := by
  refine (congrFun (class_read (W6 m ρ c)) (ix2 b P)).trans ((class_join _ _ _ b P).trans ?_)
  unfold chnAll
  split
  · exact k0 m ρ c b _
  · split
    · exact k1 m ρ c b _
    · exact k2 m ρ c b _

theorem all_box (c : Dev nD) (b : Fin 8) (P : Fin 16128) (q : Fin 4) :
    (W7 m ρ c (Proc.devRef .tc main_v15) : S8x16128x4.Idx → EReal) (ix3 b P q) = kBox m ρ c b P q :=
  (congrFun (box_read (W6 m ρ c)) (ix3 b P q)).trans (box_join _ _ _ b P q)

end Cert.KernelIdeal.Value

end
-- ==== Proof.Order.lean ====
/- Sorting as ranks: where a stable descending sort takes its elements from, read off by counting who comes before. -/
module

public import Idealize.ShloMosaic.Lib.SortFacts
public import Idealize.ShloMosaic.Lib.SortPrefix
public import Mathlib.Data.EReal.Basic
public import Mathlib.Order.Interval.Finset.Fin

@[expose] public section

namespace Cert.Order

open Idealize.ShloMosaic

variable {α : Type} [LinearOrder α] {n : ℕ}

/-- `i` comes before `j`: a greater value, or the same value further left. -/
def Bef (x : Fin n → α) (i j : Fin n) : Prop := x j < x i ∨ (x i = x j ∧ i < j)

instance (x : Fin n → α) (i j : Fin n) : Decidable (Bef x i j) := by unfold Bef; infer_instance

/-- The position a stable descending sort of `x` takes its entry `k` from. -/
noncomputable def src (x : Fin n → α) : Fin n → Fin n := sortedFrom fun i j => decide (x j < x i)

theorem bef_total (x : Fin n → α) : StrictTotalBefore fun i j => decide (Bef x i j) where
  irrefl a := by simp [Bef]
  trans a b c h1 h2 := by
    simp only [decide_eq_true_eq] at h1 h2 ⊢
    unfold Bef at h1 h2 ⊢
    rcases h1 with h1 | ⟨h1, h1'⟩ <;> rcases h2 with h2 | ⟨h2, h2'⟩
    · exact Or.inl (h2.trans h1)
    · exact Or.inl (h2 ▸ h1)
    · exact Or.inl (h1 ▸ h2)
    · exact Or.inr ⟨h1.trans h2, h1'.trans h2'⟩
  total a b h := by
    simp only [decide_eq_true_eq]
    unfold Bef
    rcases lt_trichotomy (x a) (x b) with h1 | h1 | h1
    · exact Or.inr (Or.inl h1)
    · rcases lt_or_gt_of_ne h with h2 | h2
      · exact Or.inl (Or.inr ⟨h1, h2⟩)
      · exact Or.inr (Or.inr ⟨h1.symm, h2⟩)
    · exact Or.inl (Or.inl h1)

theorem stableSort_bef (x : Fin n → α) (l : List (Fin n)) (hl : l.Pairwise (· < ·)) :
    stableSort (fun i j => decide (x j < x i)) l = stableSort (fun i j => decide (Bef x i j)) l := by
  induction l with
  | nil => rfl
  | cons a l ih =>
    rw [List.pairwise_cons] at hl
    unfold stableSort
    rw [ih hl.2]
    refine insertBefore_congr _ _ a _ fun b hb => ?_
    have hb' : a < b := hl.1 b ((perm_stableSort _ l).mem_iff.mp hb)
    rw [decide_eq_decide]
    unfold Bef
    exact ⟨Or.inl, fun h => h.resolve_right fun h => absurd h.2 (not_lt.mpr hb'.le)⟩

theorem src_eq (x : Fin n → α) : src x = sortedFrom fun i j => decide (Bef x i j) := by
  funext k
  unfold src sortedFrom
  have h : sortPositions n (fun i j => decide (x j < x i)) = sortPositions n (fun i j => decide (Bef x i j)) :=
    stableSort_bef x _ (List.pairwise_lt_finRange n)
  rw [List.get_of_eq h]
  rfl

theorem src_injective (x : Fin n → α) : Function.Injective (src x) := sortedFrom_injective _
theorem src_surjective (x : Fin n → α) : Function.Surjective (src x) := sortedFrom_surjective _

theorem bef_src (x : Fin n → α) {p q : Fin n} (h : p < q) : Bef x (src x p) (src x q) := by
  have hT := bef_total x
  have h1 := sortedFrom_noInversion (fun i j => decide (Bef x i j)) (fun i j => decide (Bef x i j))
    (fun a b hab => hT.asymm a b hab) (fun _ _ hab => hab) hT.negTrans p q h
  rw [← src_eq] at h1
  rcases hT.total (src x p) (src x q) (fun e => h.ne (src_injective x e)) with h2 | h2
  · exact of_decide_eq_true h2
  · rw [h2] at h1; cases h1

theorem bef_src_iff (x : Fin n → α) {p q : Fin n} : Bef x (src x p) (src x q) ↔ p < q := by
  have hT := bef_total x
  refine ⟨fun h => ?_, bef_src x⟩
  by_contra hn
  rcases (not_lt.mp hn).lt_or_eq with h' | h'
  · have h2 := hT.asymm _ _ (decide_eq_true (bef_src x h'))
    rw [decide_eq_true h] at h2; cases h2
  · subst h'
    have := hT.irrefl (src x q)
    rw [decide_eq_true h] at this; cases this

/-- The sorted values descend. -/
theorem src_antitone (x : Fin n → α) : Antitone fun p => x (src x p) := by
  intro p q h
  rcases h.lt_or_eq with h | h
  · rcases bef_src x h with h | h
    · exact h.le
    · exact h.1.ge
  · subst h; exact le_rfl

/-- As many elements come before the one placed at `p` as `p` says. -/
theorem card_bef_src (x : Fin n → α) (p : Fin n) : (Finset.univ.filter fun i => Bef x i (src x p)).card = p.val := by
  have h : (Finset.univ.filter fun i => Bef x i (src x p)) = (Finset.univ.filter fun q : Fin n => q < p).map ⟨src x, src_injective x⟩ := by
    ext i
    obtain ⟨q, rfl⟩ := src_surjective x i
    simp [bef_src_iff, src_injective x |>.eq_iff]
  rw [h, Finset.card_map]
  have : (Finset.univ.filter fun q : Fin n => q < p) = Finset.Iio p := by ext; simp
  rw [this, Fin.card_Iio]

/-- … so counting who comes before an element says where the sort puts it. -/
theorem src_of_card (x : Fin n → α) (p j : Fin n) (h : (Finset.univ.filter fun i => Bef x i j).card = p.val) : src x p = j := by
  obtain ⟨q, rfl⟩ := src_surjective x j
  rw [card_bef_src] at h
  rw [Fin.ext h.symm]

/-- A descending sequence is sorted already. -/
theorem src_of_antitone (x : Fin n → α) (h : Antitone x) (p : Fin n) : src x p = p := by
  refine src_of_card x p p ?_
  have : (Finset.univ.filter fun i => Bef x i p) = Finset.Iio p := by
    ext i
    simp only [Finset.mem_filter, Finset.mem_univ, true_and, Finset.mem_Iio]
    unfold Bef
    refine ⟨?_, fun hi => ?_⟩
    · rintro (h1 | h1)
      · exact lt_of_not_ge fun h2 => absurd (h h2) (not_le.mpr h1)
      · exact h1.2
    · rcases (h hi.le).lt_or_eq with h1 | h1
      · exact Or.inl h1
      · exact Or.inr ⟨h1.symm, hi⟩
  rw [this, Fin.card_Iio]

/-- Values appended below all the others do not move the first entries. -/
theorem src_append {m : ℕ} (hm : n ≤ m) (x : Fin n → α) (y : Fin m → α) (hy : ∀ i : Fin n, y (i.castLE hm) = x i)
    (hlow : ∀ (i : Fin n) (j : Fin m), n ≤ j.val → y j < x i) (p : Fin n) : src y (p.castLE hm) = (src x p).castLE hm := by
  refine src_of_card y _ _ ?_
  rw [show ((p.castLE hm : Fin m) : ℕ) = p.val from rfl, ← card_bef_src x p]
  symm
  refine Finset.card_bij (fun i _ => i.castLE hm) ?_ ?_ ?_
  · intro i hi
    simp only [Finset.mem_filter, Finset.mem_univ, true_and] at hi ⊢
    unfold Bef at hi ⊢
    simp only [hy]
    exact hi
  · intro i _ j _ h; exact Fin.castLE_injective hm h
  · intro j hj
    simp only [Finset.mem_filter, Finset.mem_univ, true_and] at hj
    unfold Bef at hj
    rw [hy] at hj
    by_cases hj' : n ≤ j.val
    · have h1 := hlow (src x p) j hj'
      rcases hj with h2 | h2
      · exact absurd h1 (not_lt.mpr h2.le)
      · exact absurd h2.1 h1.ne
    · refine ⟨⟨j.val, by omega⟩, ?_, rfl⟩
      simp only [Finset.mem_filter, Finset.mem_univ, true_and]
      unfold Bef
      rw [← hy ⟨j.val, by omega⟩]
      exact hj

section Keep

variable [Zero α] (s : Fin n → α) (K : Fin n → Prop) [DecidablePred K]

/-- The kept values, the others zero. -/
def masked : Fin n → α := fun j => if K j then s j else 0

/-- How many are kept up to and including `j`. -/
def rank (j : Fin n) : ℕ := (Finset.univ.filter fun i => i ≤ j ∧ K i).card

variable {s K}

theorem bef_masked_iff (hs : Antitone s) (h0 : ∀ i, 0 ≤ s i) {j : Fin n} (hK : K j) (hj : 0 < s j) (i : Fin n) :
    Bef (masked s K) i j ↔ i < j ∧ K i := by
  unfold Bef masked
  rw [if_pos hK]
  by_cases hi : K i
  · rw [if_pos hi]
    constructor
    · rintro (h | h)
      · exact ⟨lt_of_not_ge fun h2 => absurd (hs h2) (not_le.mpr h), hi⟩
      · exact ⟨h.2, hi⟩
    · intro h
      rcases (hs h.1.le).lt_or_eq with h1 | h1
      · exact Or.inl h1
      · exact Or.inr ⟨h1.symm, h.1⟩
  · rw [if_neg hi]
    constructor
    · rintro (h | h)
      · exact absurd h (not_lt.mpr (h0 j))
      · exact absurd h.1 hj.ne
    · intro h; exact absurd h.2 hi

theorem rank_eq {j : Fin n} (hK : K j) : rank K j = (Finset.univ.filter fun i => i < j ∧ K i).card + 1 := by
  unfold rank
  have : (Finset.univ.filter fun i => i ≤ j ∧ K i) = insert j (Finset.univ.filter fun i => i < j ∧ K i) := by
    ext i
    simp only [Finset.mem_filter, Finset.mem_univ, true_and, Finset.mem_insert, le_iff_lt_or_eq]
    constructor
    · rintro ⟨h | h, h'⟩
      · exact Or.inr ⟨h, h'⟩
      · exact Or.inl h
    · rintro (h | h)
      · exact ⟨Or.inr h, h ▸ hK⟩
      · exact ⟨Or.inl h.1, h.2⟩
  rw [this, Finset.card_insert_of_notMem (by simp)]

/-- A kept positive value of rank `p + 1` is what the sort of the kept values puts at `p`. -/
theorem src_masked (hs : Antitone s) (h0 : ∀ i, 0 ≤ s i) {j p : Fin n} (hK : K j) (hj : 0 < s j) (hr : rank K j = p.val + 1) :
    src (masked s K) p = j := by
  refine src_of_card _ _ _ ?_
  rw [rank_eq hK] at hr
  simp only [bef_masked_iff hs h0 hK hj]
  omega

/-- Where the sort's entry `p` is positive, it comes from a kept value of rank `p + 1`. -/
theorem rank_src (hs : Antitone s) (h0 : ∀ i, 0 ≤ s i) {p : Fin n} (h : 0 < masked s K (src (masked s K) p)) :
    K (src (masked s K) p) ∧ 0 < s (src (masked s K) p) ∧ rank K (src (masked s K) p) = p.val + 1 := by
  have hK : K (src (masked s K) p) := by
    by_contra hn
    rw [show masked s K (src (masked s K) p) = 0 from if_neg hn] at h
    exact absurd h (lt_irrefl _)
  have hj : 0 < s (src (masked s K) p) := by
    rwa [show masked s K (src (masked s K) p) = s (src (masked s K) p) from if_pos hK] at h
  refine ⟨hK, hj, ?_⟩
  rw [rank_eq hK, ← card_bef_src (masked s K) p]
  congr 2
  ext i
  simp only [Finset.mem_filter, Finset.mem_univ, true_and, bef_masked_iff hs h0 hK hj]

end Keep

/-- Of the first `k` sorted entries as many are positive as are positive altogether, `k` at most. -/
theorem card_pos_src [Zero α] (x : Fin n → α) (k : ℕ) (hk : k ≤ n) :
    (Finset.univ.filter fun p : Fin k => 0 < x (src x (p.castLE hk))).card = min (Finset.univ.filter fun j => 0 < x j).card k := by
  have hinit : ∀ p : Fin n, 0 < x (src x p) ↔ p.val < (Finset.univ.filter fun j => 0 < x j).card := by
    have hc : (Finset.univ.filter fun j => 0 < x j).card = (Finset.univ.filter fun p => 0 < x (src x p)).card := by
      symm
      refine Finset.card_bij (fun p _ => src x p) (fun p hp => by simpa using hp) (fun p _ q _ h => src_injective x h) fun j hj => ?_
      obtain ⟨q, rfl⟩ := src_surjective x j
      exact ⟨q, by simpa using hj, rfl⟩
    intro p
    rw [hc]
    constructor
    · intro hp
      have : Finset.Iic p ⊆ Finset.univ.filter fun p => 0 < x (src x p) := fun q hq => by
        simp only [Finset.mem_filter, Finset.mem_univ, true_and]
        exact hp.trans_le (src_antitone x (Finset.mem_Iic.mp hq))
      have := Finset.card_le_card this
      rw [Fin.card_Iic] at this
      omega
    · intro hp
      by_contra hn
      have : (Finset.univ.filter fun p => 0 < x (src x p)) ⊆ Finset.Iio p := fun q hq => by
        simp only [Finset.mem_filter, Finset.mem_univ, true_and] at hq
        rw [Finset.mem_Iio]
        by_contra h2
        exact hn (hq.trans_le (src_antitone x (not_lt.mp h2)))
      have := Finset.card_le_card this
      rw [Fin.card_Iio] at this
      omega
  simp only [hinit, Fin.val_castLE]
  set c := (Finset.univ.filter fun j => 0 < x j).card
  rcases le_or_gt c k with h | h
  · rw [min_eq_left h]
    have : (Finset.univ.filter fun p : Fin k => p.val < c) = Finset.univ.map (Fin.castLEEmb h) := by
      ext p
      simp only [Finset.mem_filter, Finset.mem_univ, true_and, Finset.mem_map]
      exact ⟨fun hp => ⟨⟨p.val, hp⟩, rfl⟩, fun ⟨q, hq⟩ => hq ▸ q.isLt⟩
    rw [this, Finset.card_map, Finset.card_univ, Fintype.card_fin]
  · rw [min_eq_right h.le, Finset.filter_true_of_mem fun p _ => by omega, Finset.card_univ, Fintype.card_fin]

end Cert.Order

end
-- ==== Proof.Select.lean ====
/- The selections of the greatest and the sorting by decreasing score, as the ordering `Cert.Order.src` of each row. -/
module

public import proofs.«01_k».proof.Proof.Order
public import proofs.«01_k».proof.ReferenceIdeal
public import Idealize.ShloMosaic.Lib.Pointwise

@[expose] public section

noncomputable section

namespace Cert.Select

open Idealize.ShloMosaic Cert.Order

/-- Row `b` of an array of rows. -/
abbrev rowOf {α : Type} {A n : ℕ} (x : (⟨2, ![A, n]⟩ : Shape).Idx → α) (b : Fin A) : Fin n → α := fun P => x (ix2 b P)

theorem along2 {A n : ℕ} (b : Fin A) (i P : Fin n) : (ix2 b i : (⟨2, ![A, n]⟩ : Shape).Idx).along (1 : Fin 2) P = ix2 b P := by
  funext a
  match a with
  | ⟨0, _⟩ => rfl
  | ⟨1, _⟩ => rfl

theorem gt_word (a b : EReal) : ((FloatOps.cmpfTotal (F := Ideal) (φ := .f32) .gt a b) == 1#1) = decide (b < a) := by
  show (BitVec.ofBool (decide (b < a)) == 1#1) = _
  cases decide (b < a) <;> rfl

variable {A n k : ℕ}

/-- Row `b` of a stable sort by decreasing values. -/
theorem sort2_row {β : Type} (cmp : EReal × β → EReal × β → BitVec 1) (x : (⟨2, ![A, n]⟩ : Shape).Idx → EReal) (y : (⟨2, ![A, n]⟩ : Shape).Idx → β)
    (z : (⟨2, ![A, n]⟩ : Shape).Idx → EReal)
    (hc : ∀ b P Q, (cmp (x (ix2 b P), y (ix2 b P)) (x (ix2 b Q), y (ix2 b Q)) == 1#1) = decide (z (ix2 b Q) < z (ix2 b P))) (b : Fin A) (i : Fin n) :
    (Host.sort2 ⟨2, ![A, n]⟩ 1 cmp x y).1 (ix2 b i) = x (ix2 b (src (rowOf z b) i))
      ∧ (Host.sort2 ⟨2, ![A, n]⟩ 1 cmp x y).2 (ix2 b i) = y (ix2 b (src (rowOf z b) i)) := by
  have hd : 1 < (⟨2, ![A, n]⟩ : Shape).rank := Nat.one_lt_two
  have hπ : sortedFrom (fun k k' : Fin n => cmp (x ((ix2 b i : (⟨2, ![A, n]⟩ : Shape).Idx).along ⟨1, hd⟩ k), y ((ix2 b i : (⟨2, ![A, n]⟩ : Shape).Idx).along ⟨1, hd⟩ k))
      (x ((ix2 b i : (⟨2, ![A, n]⟩ : Shape).Idx).along ⟨1, hd⟩ k'), y ((ix2 b i : (⟨2, ![A, n]⟩ : Shape).Idx).along ⟨1, hd⟩ k')) == 1#1) = src (rowOf z b) := by
    unfold src
    congr 1
    funext P Q
    have e := along2 b i P
    have e' := along2 b i Q
    refine Eq.trans ?_ (hc b P Q)
    rw [← e, ← e']
    rfl
  unfold Host.sort2
  rw [dif_pos hd]
  exact ⟨congrArg x ((along2 b i _).trans (congrArg (fun f : Fin n → Fin n => ix2 b (f i)) hπ)),
    congrArg y ((along2 b i _).trans (congrArg (fun f : Fin n → Fin n => ix2 b (f i)) hπ))⟩

/-- The greatest `k` of each row. -/
theorem topK_row (x : (⟨2, ![A, n]⟩ : Shape).Idx → EReal) (h : (⟨2, ![A, n]⟩ : Shape).Slices (fun _ => 0) ⟨2, ![A, k]⟩) (hk : k ≤ n) (b : Fin A) (i : Fin k) :
    (Host.topK ⟨2, ![A, k]⟩ 1 (FloatOps.cmpfTotal (F := Ideal) (φ := .f32) .gt) x h).1 (ix2 b i) = x (ix2 b (src (rowOf x b) (i.castLE hk)))
      ∧ (Host.topK ⟨2, ![A, k]⟩ 1 (FloatOps.cmpfTotal (F := Ideal) (φ := .f32) .gt) x h).2 (ix2 b i) = BitVec.ofNat 32 (src (rowOf x b) (i.castLE hk)).val := by
  have e : ∀ {α : Type} (v : (⟨2, ![A, n]⟩ : Shape).Idx → α), extractStridedSlice ⟨2, ![A, k]⟩ (fun _ => 0) v h (ix2 b i) = v (ix2 b (i.castLE hk)) := by
    intro α v
    refine congrArg v (funext fun a => Fin.ext ?_)
    match a with
    | ⟨0, _⟩ => exact Nat.zero_add _
    | ⟨1, _⟩ => exact Nat.zero_add _
  unfold Host.topK
  have s := sort2_row (fun l r => FloatOps.cmpfTotal (F := Ideal) (φ := .f32) .gt l.1 r.1) x
    (fun i => if hd : 1 < (⟨2, ![A, n]⟩ : Shape).rank then iotaInDim ⟨2, ![A, n]⟩ 32 ⟨1, hd⟩ i else 0#32) x (fun b P Q => gt_word _ _) b (i.castLE hk)
  exact ⟨(e _).trans s.1, (e _).trans (s.2.trans rfl)⟩

/-- The comparison of a sort by increasing values. -/
theorem lt_word (l r : EReal × BitVec 32) : (Cert.ReferenceIdeal.comparator_f32_i32_d1 (F := Ideal) l r == 1#1) = decide (l.1 < r.1) := by
  have key : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have h1 : FloatOps.cmpf (F := Ideal) (φ := .f32) .une x x = 0#1 := by
      show BitVec.ofBool (decide (x ≠ x)) = _
      simp
    have h2 : (FloatOps.ofBits (F := Ideal) .f32 0x00000000#32 : EReal) = 0 := Ideal.ofBits_zero .f32
    have h3 : FloatOps.cmpf (F := Ideal) (φ := .f32) .oeq x (0 : EReal) = BitVec.ofBool (decide (x = 0)) := rfl
    rw [h1, h2, h3]
    by_cases h : x = 0
    · subst h
      simp [Scalar.select]
    · simp [Scalar.select, h]
  have e : Cert.ReferenceIdeal.comparator_f32_i32_d1 (F := Ideal) l r = FloatOps.cmpfTotal (F := Ideal) (φ := .f32) .lt l.1 r.1 := by
    refine Eq.trans (b := FloatOps.cmpfTotal (F := Ideal) (φ := .f32) .lt (Scalar.select _ _ (Scalar.select _ _ _)) (Scalar.select _ _ (Scalar.select _ _ _))) rfl ?_
    rw [key, key]
  rw [e]
  show (BitVec.ofBool (decide (l.1 < r.1)) == 1#1) = _
  cases decide (l.1 < r.1) <;> rfl

/-- Sorting the negated scores of rows already in order of decreasing score moves nothing. -/
theorem argsort_row (x : (⟨2, ![A, n]⟩ : Shape).Idx → EReal) (hx : ∀ b, Antitone (rowOf x b)) (b : Fin A) (i : Fin n) :
    (Host.sort2 ⟨2, ![A, n]⟩ 1 (Cert.ReferenceIdeal.comparator_f32_i32_d1 (F := Ideal)) (Host.negf (F := Ideal) (φ := .f32) x) (iotaInDim ⟨2, ![A, n]⟩ 32 1)).2 (ix2 b i) = BitVec.ofNat 32 i.val := by
  have s := (sort2_row (Cert.ReferenceIdeal.comparator_f32_i32_d1 (F := Ideal)) (Host.negf (F := Ideal) (φ := .f32) x) (iotaInDim ⟨2, ![A, n]⟩ 32 1) x
    (fun b P Q => by
      rw [lt_word]
      show decide (-(x (ix2 b P)) < -(x (ix2 b Q))) = _
      simp only [EReal.neg_lt_neg_iff]) b i).2
  rw [s, src_of_antitone _ (hx b)]
  rfl

end Cert.Select

end
-- ==== Proof.Take.lean ====
/- Taking along an axis by positions in range: the wrapping of negative positions and the check of the bounds do nothing, and
   the entry taken is the one named. -/
module

public import Idealize.ShloMosaic.PureOps
public import Idealize.ShloMosaic.Lib.Pointwise
public import Idealize.ShloMosaic.Lib.StableHlo.Predicate

@[expose] public section

namespace Cert.Take

open Idealize.ShloMosaic

/-- A position, the array's extent added to it when it is negative. -/
def wrap (n v : BitVec 32) : BitVec 32 := Scalar.select (IntOp.cmpi .slt v 0#32) (IntOp.addi v n) v

theorem wrap_ofNat (n v : BitVec 32) (k : ℕ) (hk : k < 2147483648) (hv : v = BitVec.ofNat 32 k) : wrap n v = BitVec.ofNat 32 k := by
  subst hv
  unfold wrap
  have e : IntOp.cmpi .slt (BitVec.ofNat 32 k) 0#32 = 0#1 := by
    show BitVec.ofBool ((BitVec.ofNat 32 k).slt 0#32) = _
    have : (BitVec.ofNat 32 k).slt 0#32 = false := by
      rw [BitVec.slt_eq_decide, StableHlo.Predicate.toInt_ofNat_small _ (by omega)]
      simp
    rw [this]; rfl
  rw [e]; rfl

theorem inside (v hi : BitVec 32) (k N : ℕ) (hk : k < N) (hN : N ≤ 2147483648) (hv : v = BitVec.ofNat 32 k) (hhi : hi = BitVec.ofNat 32 (N - 1)) :
    IntOp.andi (IntOp.cmpi .sge v 0#32) (IntOp.cmpi .sle v hi) = 1#1 := by
  subst hv hhi
  have e1 : IntOp.cmpi .sge (BitVec.ofNat 32 k) 0#32 = 1#1 := by
    show BitVec.ofBool ((0#32).sle (BitVec.ofNat 32 k)) = _
    have : (0#32).sle (BitVec.ofNat 32 k) = true := by
      rw [BitVec.sle_eq_decide, StableHlo.Predicate.toInt_ofNat_small k (by omega)]
      simp
    rw [this]; rfl
  have e2 : IntOp.cmpi .sle (BitVec.ofNat 32 k) (BitVec.ofNat 32 (N - 1)) = 1#1 := by
    show BitVec.ofBool ((BitVec.ofNat 32 k).sle (BitVec.ofNat 32 (N - 1))) = _
    have : (BitVec.ofNat 32 k).sle (BitVec.ofNat 32 (N - 1)) = true := by
      rw [BitVec.sle_eq_decide, StableHlo.Predicate.toInt_ofNat_small _ (by omega), StableHlo.Predicate.toInt_ofNat_small _ (by omega)]
      simp; omega
    rw [this]; rfl
  rw [e1, e2]; rfl

/-- The bounds' check over the one component of a position. -/
theorem bounds (n hi : BitVec 32) (w : Fin 1 → BitVec 32) (k N : ℕ) (hk : k < N) (hN : N ≤ 2147483648) (hv : w 0 = BitVec.ofNat 32 k)
    (hhi : hi = BitVec.ofNat 32 (N - 1)) :
    Finset.fold IntOp.andi (1#1) (fun x => IntOp.andi (IntOp.cmpi .sge (wrap n (w x)) 0#32) (IntOp.cmpi .sle (wrap n (w x)) hi)) Finset.univ = 1#1 := by
  have e : (fun x => IntOp.andi (IntOp.cmpi .sge (wrap n (w x)) 0#32) (IntOp.cmpi .sle (wrap n (w x)) hi)) = fun _ : Fin 1 => 1#1 := by
    funext x
    rw [Subsingleton.elim x 0]
    exact inside _ hi k N hk hN (wrap_ofNat n _ k (by omega) hv) hhi
  rw [e]
  rfl

/-- Taking along the second of two axes, a batch axis before it. -/
abbrev dims2 (A N K : ℕ) (wf : GatherDims.WF ⟨2, ![A, N]⟩ ⟨3, ![A, K, 1]⟩ ⟨2, ![A, K]⟩ [] [1] [0] [1] [0] 2 ![1, 1]) :
    GatherDims ⟨2, ![A, N]⟩ ⟨3, ![A, K, 1]⟩ ⟨2, ![A, K]⟩ where
  offsetDims := []
  collapsedSliceDims := [1]
  operandBatchingDims := [0]
  startIndicesBatchingDims := [0]
  startIndexMap := [1]
  indexVectorDim := 2
  sliceSizes := ![1, 1]
  wf := wf

/-- Taking rows of `Q` along the second of three axes, a batch axis before it. -/
abbrev dims3 (A N K Q : ℕ) (wf : GatherDims.WF ⟨3, ![A, N, Q]⟩ ⟨3, ![A, K, 1]⟩ ⟨3, ![A, K, Q]⟩ [2] [1] [0] [1] [0] 2 ![1, 1, Q]) :
    GatherDims ⟨3, ![A, N, Q]⟩ ⟨3, ![A, K, 1]⟩ ⟨3, ![A, K, Q]⟩ where
  offsetDims := [2]
  collapsedSliceDims := [1]
  operandBatchingDims := [0]
  startIndicesBatchingDims := [0]
  startIndexMap := [1]
  indexVectorDim := 2
  sliceSizes := ![1, 1, Q]
  wf := wf

variable {α : Type}

theorem gather2 {A N K : ℕ} (wf) (x : (⟨2, ![A, N]⟩ : Shape).Idx → α) (idx : IVec ⟨3, ![A, K, 1]⟩ 32) (b : Fin A) (i : Fin K) (k : Fin N)
    (hN : N ≤ 2147483648) (h : idx (ix3 b i 0) = BitVec.ofNat 32 k.val) : Host.gather (dims2 A N K wf) x idx (ix2 b i) = x (ix2 b k) := by
  unfold Host.gather
  congr 1
  funext a
  refine Fin.ext ?_
  show (dims2 A N K wf).start _ idx a + (dims2 A N K wf).batchCoord _ a + (dims2 A N K wf).offCoord _ a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | ⟨1, _⟩ =>
    rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (dims2 A N K wf).startIndexMap from List.mem_singleton.mpr rfl)]
    have hsi : (dims2 A N K wf).siIdx (ix2 b i) ⟨List.idxOf (⟨1, by decide⟩ : Fin 2) (dims2 A N K wf).startIndexMap,
        List.idxOf_lt_length_iff.2 (List.mem_singleton.mpr rfl)⟩ = ix3 b i 0 := by
      funext c; refine Fin.ext ?_
      match c with
      | ⟨0, _⟩ => rfl
      | ⟨1, _⟩ => rfl
      | ⟨2, _⟩ => rfl
    rw [hsi, h, StableHlo.Predicate.toInt_ofNat_small _ (by have := k.isLt; omega)]
    have hk := k.isLt
    show min (k.val : ℤ).toNat (N - 1) = k.val
    omega

theorem gather3 {A N K Q : ℕ} (wf) (x : (⟨3, ![A, N, Q]⟩ : Shape).Idx → α) (idx : IVec ⟨3, ![A, K, 1]⟩ 32) (b : Fin A) (i : Fin K) (q : Fin Q) (k : Fin N)
    (hN : N ≤ 2147483648) (h : idx (ix3 b i 0) = BitVec.ofNat 32 k.val) : Host.gather (dims3 A N K Q wf) x idx (ix3 b i q) = x (ix3 b k q) := by
  unfold Host.gather
  congr 1
  funext a
  refine Fin.ext ?_
  show (dims3 A N K Q wf).start _ idx a + (dims3 A N K Q wf).batchCoord _ a + (dims3 A N K Q wf).offCoord _ a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero]
    rfl
  | ⟨1, _⟩ =>
    rw [GatherDims.batchCoord_eq_zero _ _ _ (by simp),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 3) ∈ (dims3 A N K Q wf).startIndexMap from List.mem_singleton.mpr rfl)]
    have hsi : (dims3 A N K Q wf).siIdx (ix3 b i q) ⟨List.idxOf (⟨1, by decide⟩ : Fin 3) (dims3 A N K Q wf).startIndexMap,
        List.idxOf_lt_length_iff.2 (List.mem_singleton.mpr rfl)⟩ = ix3 b i 0 := by
      funext c; refine Fin.ext ?_
      match c with
      | ⟨0, _⟩ => rfl
      | ⟨1, _⟩ => rfl
      | ⟨2, _⟩ => rfl
    rw [hsi, h, StableHlo.Predicate.toInt_ofNat_small _ (by have := k.isLt; omega)]
    have hk := k.isLt
    show min (k.val : ℤ).toNat (N - 1) = k.val
    omega
  | ⟨2, _⟩ =>
    rw [GatherDims.batchCoord_eq_zero _ _ _ (by simp)]
    unfold GatherDims.start
    rw [dif_neg (by simp)]
    simp only [Nat.zero_add]
    rfl

/-- Taking along the second of two axes by a position in range. -/
theorem take2 {A N K : ℕ} (wf) (x : (⟨2, ![A, N]⟩ : Shape).Idx → α) (idx : IVec ⟨3, ![A, K, 1]⟩ 32) (F : α) (n hi : BitVec 32) (w : Fin 1 → BitVec 32)
    (b : Fin A) (i : Fin K) (k : Fin N) (hN : N ≤ 2147483648) (hhi : hi = BitVec.ofNat 32 (N - 1)) (hw : w 0 = BitVec.ofNat 32 k.val)
    (hidx : idx (ix3 b i 0) = wrap n (w 0)) :
    Scalar.select (Finset.fold IntOp.andi (1#1) (fun x => IntOp.andi (IntOp.cmpi .sge (wrap n (w x)) 0#32) (IntOp.cmpi .sle (wrap n (w x)) hi)) Finset.univ)
      (Host.gather (dims2 A N K wf) x idx (ix2 b i)) F = x (ix2 b k) := by
  have hk := k.isLt
  rw [bounds n hi w k.val N hk hN hw hhi, gather2 wf x idx b i k hN (hidx.trans (wrap_ofNat n _ k.val (by omega) hw))]
  rfl

/-- Taking rows along the second of three axes by a position in range. -/
theorem take3 {A N K Q : ℕ} (wf) (x : (⟨3, ![A, N, Q]⟩ : Shape).Idx → α) (idx : IVec ⟨3, ![A, K, 1]⟩ 32) (F : α) (n hi : BitVec 32) (w : Fin 1 → BitVec 32)
    (b : Fin A) (i : Fin K) (q : Fin Q) (k : Fin N) (hN : N ≤ 2147483648) (hhi : hi = BitVec.ofNat 32 (N - 1)) (hw : w 0 = BitVec.ofNat 32 k.val)
    (hidx : idx (ix3 b i 0) = wrap n (w 0)) :
    Scalar.select (Finset.fold IntOp.andi (1#1) (fun x => IntOp.andi (IntOp.cmpi .sge (wrap n (w x)) 0#32) (IntOp.cmpi .sle (wrap n (w x)) hi)) Finset.univ)
      (Host.gather (dims3 A N K Q wf) x idx (ix3 b i q)) F = x (ix3 b k q) := by
  have hk := k.isLt
  rw [bounds n hi w k.val N hk hN hw hhi, gather3 wf x idx b i q k hN (hidx.trans (wrap_ofNat n _ k.val (by omega) hw))]
  rfl

end Cert.Take
-- ==== Proof.Words.lean ====
/- What the float words of the grid tables denote: dyadic rationals, checked word by word. -/
module

public import proofs.«01_k».proof.Proof.Cell

@[expose] public section

noncomputable section

namespace Cert.Words

open Idealize.ShloMosaic

/-- The word `b` is the float `n / 2 ^ k`. -/
def IsDyadic (b : BitVec 32) (n k : ℕ) : Prop :=
  (b = 0#32 ∧ n = 0) ∨ ((b.extractLsb' 31 1).toNat = 0 ∧ 0 < (b.extractLsb' 23 8).toNat ∧ (b.extractLsb' 23 8).toNat < 255
    ∧ (2 ^ 23 + (b.extractLsb' 0 23).toNat) * 2 ^ (b.extractLsb' 23 8).toNat * 2 ^ k = n * 2 ^ 150)

instance (b : BitVec 32) (n k : ℕ) : Decidable (IsDyadic b n k) := inferInstanceAs (Decidable (_ ∨ _))

theorem IsDyadic.value {b : BitVec 32} {n k : ℕ} (h : IsDyadic b n k) : Ideal.ofBits .f32 b = (((n : ℝ) / 2 ^ k : ℝ) : EReal) := by
  rcases h with ⟨rfl, rfl⟩ | ⟨hs, h0, h1, h⟩
  · simp [Ideal.ofBits, Ideal.ieee]
  · have hneg : ((b.extractLsb' 31 1) == 1#1) = false := by
      have : b.extractLsb' 31 1 = 0#1 := BitVec.eq_of_toNat_eq hs
      rw [this]; rfl
    show Ideal.ieee 8 23 b = _
    unfold Ideal.ieee
    rw [show 8 + 23 = 31 from rfl, hneg]
    generalize (b.extractLsb' 23 8).toNat = ex at *
    generalize (b.extractLsb' 0 23).toNat = fr at *
    dsimp only
    rw [if_neg (by omega), if_neg (by omega)]
    congr 1
    have hr : ((2 : ℝ) ^ 23 + fr) * 2 ^ ex * 2 ^ k = n * 2 ^ 150 := by exact_mod_cast h
    have e : (2 : ℝ) ^ ((ex : ℤ) - (2 ^ (8 - 1) - 1) - (23 : ℕ)) = 2 ^ ex / 2 ^ 150 := by
      rw [show ((ex : ℤ) - (2 ^ (8 - 1) - 1) - (23 : ℕ)) = (ex : ℤ) - (150 : ℕ) from by norm_num; ring, zpow_sub₀ (by norm_num), zpow_natCast, zpow_natCast]
    rw [e]
    push_cast
    simp only [Bool.false_eq_true, if_false, one_mul]
    rw [eq_div_iff (by positivity)]
    field_simp
    linarith

/-- `f n`, the number looked at first. -/
def look {α : Type} (n : ℕ) (f : ℕ → α) : α := match n with | 0 => f 0 | k + 1 => f (k + 1)

theorem look_eq {α : Type} (n : ℕ) (f : ℕ → α) : look n f = f n := by cases n <;> rfl

/-- `f` holds below `n`. -/
def below (n : ℕ) (f : ℕ → Bool) : Bool := Nat.rec true (fun k r => f k && r) n

theorem of_below {n : ℕ} {f : ℕ → Bool} (h : below n f = true) {k : ℕ} (hk : k < n) : f k = true := by
  induction n with
  | zero => omega
  | succ n ih =>
    have h' : (f n && below n f) = true := h
    rw [Bool.and_eq_true] at h'
    rcases Nat.lt_succ_iff_lt_or_eq.mp hk with h1 | h1
    · exact ih h'.2 h1
    · rw [h1]; exact h'.1

/-- `IsDyadic`, on the word's number. -/
def dyadic (b n k : ℕ) : Bool :=
  look (b / 2 ^ 23) fun ex => (Nat.beq b 0 && Nat.beq n 0)
    || (Nat.ble 1 ex && (Nat.ble ex 254 && Nat.beq ((2 ^ 23 + b % 2 ^ 23) * 2 ^ ex * 2 ^ k) (n * 2 ^ 150)))

theorem IsDyadic.of_dyadic {b : BitVec 32} {n k : ℕ} (h : dyadic b.toNat n k = true) : IsDyadic b n k := by
  unfold dyadic at h
  rw [look_eq] at h
  simp only [Bool.or_eq_true, Bool.and_eq_true, Nat.beq_eq, Nat.ble_eq] at h
  rcases h with ⟨h0, hn⟩ | ⟨h1, h2, h3⟩
  · exact Or.inl ⟨BitVec.eq_of_toNat_eq h0, hn⟩
  · have hb : b.toNat < 2 ^ 31 := by omega
    have e1 : (b.extractLsb' 31 1).toNat = 0 := by
      rw [BitVec.extractLsb'_toNat, Nat.shiftRight_eq_div_pow]; omega
    have e2 : (b.extractLsb' 23 8).toNat = b.toNat / 2 ^ 23 := by
      rw [BitVec.extractLsb'_toNat, Nat.shiftRight_eq_div_pow]; omega
    have e3 : (b.extractLsb' 0 23).toNat = b.toNat % 2 ^ 23 := by
      rw [BitVec.extractLsb'_toNat, Nat.shiftRight_eq_div_pow]; omega
    right
    rw [e1, e2, e3]
    exact ⟨rfl, by omega, by omega, h3⟩

/-- The first `n` words from `off` on are the floats `v p / 2 ^ k`. -/
def run (t : ℕ → BitVec 32) (off n k : ℕ) (v : ℕ → ℕ) : Bool :=
  below n fun p => look (off + p) fun a => look (t a).toNat fun b => dyadic b (v p) k

theorem of_run {t : ℕ → BitVec 32} {off n k : ℕ} {v : ℕ → ℕ} (h : run t off n k v = true) {p : ℕ} (hp : p < n) : IsDyadic (t (off + p)) (v p) k := by
  have := of_below h hp
  rw [look_eq, look_eq] at this
  exact .of_dyadic this

end Cert.Words

end
-- ==== Proof.BoxMath.lean ====
/- A box whose sizes are divided as they are met is the box whose tables were divided beforehand. -/
module

public import proofs.«01_k».proof.Proof.Words
public import proofs.«01_k».proof.Proof.CellMath

@[expose] public section

noncomputable section

namespace Cert.Cell

open Idealize.ShloMosaic Cert.Words

theorem sitofp_small (n : ℕ) (h : n < 2147483648) : FloatOps.sitofp (F := Ideal) .f32 (BitVec.ofNat 32 n) = ((n : ℝ) : EReal) := by
  show (((BitVec.ofNat 32 n).toInt : ℝ) : EReal) = _
  rw [toInt_small n h]; norm_cast

/-- Both boxes agree when the words denote what they should: `sz` the grid's size `2 ^ s`, `inv` its reciprocal, `str` the stride,
    the two together 512; `b0`, `b1` the cell's place, `b2`, `b3` the anchor's sizes over 512. -/
theorem refBox_eq_kerBox (xy off sz str inv a0 a1 b0 b1 b2 b3 : BitVec 32) (x : Fin 85 → EReal) (gx gy s T A0 A1 : ℕ)
    (hsz : IsDyadic sz (2 ^ s) 0) (hinv : IsDyadic inv 1 s) (hstr : IsDyadic str T 0) (hT : 2 ^ s * T = 512)
    (h0 : IsDyadic a0 A0 0) (h1 : IsDyadic a1 A1 0) (hx : gx < 2147483648) (hy : gy < 2147483648)
    (g0 : IsDyadic b0 gx 0) (g1 : IsDyadic b1 gy 0) (g2 : IsDyadic b2 A0 9) (g3 : IsDyadic b3 A1 9) :
    refBox xy off sz str x gx gy a0 a1
      = kerBox xy off inv x (Ideal.ofBits .f32 b0) (Ideal.ofBits .f32 b1) (Ideal.ofBits .f32 b2) (Ideal.ofBits .f32 b3) := by
  have h2 : IsDyadic 0x40000000#32 2 0 := by decide
  have hh : IsDyadic 0x3F000000#32 1 1 := by decide
  unfold refBox kerBox
  simp only [hsz.value, hinv.value, hstr.value, h0.value, h1.value, g0.value, g1.value, g2.value, g3.value, h2.value, hh.value,
    sitofp_small gx hx, sitofp_small gy hy, pow_zero, div_one]
  have hT0 : (T : ℝ) ≠ 0 := by
    intro h; have : T = 0 := by exact_mod_cast h
    subst this; omega
  have hs0 : ((2 ^ s : ℕ) : ℝ) ≠ 0 := by positivity
  have two0 : ((2 : ℕ) : ℝ) ≠ 0 := by norm_num
  have hTr : (2 : ℝ) ^ s * T = 512 := by exact_mod_cast hT
  have e : ∀ A : ℕ, (A : ℝ) * (1 / (T : ℝ)) * (1 / ((2 ^ s : ℕ) : ℝ)) = (A : ℝ) / 2 ^ 9 := by
    intro A
    rw [show (2 : ℝ) ^ 9 = 2 ^ s * T from by rw [hTr]; norm_num]
    push_cast
    field_simp
  simp only [Ideal.div_coe hT0, Ideal.div_coe hs0, Ideal.div_coe two0, mul_assoc, ← EReal.coe_mul]
  simp only [← mul_assoc, e]
  push_cast
  norm_num

end Cert.Cell

end
-- ==== Proof.Prefix.lean ====
/- Running counts by ten shifted additions. -/
module

public import proofs.«01_k».proof.Proof.NmsBlock
public import proofs.«01_k».proof.Proof.BoxMath
public import Idealize.ShloMosaic.Lib.Pointwise

@[expose] public section

set_option maxRecDepth 16384

noncomputable section

namespace Cert.Nms

open Idealize.ShloMosaic

/-- The sum of the last `w` values up to `j`. -/
def window (g : ℕ → EReal) (w j : ℕ) : EReal := ∑ i ∈ Finset.range w, if i ≤ j then g (j - i) else 0

/-- Adding the same sums shifted by their width doubles the width. -/
theorem window_double (g : ℕ → EReal) (w j : ℕ) : window g w j + (if j < w then 0 else window g w (j - w)) = window g (w + w) j := by
  unfold window
  rw [Finset.sum_range_add]
  congr 1
  split
  · refine (Finset.sum_eq_zero fun i _ => ?_).symm
    rw [if_neg (by omega)]
  · refine Finset.sum_congr rfl fun i _ => ?_
    by_cases h : i ≤ j - w
    · rw [if_pos h, if_pos (by omega), Nat.sub_sub]
    · rw [if_neg h, if_neg (by omega)]

theorem window_one (g : ℕ → EReal) (j : ℕ) : window g 1 j = g j := by simp [window]

theorem window_all (g : ℕ → EReal) (w j : ℕ) (h : j < w) : window g w j = ∑ i ∈ Finset.range (j + 1), g i := by
  unfold window
  rw [← Finset.sum_filter, ← Finset.sum_range_reflect]
  refine Finset.sum_congr ?_ fun i hi => ?_
  · ext i
    simp only [Finset.mem_filter, Finset.mem_range]
    omega
  · rw [Nat.add_sub_cancel]

theorem sum_count (K : ℕ → Prop) [DecidablePred K] (n : ℕ) : (∑ i ∈ Finset.range n, if K i then (1 : EReal) else 0)
    = (((((Finset.range n).filter K).card : ℕ) : ℝ) : EReal) := by
  induction n with
  | zero => simp
  | succ n ih =>
    rw [Finset.sum_range_succ, ih, Finset.range_add_one, Finset.filter_insert]
    split
    · rw [Finset.card_insert_of_notMem (by simp), Nat.cast_add, EReal.coe_add, Nat.cast_one, EReal.coe_one]
    · rw [add_zero]

end Cert.Nms

namespace Cert.KernelIdeal.Value

open Cert.KernelIdeal Cert.KernelIdeal.Gen
open Idealize.ShloMosaic Idealize.ShloMosaic.TcCoe

/-- A row of lanes plus itself moved `d` lanes to the right. -/
def moved (d : ℕ) (X : FVec Ideal S1x1024 .f32) : FVec Ideal S1x1024 .f32 := fun x =>
  X x + if h : (x 1).val < d then 0 else X (ix2 0 ⟨(x 1).val - d, lt_of_le_of_lt (Nat.sub_le _ _) (x 1).isLt⟩)

theorem moved_eq {d e : ℕ} (X : FVec Ideal S1x1024 .f32) (hs : S1x1024.Slices ![0, 0] ⟨2, ![1, e]⟩)
    (hc : Shape.Concatenates [(⟨2, ![1, d]⟩ : Shape), ⟨2, ![1, e]⟩] S1x1024 1) :
    addf X (concatenate S1x1024 1 [⟨⟨2, ![1, d]⟩, broadcast (⟨2, ![1, d]⟩ : Shape) (Scalar.ofBits (F := Ideal) .f32 0x00000000#32)⟩,
      ⟨⟨2, ![1, e]⟩, extractStridedSlice ⟨2, ![1, e]⟩ ![0, 0] X hs⟩] hc) = moved d X := by
  funext x
  unfold moved
  refine congrArg (X x + ·) ((concatenate_pair_apply _ _ _ hc x).trans ?_)
  have hz : (Scalar.ofBits (F := Ideal) .f32 0x00000000#32 : EReal) = 0 := Ideal.ofBits_zero .f32
  split
  · rename_i h
    rw [dif_pos (show (x 1).val < d from h)]
    exact hz
  · rename_i h
    rw [dif_neg (show ¬ (x 1).val < d from h)]
    refine congrArg X (funext fun a => Fin.ext ?_)
    match a with
    | ⟨0, _⟩ => exact (Nat.zero_add _).trans (by have := (x 0).isLt; change (x 0).val < 1 at this; show (if (0 : ℕ) = 1 then (x 1).val - d else (x 0).val) = 0; rw [if_neg (by decide)]; omega)
    | ⟨1, _⟩ => exact (Nat.zero_add _).trans rfl

/-- The counts the kernel forms from the kept lanes. -/
def counts (v : FVec Ideal S1x1024 .f32) : FVec Ideal S1x1024 .f32 :=
  moved 512 (moved 256 (moved 128 (moved 64 (moved 32 (moved 16 (moved 8 (moved 4 (moved 2 (moved 1 v)))))))))

theorem first_counts (v : FVec Ideal S1x1024 .f32) : k3_pay22 v = moved 8 (moved 4 (moved 2 (moved 1 v))) := by
  unfold k3_pay22
  dsimp only
  erw [moved_eq, moved_eq, moved_eq, moved_eq]

theorem moved_window (g : ℕ → EReal) (w : ℕ) (X : FVec Ideal S1x1024 .f32) (h : ∀ j : Fin 1024, X (ix2 0 j) = Nms.window g w j.val) (j : Fin 1024) :
    moved w X (ix2 0 j) = Nms.window g (w + w) j.val := by
  rw [← Nms.window_double]
  show X (ix2 0 j) + (if h : j.val < w then 0 else X (ix2 0 ⟨j.val - w, _⟩)) = _
  rw [h j]
  congr 1
  split
  · rfl
  · exact h _

/-- They are the running sums. -/
theorem counts_at (g : ℕ → EReal) (v : FVec Ideal S1x1024 .f32) (h : ∀ j : Fin 1024, v (ix2 0 j) = g j.val) (j : Fin 1024) :
    counts v (ix2 0 j) = ∑ i ∈ Finset.range (j.val + 1), g i := by
  rw [← Nms.window_all g 1024 j.val j.isLt]
  have h0 : ∀ j : Fin 1024, v (ix2 0 j) = Nms.window g 1 j.val := fun j => (h j).trans (Nms.window_one g _).symm
  exact moved_window g 512 _ (moved_window g 256 _ (moved_window g 128 _ (moved_window g 64 _ (moved_window g 32 _ (moved_window g 16 _
    (moved_window g 8 _ (moved_window g 4 _ (moved_window g 2 _ (moved_window g 1 v h0))))))))) j

/-- The kernel's last part on its counts. -/
def chosen (X : FVec Ideal S8x1024 .f32) (v56 v97 : FVec Ideal S1x1024 .f32) : FVec Ideal S8x256 .f32 :=
  matmul dot_S8x1024_S256x1024_S8x256_1_1_0_0_n_n none X
    (sitofp .f32 (extui 32 (andi (cmpf .oeq (broadcastTo S256x1024 v97 broadcasts_S1x1024_S256x1024)
      (broadcastTo S256x1024 (sitofp .f32 (addi (iota .tc S256x1 32 [0] iota_S256x1_d0_w32) (broadcast S256x1 1#32))) broadcasts_S256x1_S256x1024))
      (broadcastTo S256x1024 (cmpf .ogt v56 (broadcast S1x1024 (Scalar.ofBits .f32 0x00000000#32))) broadcasts_S1x1024_S256x1024)) natLt_1_32))
    (constant S8x256 .f32 0x00000000#32)

theorem sitofp_one : (FloatOps.sitofp (F := Ideal) FTy.f32 (1#32) : EReal) = 1 := by
  show (((1#32 : BitVec 32).toInt : ℝ) : EReal) = 1
  rw [show (1#32 : BitVec 32).toInt = 1 from by decide]
  simp

theorem sitofp_zero : (FloatOps.sitofp (F := Ideal) FTy.f32 (0#32) : EReal) = 0 := by
  show (((0#32 : BitVec 32).toInt : ℝ) : EReal) = 0
  rw [show (0#32 : BitVec 32).toInt = 0 from by decide]
  simp

theorem chosen_at (X : FVec Ideal S8x1024 .f32) (v56 v97 : FVec Ideal S1x1024 .f32) (r : Fin 8) (p : Fin 256) :
    chosen X v56 v97 (ix2 r p) = ∑ x : Fin 1024, X (ix2 r x) * (if v97 (ix2 0 x) = (((p.val + 1 : ℕ) : ℝ) : EReal) ∧ 0 < v56 (ix2 0 x) then 1 else 0) := by
  unfold chosen
  pointwise []
  refine Finset.sum_congr rfl fun x _ => congrArg (X (ix2 r x) * ·) ?_
  have e : (FloatOps.sitofp (F := Ideal) FTy.f32 (IntOp.addi (BitVec.ofNat 32 p.val) 1#32) : EReal) = (((p.val + 1 : ℕ) : ℝ) : EReal) := by
    rw [show IntOp.addi (BitVec.ofNat 32 p.val) 1#32 = BitVec.ofNat 32 (p.val + 1) from (BitVec.ofNat_add p.val 1).symm]
    exact Cell.sitofp_small (p.val + 1) (by omega)
  rw [e]
  by_cases h1 : v97 (ix2 0 x) = (((p.val + 1 : ℕ) : ℝ) : EReal) <;> by_cases h2 : 0 < v56 (ix2 0 x) <;> simp only [h1, h2, decide_true, decide_false, and_self, and_true, true_and, and_false, false_and, if_true, if_false]
  · exact sitofp_one
  · exact sitofp_zero
  · exact sitofp_zero
  · exact sitofp_zero

/-- The eight rows the kernel picks columns of. -/
def lanes (v3 v5 v7 v9 v57 : FVec Ideal S1x1024 .f32) (v112 : FVec Ideal S1x1x1024 .f32) : FVec Ideal S8x1024 .f32 :=
  concatenate S8x1024 0 [⟨S1x1024, v57⟩, ⟨S1x1024, v3⟩, ⟨S1x1024, v5⟩, ⟨S1x1024, v7⟩, ⟨S1x1024, v9⟩, ⟨S1x1024, shapeCast S1x1024 v112 shapeCasts_S1x1x1024_S1x1024⟩,
    ⟨S1x1024, broadcast S1x1024 (Scalar.ofBits .f32 0x00000000#32)⟩, ⟨S1x1024, broadcast S1x1024 (Scalar.ofBits .f32 0x00000000#32)⟩]
    concatenates_S1x1024_S1x1024_S1x1024_S1x1024_S1x1024_S1x1024_S1x1024_S1x1024_S8x1024_d0

theorem dot_eq (v3 v5 v7 v9 v56 v57 : FVec Ideal S1x1024 .f32) (v112 : Vec Ideal S1x1x1024 .f32) :
    k3_pay25 v3 v5 v7 v9 v56 v57 (k3_pay22 v56) k3_pay23 (k3_pay24 v56) v112 = chosen (lanes v3 v5 v7 v9 v57 v112) v56 (counts v56) := by
  have h16 : addf (k3_pay22 v56) (concatenate S1x1024 1 [⟨S1x16, k3_pay23 (F := Ideal)⟩, ⟨S1x1008, k3_pay24 v56⟩] concatenates_S1x16_S1x1008_S1x1024_d1)
      = moved 16 (k3_pay22 v56) := moved_eq (d := 16) (e := 1008) (k3_pay22 v56) slices_S1x1024_o0_0_S1x1008 concatenates_S1x16_S1x1008_S1x1024_d1
  unfold k3_pay25
  dsimp only
  rw [h16]
  erw [moved_eq, moved_eq, moved_eq, moved_eq, moved_eq]
  rw [first_counts]
  rfl

end Cert.KernelIdeal.Value

end
-- ==== Proof.KernelCand.lean ====
/- The candidates the kernel's host hands to its suppression call. -/
module

public import proofs.«01_k».proof.Proof.KernelAll
public import proofs.«01_k».proof.Proof.Select
public import proofs.«01_k».proof.Proof.Take
public import proofs.«01_k».proof.Proof.Prefix
public import Idealize.ShloMosaic.Lib.StableHlo.ReadAt

@[expose] public section

set_option maxRecDepth 16384

noncomputable section

namespace Cert.KernelIdeal.Value

open Cert.KernelIdeal Cert.KernelIdeal.Gen
open Idealize.ShloMosaic Idealize.ShloMosaic.TcCoe Idealize.ShloMosaic.StableHlo
open Idealize.SL.Sem

section Any

variable (W : Valuation τ sig (Elt Ideal))

theorem values_read : (after hostOps3 W (Proc.devRef .tc main_values) : S8x1000.Idx → EReal)
      = (Host.topK S8x1000 1 (FloatOps.cmpfTotal (F := Ideal) (φ := .f32) .gt) (after hostOps3 W (Proc.devRef .tc main_v11) : S8x16384.Idx → EReal) sliceFits_S8x16384_S8x1000).1 := by
  rw [score_read]
  after_reads_simp; rfl

theorem indices_read : (after hostOps3 W (Proc.devRef .tc main_indices) : S8x1000.Idx → BitVec 32)
      = (Host.topK S8x1000 1 (FloatOps.cmpfTotal (F := Ideal) (φ := .f32) .gt) (after hostOps3 W (Proc.devRef .tc main_v11) : S8x16384.Idx → EReal) sliceFits_S8x16384_S8x1000).2 := by
  rw [score_read]
  after_reads_simp; rfl

theorem column_read (b : Fin 8) (i : Fin 1000) : (after hostOps3 W (Proc.devRef .tc main_v16) : S8x1000x1.Idx → BitVec 32) (ix3 b i 0)
      = (after hostOps3 W (Proc.devRef .tc main_indices) : S8x1000.Idx → BitVec 32) (ix2 b i) := by
  rw [indices_read, score_read]
  have e : (after hostOps3 W (Proc.devRef .tc main_v16) : S8x1000x1.Idx → BitVec 32) = broadcastInDim S8x1000x1 ![0, 1] bcast_S8x1000_S8x1000x1_0_1
      (after hostOps3 W (Proc.devRef .tc main_indices) : S8x1000.Idx → BitVec 32) := by
    rw [indices_read, score_read]
    after_reads_simp; rfl
  rw [e, indices_read, score_read]
  pointwise []

theorem boxes_take (b : Fin 8) (i : Fin 1000) (q : Fin 4) (k : Fin 16128)
    (hw : (W (Proc.devRef .tc main_v16) : S8x1000x1.Idx → BitVec 32) (ix3 b i 0) = BitVec.ofNat 32 k.val) :
    (after hostOps3_1 W (Proc.devRef .tc main_v17) : S8x1000x4.Idx → EReal) (ix3 b i q) = (W (Proc.devRef .tc main_v15) : S8x16128x4.Idx → EReal) (ix3 b k q) := by
  after_reads_at
  exact Take.take3 _ _ _ _ _ _ (fun x => (W (Proc.devRef .tc main_v16) : S8x1000x1.Idx → BitVec 32) (ix3 b i x)) b i q k (by decide) rfl hw rfl

theorem classes_take (b : Fin 8) (i : Fin 1000) (k : Fin 16128)
    (hw : (W (Proc.devRef .tc main_indices) : S8x1000.Idx → BitVec 32) (ix2 b i) = BitVec.ofNat 32 k.val) :
    (after hostOps3_2 W (Proc.devRef .tc main_v18) : S8x1000.Idx → EReal) (ix2 b i) = (W (Proc.devRef .tc main_v14) : S8x16128.Idx → EReal) (ix2 b k) := by
  after_reads_at
  exact Take.take2 _ _ _ _ _ _ (fun _ => (W (Proc.devRef .tc main_indices) : S8x1000.Idx → BitVec 32) (ix2 b i)) b i k (by decide) rfl hw rfl

theorem pad_scores (b : Fin 8) (j : Fin 1024) (h0 : (W (Proc.devRef .tc main_c) : S_.Idx → BitVec 32) = constantI S_ 32 0#32) :
    (after hostOps3_4 W (Proc.devRef .tc main_v19) : S8x1024.Idx → EReal) (ix2 b j)
      = if h : j.val < 1000 then (W (Proc.devRef .tc main_values) : S8x1000.Idx → EReal) (ix2 b ⟨j.val, h⟩) else (0 : EReal) := by
  after_reads_at
  split
  · rfl
  · rw [h0]; exact sitofp_zero

theorem pad_boxes (b : Fin 8) (j : Fin 1024) (q : Fin 4) (h0 : (W (Proc.devRef .tc main_c_3) : S_.Idx → BitVec 32) = constantI S_ 32 0#32) :
    (after hostOps3_6 W (Proc.devRef .tc main_v21) : S8x1024x4.Idx → EReal) (ix3 b j q)
      = if h : j.val < 1000 then (W (Proc.devRef .tc main_v17) : S8x1000x4.Idx → EReal) (ix3 b ⟨j.val, h⟩ q) else (0 : EReal) := by
  after_reads_at
  split
  · rfl
  · rw [h0]; exact sitofp_zero

theorem pad_classes (b : Fin 8) (j : Fin 1024) (h0 : (W (Proc.devRef .tc main_c_4) : S_.Idx → BitVec 32) = constantI S_ 32 0#32) :
    (after hostOps3_8 W (Proc.devRef .tc main_v23) : S8x1024.Idx → EReal) (ix2 b j)
      = if h : j.val < 1000 then (W (Proc.devRef .tc main_v18) : S8x1000.Idx → EReal) (ix2 b ⟨j.val, h⟩) else (0 : EReal) := by
  after_reads_at
  split
  · rfl
  · rw [h0]; exact sitofp_zero

theorem scores_row (b : Fin 8) (j : Fin 1024) : (after hostOps3_5 W (Proc.devRef .tc main_v20) : S8x1x1024.Idx → EReal) (ix3 b 0 j)
    = (W (Proc.devRef .tc main_v19) : S8x1024.Idx → EReal) (ix2 b j) := by
  after_reads_at

theorem boxes_row (b : Fin 8) (j : Fin 1024) (q : Fin 4) : (after hostOps3_7 W (Proc.devRef .tc main_v22) : S8x4x1024.Idx → EReal) (ix3 b q j)
    = (W (Proc.devRef .tc main_v21) : S8x1024x4.Idx → EReal) (ix3 b j q) := by
  after_reads_at

theorem classes_row (b : Fin 8) (j : Fin 1024) : (after hostOps3_9 W (Proc.devRef .tc main_v24) : S8x1x1024.Idx → EReal) (ix3 b 0 j)
    = (W (Proc.devRef .tc main_v23) : S8x1024.Idx → EReal) (ix2 b j) := by
  after_reads_at

theorem zero_c : (after hostOps3_3 W (Proc.devRef .tc main_c) : S_.Idx → BitVec 32) = constantI S_ 32 0#32 := by after_reads_simp
theorem zero_c3 : (after hostOps3_5 W (Proc.devRef .tc main_c_3) : S_.Idx → BitVec 32) = constantI S_ 32 0#32 := by after_reads_simp
theorem zero_c4 : (after hostOps3_7 W (Proc.devRef .tc main_c_4) : S_.Idx → BitVec 32) = constantI S_ 32 0#32 := by after_reads_simp

end Any

variable (m : (ℓ : Loc nD τ sig) → Buf (Elt Ideal) ℓ) (ρ : Dev nD → PrngReg) (c : Dev nD) (b : Fin 8)

/-- The score of an anchor. -/
def anchorScore (P : Fin 16128) : EReal := Cell.score (chnAll m c b P)

/-- The anchor of the candidate at place `i`. -/
def sel (i : Fin 1000) : Fin 16128 := Order.src (anchorScore m c b) (i.castLE (by decide))

theorem neg_word : (Ideal.ofBits .f32 0xBF800000#32 : EReal) < 0 := by
  rw [show (Ideal.ofBits .f32 0xBF800000#32 : EReal) = ((-1 : ℝ) : EReal) from ?_]
  · exact EReal.coe_neg'.mpr (by norm_num)
  · simp [Ideal.ofBits, Ideal.ieee, -EReal.coe_mul, -EReal.coe_neg]; norm_num

/-- All the scores the kernel selects among. -/
def allScores : S8x16384.Idx → EReal := W7 m ρ c (Proc.devRef .tc main_v11)

/-- The anchors padded on do not get in among the greatest. -/
theorem src_all (i : Fin 1000) : (Order.src (Select.rowOf (allScores m ρ c) b) (i.castLE (by decide : 1000 ≤ 16384))).val = (sel m c b i).val := by
  have e := Order.src_append (by decide : 16128 ≤ 16384) (anchorScore m c b) (Select.rowOf (allScores m ρ c) b)
    (fun P => (all_score m ρ c b _).trans (dif_pos P.isLt))
    (fun P Q hQ => by
      rw [show Select.rowOf (allScores m ρ c) b Q = _ from (all_score m ρ c b Q).trans (dif_neg (by omega))]
      exact lt_of_lt_of_le neg_word (Cell.score_nonneg _)) (i.castLE (by decide))
  have f : (i.castLE (by decide) : Fin 16384) = (i.castLE (by decide) : Fin 16128).castLE (by decide : 16128 ≤ 16384) := Fin.ext rfl
  rw [f, e, sel, Fin.val_castLE]

theorem values_at (i : Fin 1000) : (W7 m ρ c (Proc.devRef .tc main_values) : S8x1000.Idx → EReal) (ix2 b i) = anchorScore m c b (sel m c b i) := by
  refine (congrFun (values_read (W6 m ρ c)) (ix2 b i)).trans ((Select.topK_row (allScores m ρ c) _ (by decide : 1000 ≤ 16384) b i).1.trans ?_)
  have h := src_all m ρ c b i
  refine (all_score m ρ c b (Order.src (Select.rowOf (allScores m ρ c) b) (i.castLE (by decide)))).trans ?_
  rw [dif_pos (by rw [h]; exact (sel m c b i).isLt)]
  simp only [h, Fin.eta]
  rfl

theorem indices_at (i : Fin 1000) : (W7 m ρ c (Proc.devRef .tc main_indices) : S8x1000.Idx → BitVec 32) (ix2 b i) = BitVec.ofNat 32 (sel m c b i).val := by
  refine (congrFun (indices_read (W6 m ρ c)) (ix2 b i)).trans ((Select.topK_row (allScores m ρ c) _ (by decide : 1000 ≤ 16384) b i).2.trans ?_)
  exact congrArg (BitVec.ofNat 32) (src_all m ρ c b i)

/-- The candidates' scores, zero after the last. -/
theorem cand_score (j : Fin 1024) : (W16 m ρ c (Proc.devRef .tc main_v20) : S8x1x1024.Idx → EReal) (ix3 b 0 j)
    = if h : j.val < 1000 then anchorScore m c b (sel m c b ⟨j.val, h⟩) else 0 := by
  refine (congrFun ((W16_of m ρ c main_v20 (by decide)).trans ((W15_of m ρ c main_v20 (by decide)).trans ((W14_of m ρ c main_v20 (by decide)).trans (W13_of m ρ c main_v20 (by decide))))) _).trans ?_
  refine (scores_row (W11 m ρ c) b j).trans ((pad_scores (W10 m ρ c) b j (zero_c (W9 m ρ c))).trans ?_)
  refine dite_congr rfl (fun h => ?_) (fun _ => rfl)
  refine (congrFun ((W10_of m ρ c main_values (by decide)).trans ((W9_of m ρ c main_values (by decide)).trans (W8_of m ρ c main_values (by decide)))) _).trans ?_
  exact values_at m ρ c b _

theorem cand_box (j : Fin 1024) (q : Fin 4) : (W13 m ρ c (Proc.devRef .tc main_v21) : S8x1024x4.Idx → EReal) (ix3 b j q)
    = if h : j.val < 1000 then kBox m ρ c b (sel m c b ⟨j.val, h⟩) q else 0 := by
  refine (pad_boxes (W12 m ρ c) b j q (zero_c3 (W11 m ρ c))).trans ?_
  refine dite_congr rfl (fun h => ?_) (fun _ => rfl)
  refine (congrFun ((W12_of m ρ c main_v17 (by decide)).trans ((W11_of m ρ c main_v17 (by decide)).trans ((W10_of m ρ c main_v17 (by decide)).trans (W9_of m ρ c main_v17 (by decide))))) _).trans ?_
  refine (boxes_take (W7 m ρ c) b _ q (sel m c b ⟨j.val, h⟩) ?_).trans (all_box m ρ c b _ q)
  exact (column_read (W6 m ρ c) b _).trans (indices_at m ρ c b _)

/-- The candidates' boxes, zero after the last. -/
theorem cand_box_rows (j : Fin 1024) (q : Fin 4) : (W16 m ρ c (Proc.devRef .tc main_v21) : S8x1024x4.Idx → EReal) (ix3 b j q)
    = if h : j.val < 1000 then kBox m ρ c b (sel m c b ⟨j.val, h⟩) q else 0 :=
  (congrFun ((W16_of m ρ c main_v21 (by decide)).trans ((W15_of m ρ c main_v21 (by decide)).trans (W14_of m ρ c main_v21 (by decide)))) _).trans (cand_box m ρ c b j q)

theorem cand_box_lanes (j : Fin 1024) (q : Fin 4) : (W16 m ρ c (Proc.devRef .tc main_v22) : S8x4x1024.Idx → EReal) (ix3 b q j)
    = if h : j.val < 1000 then kBox m ρ c b (sel m c b ⟨j.val, h⟩) q else 0 :=
  (congrFun ((W16_of m ρ c main_v22 (by decide)).trans (W15_of m ρ c main_v22 (by decide))) _).trans
    ((boxes_row (W13 m ρ c) b j q).trans (cand_box m ρ c b j q))

/-- The candidates' classes, zero after the last. -/
theorem cand_class (j : Fin 1024) : (W16 m ρ c (Proc.devRef .tc main_v24) : S8x1x1024.Idx → EReal) (ix3 b 0 j)
    = if h : j.val < 1000 then FloatOps.sitofp (F := Ideal) .f32 (BitVec.ofNat 32 (Cell.cls (chnAll m c b (sel m c b ⟨j.val, h⟩)))) else (0 : EReal) := by
  refine (classes_row (W15 m ρ c) b j).trans ((pad_classes (W14 m ρ c) b j (zero_c4 (W13 m ρ c))).trans ?_)
  refine dite_congr rfl (fun h => ?_) (fun _ => rfl)
  refine (congrFun ((W14_of m ρ c main_v18 (by decide)).trans ((W13_of m ρ c main_v18 (by decide)).trans ((W12_of m ρ c main_v18 (by decide)).trans
    ((W11_of m ρ c main_v18 (by decide)).trans (W10_of m ρ c main_v18 (by decide)))))) _).trans ?_
  refine (classes_take (W8 m ρ c) b _ (sel m c b ⟨j.val, h⟩) ?_).trans ?_
  · exact (congrFun (W8_of m ρ c main_indices (by decide)) _).trans (indices_at m ρ c b _)
  · exact (congrFun (W8_of m ρ c main_v14 (by decide)) _).trans (all_class m ρ c b _)

end Cert.KernelIdeal.Value

end
-- ==== Proof.Pick.lean ====
/- A column picked by a running count, in plain terms. -/
module

public import proofs.«01_k».proof.Proof.Order
public import proofs.«01_k».proof.Proof.Prefix

@[expose] public section

noncomputable section

namespace Cert.Pick

open Idealize.ShloMosaic Cert.Order

variable (K : ℕ → Prop) [DecidablePred K]

/-- How many of the first `j + 1` are kept. -/
theorem rank_range (j : Fin 1000) : rank (fun i : Fin 1000 => K i.val) j = ((Finset.range (j.val + 1)).filter K).card := by
  unfold rank
  refine Finset.card_bij (fun i _ => i.val) ?_ ?_ ?_
  · intro i hi
    simp only [Finset.mem_filter, Finset.mem_univ, true_and, Finset.mem_range, Fin.le_def] at hi ⊢
    exact ⟨by omega, hi.2⟩
  · intro i _ i' _ h
    exact Fin.ext h
  · intro i hi
    simp only [Finset.mem_filter, Finset.mem_range] at hi
    refine ⟨⟨i, by omega⟩, ?_, rfl⟩
    simp only [Finset.mem_filter, Finset.mem_univ, true_and, Fin.le_def]
    exact ⟨by omega, hi.2⟩

/-- Two kept positions of one rank are the same. -/
theorem rank_inj {i j : Fin 1000} (hi : K i.val) (hj : K j.val) (h : rank (fun i : Fin 1000 => K i.val) i = rank (fun i : Fin 1000 => K i.val) j) : i = j := by
  have key : ∀ i j : Fin 1000, i < j → K j.val → rank (fun i : Fin 1000 => K i.val) i < rank (fun i : Fin 1000 => K i.val) j := by
    intro i j hij hj
    unfold rank
    refine Finset.card_lt_card ⟨fun x hx => ?_, fun hh => ?_⟩
    · simp only [Finset.mem_filter, Finset.mem_univ, true_and] at hx ⊢
      exact ⟨hx.1.trans hij.le, hx.2⟩
    · have := hh (show j ∈ _ by simp only [Finset.mem_filter, Finset.mem_univ, true_and]; exact ⟨le_rfl, hj⟩)
      simp only [Finset.mem_filter, Finset.mem_univ, true_and] at this
      exact absurd this.1 (not_le.mpr hij)
  rcases lt_trichotomy i j with h1 | h1 | h1
  · exact absurd h (key i j h1 hj).ne
  · exact h1
  · exact absurd h.symm (key j i h1 hi).ne

/-- Whether lane `x` is kept and the `p + 1`st kept. -/
def hit (p : ℕ) (x : Fin 1024) : Prop :=
  (∑ i ∈ Finset.range (x.val + 1), if K i then (1 : EReal) else 0) = (((p + 1 : ℕ) : ℝ) : EReal) ∧ 0 < (if K x.val then (1 : EReal) else 0)

theorem hit_iff (p : ℕ) (j : Fin 1000) : hit K p (j.castLE (by decide)) ↔ K j.val ∧ rank (fun i : Fin 1000 => K i.val) j = p + 1 := by
  unfold hit
  rw [Nms.sum_count, rank_range, EReal.coe_eq_coe_iff, Nat.cast_inj]
  show _ ∧ 0 < (if K j.val then (1 : EReal) else 0) ↔ _
  by_cases h : K j.val
  · simp [h, Fin.val_castLE]
  · simp [h]

open Classical in
theorem sum_hit (X : Fin 1024 → EReal) (p : ℕ) (hX : ∀ x : Fin 1024, 1000 ≤ x.val → X x = 0) (j : Fin 1000) (hK : K j.val)
    (hr : rank (fun i : Fin 1000 => K i.val) j = p + 1) : (∑ x : Fin 1024, X x * if hit K p x then 1 else 0) = X (j.castLE (by decide)) := by
  rw [Finset.sum_eq_single (j.castLE (by decide : 1000 ≤ 1024))]
  · rw [if_pos ((hit_iff K p j).mpr ⟨hK, hr⟩), mul_one]
  · intro x _ hx
    by_cases h : 1000 ≤ x.val
    · rw [hX x h, zero_mul]
    · rw [if_neg, mul_zero]
      intro hh
      obtain ⟨h1, h2⟩ := (hit_iff K p ⟨x.val, by omega⟩).mp hh
      have e := congrArg Fin.val (rank_inj K h1 hK (h2.trans hr.symm))
      exact hx (Fin.ext e)
  · intro h; exact absurd (Finset.mem_univ _) h

open Classical in
theorem sum_miss (X : Fin 1024 → EReal) (p : ℕ) (hX : ∀ x : Fin 1024, 1000 ≤ x.val → X x = 0)
    (hn : ∀ j : Fin 1000, K j.val → rank (fun i : Fin 1000 => K i.val) j = p + 1 → X (j.castLE (by decide)) = 0) :
    (∑ x : Fin 1024, X x * if hit K p x then 1 else 0) = 0 := by
  refine Finset.sum_eq_zero fun x _ => ?_
  by_cases h : 1000 ≤ x.val
  · rw [hX x h, zero_mul]
  · by_cases hh : hit K p x
    · obtain ⟨h1, h2⟩ := (hit_iff K p ⟨x.val, by omega⟩).mp hh
      have := hn ⟨x.val, by omega⟩ h1 h2
      rw [show X x = 0 from this, zero_mul]
    · rw [if_neg hh, mul_zero]

variable (s : Fin 1000 → EReal)

/-- The kept scores in decreasing order. -/
def ordered (p : Fin 1000) : Fin 1000 := src (masked s fun j => K j.val) p

/-- The `p`th of the kept scores. -/
def best (p : Fin 1000) : EReal := masked s (fun j => K j.val) (ordered K s p)

theorem best_nonneg (h0 : ∀ j, 0 ≤ s j) (p : Fin 1000) : 0 ≤ best K s p := by
  unfold best masked
  split
  · exact h0 _
  · exact le_rfl

theorem best_pos (hs : Antitone s) (h0 : ∀ j, 0 ≤ s j) (p : Fin 1000) (h : 0 < best K s p) :
    K (ordered K s p).val ∧ rank (fun j : Fin 1000 => K j.val) (ordered K s p) = p.val + 1 ∧ best K s p = s (ordered K s p) := by
  obtain ⟨h1, h2, h3⟩ := rank_src (s := s) (K := fun j : Fin 1000 => K j.val) hs h0 (p := p) h
  exact ⟨h1, h3, if_pos h1⟩

open Classical in
/-- The kernel's sum of the masked scores is the `p`th of them. -/
theorem sum_score (hs : Antitone s) (h0 : ∀ j, 0 ≤ s j) (p : Fin 1000) (X : Fin 1024 → EReal) (hX : ∀ x : Fin 1024, 1000 ≤ x.val → X x = 0)
    (hXs : ∀ j : Fin 1000, X (j.castLE (by decide)) = s j * if K j.val then 1 else 0) :
    (∑ x : Fin 1024, X x * if hit K p.val x then 1 else 0) = best K s p := by
  by_cases h : 0 < best K s p
  · obtain ⟨h1, h2, h3⟩ := best_pos K s hs h0 p h
    rw [sum_hit K X p.val hX _ h1 h2, hXs, if_pos h1, mul_one, h3]
  · rw [sum_miss K X p.val hX, le_antisymm (not_lt.mp h) (best_nonneg K s h0 p)]
    intro j hK hr
    rw [hXs, if_pos hK, mul_one]
    by_contra hne
    have hj : 0 < s j := lt_of_le_of_ne (h0 j) (Ne.symm hne)
    have e : ordered K s p = j := src_masked (s := s) (K := fun j : Fin 1000 => K j.val) hs h0 hK hj hr
    apply h
    unfold best masked
    rw [e, if_pos hK]
    exact hj

open Classical in
/-- Where it is positive, the kernel's sum of any other row is that row's value there. -/
theorem sum_other (hs : Antitone s) (h0 : ∀ j, 0 ≤ s j) (p : Fin 1000) (X : Fin 1024 → EReal) (hX : ∀ x : Fin 1024, 1000 ≤ x.val → X x = 0)
    (h : 0 < best K s p) :
    (∑ x : Fin 1024, X x * if hit K p.val x then 1 else 0) = X ((ordered K s p).castLE (by decide)) := by
  obtain ⟨h1, h2, _⟩ := best_pos K s hs h0 p h
  exact sum_hit K X p.val hX _ h1 h2

/-- As many of the first 200 are positive as are positive at all, or 200. -/
theorem count_best : (Finset.univ.filter fun p : Fin 200 => 0 < best K s (p.castLE (by decide))).card
    = min (Finset.univ.filter fun j : Fin 1000 => 0 < masked s (fun j : Fin 1000 => K j.val) j).card 200 :=
  card_pos_src (masked s fun j : Fin 1000 => K j.val) 200 (by decide)

end Cert.Pick

end
-- ==== Proof.Nms.lean ====
/- Greedy suppression of overlapping boxes, in plain terms. -/
module

public import Idealize.ShloMosaic.Lib.Pointwise

@[expose] public section

noncomputable section

namespace Cert.Nms

open Idealize.ShloMosaic

/-- The area of a box, given by its two corners. -/
def area (a : Fin 4 → EReal) : EReal := (a 2 - a 0) * (a 3 - a 1)

/-- The area two boxes share. -/
def inter (a b : Fin 4 → EReal) : EReal :=
  max (min (a 2) (b 2) - max (a 0) (b 0)) 0 * max (min (a 3) (b 3) - max (a 1) (b 1)) 0

/-- The overlap of two boxes: what they share, over what they cover. -/
def iou (a b : Fin 4 → EReal) : EReal := Ideal.div (inter a b) (max (area a + area b - inter a b) (Ideal.ofBits .f32 0x3089705F#32))

/-- Box `k`, when still kept, drops box `j`. -/
def drops (B : ℕ → Fin 4 → EReal) (k j : ℕ) : Prop := Ideal.ofBits .f32 0x3F19999A#32 < iou (B k) (B j) ∧ k < j

/-- Box `j` is kept after the first `k` boxes have dropped theirs. -/
def keep (B : ℕ → Fin 4 → EReal) : ℕ → ℕ → Prop
  | 0, _ => True
  | k + 1, j => keep B k j ∧ ¬ (drops B k j ∧ keep B k k)

/-- Only the boxes looked at matter. -/
theorem keep_congr {B B' : ℕ → Fin 4 → EReal} {n : ℕ} (h : ∀ j < n, B j = B' j) : ∀ k ≤ n, ∀ j < n, (keep B k j ↔ keep B' k j)
  | 0, _, _, _ => Iff.rfl
  | k + 1, hk, j, hj => by
    unfold keep drops
    rw [keep_congr h k (by omega) j hj, keep_congr h k (by omega) k (by omega), h k (by omega), h j hj]

end Cert.Nms

end
-- ==== Proof.NmsKeep.lean ====
/- The suppression call's overlap matrix and its loop, lane by lane. -/
module

public import proofs.«01_k».proof.Proof.Nms
public import proofs.«01_k».proof.Proof.NmsBlock
public import proofs.«01_k».proof.Proof.BoxMath
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.TcCoe
open Idealize.SL.Sem

/-- Coordinate `q` of the candidates, along the lanes. -/
theorem lane_coord (x1 : FVec Ideal S1x4x1024 .f32) (q : Fin 4) (j : Fin 1024) (h) :
    x1 ((Rect.unit (s := S1x4x1024) ![0, q.val, 0] S1x1x1024.size h).idx (ix3 0 0 j)) = x1 (ix3 0 q j) := by
  refine congrArg x1 (funext fun a => Fin.ext ?_)
  match a with
  | ⟨0, _⟩ => rfl
  | ⟨1, _⟩ => show q.val + 1 * 0 = q.val; omega
  | ⟨2, _⟩ => show 0 + 1 * j.val = j.val; omega

/-- Entry `(i, j)` of the overlap matrix. -/
theorem iou_at (x1 : FVec Ideal S1x4x1024 .f32) (x2 : FVec Ideal S1x1024x4 .f32) (i j : Fin 1024) :
    iouBlk (F := Ideal) x1 x2 (ix2 i j) = Nms.iou (fun q => x2 (ix3 0 i q)) (fun q => x1 (ix3 0 q j)) := by
  unfold iouBlk
  unfold_payloads
  pointwise []
  have er : ∀ (q : Fin 4) (h), x2 ((Rect.unit (s := S1x1024x4) ![0, 0, q.val] S1x1024x1.size h).idx (ix3 0 i 0)) = x2 (ix3 0 i q) := by
    intro q h
    refine congrArg x2 (funext fun a => Fin.ext ?_)
    match a with
    | ⟨0, _⟩ => rfl
    | ⟨1, _⟩ => show 0 + 1 * i.val = i.val; omega
    | ⟨2, _⟩ => show q.val + 1 * 0 = q.val; omega
  have e0 : (r0 (F := Ideal) x2 ) (ix3 0 i 0) = x2 (ix3 0 i 0) := er 0 _
  have e1 : (r1 (F := Ideal) x2 ) (ix3 0 i 0) = x2 (ix3 0 i 1) := er 1 _
  have e2 : (r2 (F := Ideal) x2 ) (ix3 0 i 0) = x2 (ix3 0 i 2) := er 2 _
  have e3 : (r3 (F := Ideal) x2 ) (ix3 0 i 0) = x2 (ix3 0 i 3) := er 3 _
  have f0 : (c0 (F := Ideal) x1 ) (ix3 0 0 j) = x1 (ix3 0 0 j) := lane_coord x1 0 j _
  have f1 : (c1 (F := Ideal) x1 ) (ix3 0 0 j) = x1 (ix3 0 1 j) := lane_coord x1 1 j _
  have f2 : (c2 (F := Ideal) x1 ) (ix3 0 0 j) = x1 (ix3 0 2 j) := lane_coord x1 2 j _
  have f3 : (c3 (F := Ideal) x1 ) (ix3 0 0 j) = x1 (ix3 0 3 j) := lane_coord x1 3 j _
  rw [e0, e1, e2, e3, f0, f1, f2, f3]
  rfl

theorem iv_eq (k : ℕ) : Scf.iv 0#32 1#32 k = BitVec.ofNat 32 k := by
  unfold Scf.iv
  simp

theorem eq_word (a b : ℕ) (ha : a < 4294967296) (hb : b < 4294967296) : IntOp.cmpi .eq (BitVec.ofNat 32 a) (BitVec.ofNat 32 b) = BitVec.ofBool (decide (a = b)) := by
  show BitVec.ofBool _ = _
  congr 1
  rw [Bool.eq_iff_iff]
  simp only [beq_iff_eq, decide_eq_true_eq]
  constructor
  · intro h
    have := congrArg BitVec.toNat h
    rwa [BitVec.toNat_ofNat, BitVec.toNat_ofNat, Nat.mod_eq_of_lt ha, Nat.mod_eq_of_lt hb] at this
  · rintro rfl; rfl

theorem gt_word (a b : ℕ) (ha : a < 2147483648) (hb : b < 2147483648) : IntOp.cmpi .sgt (BitVec.ofNat 32 a) (BitVec.ofNat 32 b) = BitVec.ofBool (decide (b < a)) := by
  show BitVec.ofBool (BitVec.slt _ _) = _
  rw [BitVec.slt, Cell.toInt_small a ha, Cell.toInt_small b hb]
  congr 1
  simp

/-- The sum a trip takes of its one lane is that lane. -/
theorem lane_sum (v : Fin 1024 → EReal) (k : ℕ) (h : k < 1024) :
    (∑ _y : Fin 1, ∑ x : Fin 1024, Scalar.select (IntOp.cmpi .eq (BitVec.ofNat 32 x.val) (Scf.iv 0#32 1#32 k)) (v x) 0) = v ⟨k, h⟩ := by
  rw [Fin.sum_univ_one, iv_eq, Finset.sum_eq_single ⟨k, h⟩]
  · rw [eq_word _ _ (by omega) (by omega)]
    simp [Scalar.select]
  · intro x _ hx
    rw [eq_word _ _ (by omega) (by omega)]
    have : ¬ x.val = k := fun e => hx (Fin.ext e)
    simp [Scalar.select, this]
  · intro h'
    exact absurd (Finset.mem_univ _) h'

/-- One trip of the loop, at a lane. -/
theorem trip_at (k : Fin k3_t1_loop.trips) (hk : k.val < 1024) (v r : FVec Ideal S1x1024 .f32) (j : Fin 1024) :
    k3_pay20 (F := Ideal) k v r (ix2 0 j)
      = if (Ideal.ofBits .f32 0x3F19999A#32 < r (ix2 0 j) ∧ k.val < j.val) ∧ 0 < v (ix2 0 ⟨k.val, hk⟩) then 0 else v (ix2 0 j) := by
  unfold_payloads
  pointwise []
  rw [lane_sum (fun x => v (ix2 0 x)) k.val hk, iv_eq, gt_word _ _ (by omega) (by omega)]
  by_cases h1 : Ideal.ofBits FTy.f32 0x3F19999A#32 < r (ix2 0 j) <;> by_cases h2 : k.val < j.val <;> by_cases h3 : 0 < v (ix2 0 ⟨k.val, hk⟩) <;>
    simp only [h1, h2, h3, decide_true, decide_false, and_self, and_true, true_and, and_false, false_and, if_true, if_false] <;> rfl

theorem one_word : (Ideal.ofBits .f32 0x3F800000#32 : EReal) = 1 := by
  have h : Words.IsDyadic 0x3F800000#32 1 0 := by decide
  rw [h.value]
  simp

/-- The boxes of the lanes, nothing after the last. -/
def boxLane (x1 : FVec Ideal S1x4x1024 .f32) (j : ℕ) (q : Fin 4) : EReal := if h : j < 1024 then x1 (ix3 0 q ⟨j, h⟩) else 0

open Classical in
/-- The kept lanes before trip `k`: one where still kept, zero where dropped. -/
theorem keep_at (x1 : FVec Ideal S1x4x1024 .f32) (x2 : FVec Ideal S1x1024x4 .f32) (hx : ∀ (q : Fin 4) (j : Fin 1024), x2 (ix3 0 j q) = x1 (ix3 0 q j)) :
    ∀ k ≤ 1000, ∀ j : Fin 1024, keepBlk (iouBlk (F := Ideal) x1 x2) k (ix2 0 j) = if Nms.keep (boxLane x1) k j.val then 1 else 0
  | 0, _, j => by
    refine Eq.trans ?_ (if_pos trivial).symm
    show (Ideal.ofBits .f32 0x3F800000#32 : EReal) = 1
    exact one_word
  | k + 1, hk, j => by
    have ht : k < k3_t1_loop.trips := by have : k3_t1_loop.trips = 1000 := by decide
                                         omega
    have ij := keep_at x1 x2 hx k (by omega) j
    have ik := keep_at x1 x2 hx k (by omega) ⟨k, by omega⟩
    have er : iouRow (iouBlk (F := Ideal) x1 x2) ⟨k, ht⟩ (ix2 0 j) = Nms.iou (boxLane x1 k) (boxLane x1 j.val) := by
      have : iouRow (iouBlk (F := Ideal) x1 x2) ⟨k, ht⟩ (ix2 0 j) = iouBlk (F := Ideal) x1 x2 (ix2 ⟨k, by omega⟩ j) := by
        refine congrArg (iouBlk (F := Ideal) x1 x2) (funext fun a => Fin.ext ?_)
        match a with
        | ⟨0, _⟩ =>
          have e : (k3_off1 ⟨k, ht⟩ 0) = k := by
            show (Scf.iv 0#32 1#32 k).toNat = k
            rw [iv_eq, BitVec.toNat_ofNat, Nat.mod_eq_of_lt (by omega)]
          show k3_off1 ⟨k, ht⟩ 0 + 1 * 0 = k
          omega
        | ⟨1, _⟩ => show 0 + 1 * j.val = j.val; omega
      rw [this, iou_at]
      have e1 : (fun q => x2 (ix3 0 ⟨k, by omega⟩ q)) = boxLane x1 k := by
        funext q
        unfold boxLane
        rw [dif_pos (by omega), hx]
      have e2 : (fun q => x1 (ix3 0 q j)) = boxLane x1 j.val := by
        funext q
        unfold boxLane
        rw [dif_pos j.isLt]
      rw [e1, e2]
    rw [keepBlk, dif_pos ht, trip_at ⟨k, ht⟩ (by show k < 1024; omega), er, ik, ij]
    have hd : Nms.drops (boxLane x1) k j.val ↔ (Ideal.ofBits .f32 0x3F19999A#32 < Nms.iou (boxLane x1 k) (boxLane x1 j.val) ∧ k < j.val) := Iff.rfl
    have hs : Nms.keep (boxLane x1) (k + 1) j.val ↔ Nms.keep (boxLane x1) k j.val ∧ ¬ (Nms.drops (boxLane x1) k j.val ∧ Nms.keep (boxLane x1) k k) := Iff.rfl
    simp only [hs, ← hd]
    by_cases h1 : Nms.drops (boxLane x1) k j.val <;> by_cases h2 : Nms.keep (boxLane x1) k k <;> by_cases h3 : Nms.keep (boxLane x1) k j.val <;>
      simp [h1, h2, h3]

end Cert.KernelIdeal.Value

end
-- ==== Proof.NmsOut.lean ====
/- What the suppression call leaves for one batch row, from the row's candidates. -/
module

public import proofs.«01_k».proof.Proof.Pick
public import proofs.«01_k».proof.Proof.NmsKeep

@[expose] public section

set_option maxRecDepth 16384

noncomputable section

namespace Cert.KernelIdeal.Value

open Cert.KernelIdeal Cert.KernelIdeal.Gen
open Idealize.ShloMosaic Idealize.ShloMosaic.TcCoe
open Idealize.SL.Sem

variable (x0 : FVec Ideal S1x1x1024 .f32) (x1 : FVec Ideal S1x4x1024 .f32) (x2 : FVec Ideal S1x1024x4 .f32) (x3 : FVec Ideal S1x1x1024 .f32)

/-- All of a row of lanes, as the body loads it. -/
abbrev whole (x : Vec Ideal S1x1x1024 .f32) : Vec Ideal S1x1x1024 .f32 := View.ld x (Rect.unit ![0, 0, 0] S1x1x1024.size inb_S1x1x1024_S1x1x1024_0_0_0)

theorem whole_at (x : Vec Ideal S1x1x1024 .f32) (j : Fin 1024) : whole x (ix3 0 0 j) = x (ix3 0 0 j) := by
  refine congrArg x (funext fun a => Fin.ext ?_)
  match a with
  | ⟨0, _⟩ => rfl
  | ⟨1, _⟩ => rfl
  | ⟨2, _⟩ => show 0 + 1 * j.val = j.val; omega

theorem lanes_at (v3 v5 v7 v9 v57 : FVec Ideal S1x1024 .f32) (v112 : FVec Ideal S1x1x1024 .f32) (x : Fin 1024) :
    lanes v3 v5 v7 v9 v57 v112 (ix2 0 x) = v57 (ix2 0 x) ∧ lanes v3 v5 v7 v9 v57 v112 (ix2 1 x) = v3 (ix2 0 x)
      ∧ lanes v3 v5 v7 v9 v57 v112 (ix2 2 x) = v5 (ix2 0 x) ∧ lanes v3 v5 v7 v9 v57 v112 (ix2 3 x) = v7 (ix2 0 x)
      ∧ lanes v3 v5 v7 v9 v57 v112 (ix2 4 x) = v9 (ix2 0 x) ∧ lanes v3 v5 v7 v9 v57 v112 (ix2 5 x) = v112 (ix3 0 0 x) := by
  unfold lanes
  refine ⟨?_, ?_, ?_, ?_, ?_, ?_⟩ <;> pointwise []

/-- The call's first result, from its one-hot product. -/
def outOf (d : FVec Ideal S8x256 .f32) : FVec Ideal S1x8x256 .f32 :=
  k3_pay1 d (extractStridedSlice S1x256 ![0, 0] d slices_S8x256_o0_0_S1x256) (extractStridedSlice S4x256 ![1, 0] d slices_S8x256_o1_0_S4x256)
      (Scalar.ofBits .f32 0x00000000#32)
      (shapeCast S1x256 (cmpf .ogt (extractStridedSlice S1x256 ![0, 0] d slices_S8x256_o0_0_S1x256) (broadcast S1x256 (Scalar.ofBits .f32 0x00000000#32))) shapeCasts_S1x256_S1x256)

theorem outBlk_eq : outBlk (F := Ideal) x0 x1 x2 x3 = outOf (dotBlk x0 x1 x2 x3) := rfl

theorem outOf_score (d : FVec Ideal S8x256 .f32) (p : Fin 256) : outOf d (ix3 0 0 p) = d (ix2 0 p) := by
  unfold outOf k3_pay1
  pointwise []

theorem outOf_class (d : FVec Ideal S8x256 .f32) (p : Fin 256) : outOf d (ix3 0 5 p) = d (ix2 5 p) := by
  unfold outOf k3_pay1
  pointwise []

theorem outOf_box (d : FVec Ideal S8x256 .f32) (p : Fin 256) (q : Fin 4) :
    outOf d (ix3 0 ⟨q.val + 1, by omega⟩ p) = if 0 < d (ix2 0 p) then d (ix2 ⟨q.val + 1, by omega⟩ p) else 0 := by
  unfold outOf k3_pay1
  pointwise []
  rw [dif_neg (by omega), dif_pos (by omega)]
  congr 2
  congr 1
  exact Fin.ext (by show 1 + (q.val + 1 - 1) = q.val + 1; omega)

/-- Which lanes the loop leaves kept. -/
def keptLane (j : ℕ) : Prop := Nms.keep (boxLane x1) 1000 j

open Classical in
theorem kept_at (hx : ∀ (q : Fin 4) (j : Fin 1024), x2 (ix3 0 j q) = x1 (ix3 0 q j)) (j : Fin 1024) :
    kept (F := Ideal) x1 x2 (ix2 0 j) = if keptLane x1 j.val then 1 else 0 := keep_at x1 x2 hx 1000 le_rfl j

open Classical in
theorem kScore_at (hx : ∀ (q : Fin 4) (j : Fin 1024), x2 (ix3 0 j q) = x1 (ix3 0 q j)) (j : Fin 1024) :
    kScore (F := Ideal) x0 x1 x2 (ix2 0 j) = x0 (ix3 0 0 j) * if keptLane x1 j.val then 1 else 0 := by
  rw [← kept_at x1 x2 hx j]
  have e : ∀ w : FVec Ideal S1x1024 .f32, k3_pay21 (k3_pay3 (whole x0)) w (ix2 0 j) = whole x0 (ix3 0 0 j) * w (ix2 0 j) := by
    intro w
    unfold k3_pay21 k3_pay3
    pointwise []
  refine (e _).trans ?_
  rw [whole_at]

open Classical in
/-- The one-hot product, at a row and a column. -/
theorem dotBlk_at (hx : ∀ (q : Fin 4) (j : Fin 1024), x2 (ix3 0 j q) = x1 (ix3 0 q j)) (r : Fin 8) (p : Fin 256) :
    dotBlk (F := Ideal) x0 x1 x2 x3 (ix2 r p) = ∑ x : Fin 1024,
      lanes (k3_pay4 (c0 (F := Ideal) x1)) (k3_pay5 (c1 (F := Ideal) x1)) (k3_pay6 (c2 (F := Ideal) x1)) (k3_pay7 (c3 (F := Ideal) x1)) (kScore x0 x1 x2)
        (whole x3) (ix2 r x) * if Pick.hit (keptLane x1) p.val x then 1 else 0 := by
  refine (congrFun (dot_eq _ _ _ _ _ _ _) (ix2 r p)).trans ((chosen_at _ _ _ r p).trans (Finset.sum_congr rfl fun x _ => congrArg _ ?_))
  refine if_congr ?_ rfl rfl
  unfold Pick.hit
  rw [counts_at (fun i => if keptLane x1 i then 1 else 0) _ (kept_at x1 x2 hx) x, kept_at x1 x2 hx x]

/-- The scores of the candidates. -/
def candScore (j : Fin 1000) : EReal := x0 (ix3 0 0 (j.castLE (by decide)))

section Results

variable (hx : ∀ (q : Fin 4) (j : Fin 1024), x2 (ix3 0 j q) = x1 (ix3 0 q j))
variable (z0 : ∀ j : Fin 1024, 1000 ≤ j.val → x0 (ix3 0 0 j) = 0) (z1 : ∀ (q : Fin 4) (j : Fin 1024), 1000 ≤ j.val → x1 (ix3 0 q j) = 0)
variable (z3 : ∀ j : Fin 1024, 1000 ≤ j.val → x3 (ix3 0 0 j) = 0)
variable (hs : Antitone (candScore x0)) (h0 : ∀ j, 0 ≤ candScore x0 j)

include hx z0 hs h0

open Classical in
theorem dot_score (p : Fin 200) : dotBlk (F := Ideal) x0 x1 x2 x3 (ix2 0 (p.castLE (by decide))) = Pick.best (keptLane x1) (candScore x0) (p.castLE (by decide)) := by
  refine (dotBlk_at x0 x1 x2 x3 hx 0 _).trans (Pick.sum_score (keptLane x1) (candScore x0) hs h0 (p.castLE (by decide)) _ ?_ ?_)
  · intro x h
    rw [(lanes_at _ _ _ _ _ _ x).1, kScore_at x0 x1 x2 hx, z0 x h, zero_mul]
  · intro j
    rw [(lanes_at _ _ _ _ _ _ _).1, kScore_at x0 x1 x2 hx]
    rfl

open Classical in
/-- The scores of the kept. -/
theorem out_score (p : Fin 200) : outBlk (F := Ideal) x0 x1 x2 x3 (ix3 0 0 (p.castLE (by decide))) = Pick.best (keptLane x1) (candScore x0) (p.castLE (by decide)) := by
  rw [outBlk_eq, outOf_score]
  exact dot_score x0 x1 x2 x3 hx z0 hs h0 p

include z1 in
open Classical in
/-- The boxes of the kept, zero after the last. -/
theorem out_box (p : Fin 200) (q : Fin 4) : outBlk (F := Ideal) x0 x1 x2 x3 (ix3 0 ⟨q.val + 1, by omega⟩ (p.castLE (by decide)))
    = if 0 < Pick.best (keptLane x1) (candScore x0) (p.castLE (by decide)) then x1 (ix3 0 q ((Pick.ordered (keptLane x1) (candScore x0) (p.castLE (by decide))).castLE (by decide))) else 0 := by
  rw [outBlk_eq, outOf_box, dot_score x0 x1 x2 x3 hx z0 hs h0 p]
  by_cases h : 0 < Pick.best (keptLane x1) (candScore x0) (p.castLE (by decide))
  swap
  · rw [if_neg h, if_neg h]
  rw [if_pos h, if_pos h]
  have key : ∀ x : Fin 1024, lanes (k3_pay4 (c0 (F := Ideal) x1)) (k3_pay5 (c1 (F := Ideal) x1)) (k3_pay6 (c2 (F := Ideal) x1)) (k3_pay7 (c3 (F := Ideal) x1)) (kScore x0 x1 x2)
        (whole x3) (ix2 ⟨q.val + 1, by omega⟩ x) = x1 (ix3 0 q x) := by
    intro x
    obtain ⟨-, e1, e2, e3, e4, -⟩ := lanes_at (k3_pay4 (c0 (F := Ideal) x1)) (k3_pay5 (c1 (F := Ideal) x1)) (k3_pay6 (c2 (F := Ideal) x1)) (k3_pay7 (c3 (F := Ideal) x1)) (kScore x0 x1 x2)
        (whole x3) x
    have g0 : k3_pay4 (c0 (F := Ideal) x1) (ix2 0 x) = (c0 (F := Ideal) x1 : _) (ix3 0 0 x) := by unfold k3_pay4; pointwise []
    have g1 : k3_pay5 (c1 (F := Ideal) x1) (ix2 0 x) = (c1 (F := Ideal) x1 : _) (ix3 0 0 x) := by unfold k3_pay5; pointwise []
    have g2 : k3_pay6 (c2 (F := Ideal) x1) (ix2 0 x) = (c2 (F := Ideal) x1 : _) (ix3 0 0 x) := by unfold k3_pay6; pointwise []
    have g3 : k3_pay7 (c3 (F := Ideal) x1) (ix2 0 x) = (c3 (F := Ideal) x1 : _) (ix3 0 0 x) := by unfold k3_pay7; pointwise []
    match q with
    | ⟨0, _⟩ => exact e1.trans (g0.trans (lane_coord x1 0 x _))
    | ⟨1, _⟩ => exact e2.trans (g1.trans (lane_coord x1 1 x _))
    | ⟨2, _⟩ => exact e3.trans (g2.trans (lane_coord x1 2 x _))
    | ⟨3, _⟩ => exact e4.trans (g3.trans (lane_coord x1 3 x _))
  refine (dotBlk_at x0 x1 x2 x3 hx _ _).trans ((Pick.sum_other (keptLane x1) (candScore x0) hs h0 (p.castLE (by decide)) _ ?_ h).trans (key _))
  intro x hx'
  rw [key, z1 q x hx']

include z3 in
open Classical in
/-- The classes of the kept. -/
theorem out_class (p : Fin 200) (h : 0 < Pick.best (keptLane x1) (candScore x0) (p.castLE (by decide))) : outBlk (F := Ideal) x0 x1 x2 x3 (ix3 0 5 (p.castLE (by decide)))
    = x3 (ix3 0 0 ((Pick.ordered (keptLane x1) (candScore x0) (p.castLE (by decide))).castLE (by decide))) := by
  rw [outBlk_eq, outOf_class]
  have key : ∀ x : Fin 1024, lanes (k3_pay4 (c0 (F := Ideal) x1)) (k3_pay5 (c1 (F := Ideal) x1)) (k3_pay6 (c2 (F := Ideal) x1)) (k3_pay7 (c3 (F := Ideal) x1)) (kScore x0 x1 x2)
        (whole x3) (ix2 5 x) = x3 (ix3 0 0 x) := fun x =>
    (lanes_at _ _ _ _ _ _ x).2.2.2.2.2.trans (whole_at x3 x)
  refine (dotBlk_at x0 x1 x2 x3 hx _ _).trans ((Pick.sum_other (keptLane x1) (candScore x0) hs h0 (p.castLE (by decide)) _ ?_ h).trans (key _))
  intro x hx'
  rw [key, z3 x hx']

omit hs in
open Classical in
/-- How many are kept with a positive score, at most 200. -/
theorem out_count : countBlk (F := Ideal) x0 x1 x2 (ix3 0 0 0)
    = (((min (Finset.univ.filter fun j : Fin 1000 => 0 < Order.masked (candScore x0) (fun j : Fin 1000 => keptLane x1 j.val) j).card 200 : ℕ) : ℝ) : EReal) := by
  have e : k3_pay2 (kScore (F := Ideal) x0 x1 x2) (ix3 0 0 0)
      = min (∑ _y : Fin 1, ∑ x : Fin 1024, if 0 < kScore (F := Ideal) x0 x1 x2 (ix2 0 x) then 1 else 0) (Ideal.ofBits FTy.f32 1128792064#32) := by
    generalize kScore (F := Ideal) x0 x1 x2 = v
    unfold k3_pay2
    pointwise []
  have e200 : (Ideal.ofBits FTy.f32 1128792064#32 : EReal) = ((200 : ℝ) : EReal) := by
    have h : Words.IsDyadic 1128792064#32 200 0 := by decide
    rw [h.value]
    norm_num
  refine e.trans ?_
  rw [Fin.sum_univ_one, e200]
  have es : (∑ x : Fin 1024, if 0 < kScore (F := Ideal) x0 x1 x2 (ix2 0 x) then (1 : EReal) else 0)
      = ((((Finset.univ.filter fun j : Fin 1000 => 0 < Order.masked (candScore x0) (fun j : Fin 1000 => keptLane x1 j.val) j).card : ℕ) : ℝ) : EReal) := by
    have h1 : (∑ x : Fin 1024, if 0 < kScore (F := Ideal) x0 x1 x2 (ix2 0 x) then (1 : EReal) else 0)
        = ∑ i ∈ Finset.range 1024, if ∃ h : i < 1000, 0 < Order.masked (candScore x0) (fun j : Fin 1000 => keptLane x1 j.val) ⟨i, h⟩ then (1 : EReal) else 0 := by
      rw [Finset.sum_range]
      refine Finset.sum_congr rfl fun x _ => if_congr ?_ rfl rfl
      rw [kScore_at x0 x1 x2 hx]
      by_cases h : x.val < 1000
      · have e1 : x0 (ix3 0 0 x) = candScore x0 ⟨x.val, h⟩ := rfl
        rw [e1]
        constructor
        · intro hh
          refine ⟨h, ?_⟩
          unfold Order.masked
          by_cases hk : keptLane x1 x.val
          · rw [if_pos hk] at hh ⊢; rwa [mul_one] at hh
          · rw [if_neg hk, mul_zero] at hh; exact absurd hh (lt_irrefl _)
        · rintro ⟨_, hh⟩
          unfold Order.masked at hh
          by_cases hk : keptLane x1 x.val
          · rw [if_pos hk] at hh ⊢; rwa [mul_one]
          · rw [if_neg hk] at hh; exact absurd hh (lt_irrefl _)
      · rw [z0 x (by omega), zero_mul]
        exact ⟨fun hh => absurd hh (lt_irrefl _), fun ⟨h', _⟩ => absurd h' h⟩
    rw [h1, Nms.sum_count]
    congr 2
    refine Finset.card_bij (fun i hi => (⟨i, (Finset.mem_filter.mp hi).2.1⟩ : Fin 1000)) ?_ ?_ ?_
    · intro i hi
      simp only [Finset.mem_filter, Finset.mem_univ, true_and]
      exact (Finset.mem_filter.mp hi).2.2
    · intro i hi i' hi' h
      exact congrArg Fin.val h
    · intro j hj
      simp only [Finset.mem_filter, Finset.mem_univ, true_and] at hj
      exact ⟨j.val, Finset.mem_filter.mpr ⟨Finset.mem_range.mpr (by omega), j.isLt, hj⟩, rfl⟩
  rw [es]
  have hm : Monotone fun n : ℕ => ((n : ℝ) : EReal) := fun a b h => EReal.coe_le_coe_iff.mpr (Nat.cast_le.mpr h)
  exact (hm.map_min (a := _) (b := 200)).symm

end Results

end Cert.KernelIdeal.Value

end
-- ==== Proof.Region3.lean ====
/- The suppression call: its two result arrays hold, batch row by batch row, what its body leaves. -/
module

public import proofs.«01_k».proof.Proof.Regions
public import proofs.«01_k».proof.Proof.NmsBlock

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL.Sem

section Arrays

variable {F : FTy → Type} [FloatOps F]
variable (V : (c : Dev nD) → (b : Ref sig .tc) → Buf (Elt F) ((c : Thread nD τ).loc b))

/-- Block `b` of every operand and result is batch row `b`. -/
theorem index3_0 : ∀ t : Fin cfg3.N, win3_0.index t = ![t.val, 0, 0] := (by decide +kernel : ∀ t : Fin grid3.N, _)
theorem index3_1 : ∀ t : Fin cfg3.N, win3_1.index t = ![t.val, 0, 0] := (by decide +kernel : ∀ t : Fin grid3.N, _)
theorem index3_2 : ∀ t : Fin cfg3.N, win3_2.index t = ![t.val, 0, 0] := (by decide +kernel : ∀ t : Fin grid3.N, _)
theorem index3_3 : ∀ t : Fin cfg3.N, win3_3.index t = ![t.val, 0, 0] := (by decide +kernel : ∀ t : Fin grid3.N, _)
theorem index3_4 : ∀ t : Fin cfg3.N, win3_4.index t = ![t.val, 0, 0] := (by decide +kernel : ∀ t : Fin grid3.N, _)
theorem index3_5 : ∀ t : Fin cfg3.N, win3_5.index t = ![t.val, 0, 0] := (by decide +kernel : ∀ t : Fin grid3.N, _)

theorem iblk3_0_eq (c : Dev nD) (t : Fin cfg3.N) : iblk3 V c 0 t = row (n0 := 8) (n1 := 1) (n2 := 1024) (V c main_v20) t := by
  funext y
  blk_simp [iblk3, row]
  exact congrArg (V c main_v20) (by blk_ext [index3_0])

theorem iblk3_1_eq (c : Dev nD) (t : Fin cfg3.N) : iblk3 V c 1 t = row (n0 := 8) (n1 := 4) (n2 := 1024) (V c main_v22) t := by
  funext y
  blk_simp [iblk3, row]
  exact congrArg (V c main_v22) (by blk_ext [index3_1])

theorem iblk3_2_eq (c : Dev nD) (t : Fin cfg3.N) : iblk3 V c 2 t = row (n0 := 8) (n1 := 1024) (n2 := 4) (V c main_v21) t := by
  funext y
  blk_simp [iblk3, row]
  exact congrArg (V c main_v21) (by blk_ext [index3_2])

theorem iblk3_3_eq (c : Dev nD) (t : Fin cfg3.N) : iblk3 V c 3 t = row (n0 := 8) (n1 := 1) (n2 := 1024) (V c main_v24) t := by
  funext y
  blk_simp [iblk3, row]
  exact congrArg (V c main_v24) (by blk_ext [index3_3])

theorem after3_4_eq (c : Dev nD) (t : Fin cfg3.N) : (dat3 V c).after 4 t
    = outBlk (row (n0 := 8) (n1 := 1) (n2 := 1024) (V c main_v20) t) (row (n0 := 8) (n1 := 4) (n2 := 1024) (V c main_v22) t)
        (row (n0 := 8) (n1 := 1024) (n2 := 4) (V c main_v21) t) (row (n0 := 8) (n1 := 1) (n2 := 1024) (V c main_v24) t) := by
  rw [after3_4]
  unfold outsAt3
  dsimp only
  rw [out_4, iblk3_0_eq, iblk3_1_eq, iblk3_2_eq, iblk3_3_eq]

theorem after3_5_eq (c : Dev nD) (t : Fin cfg3.N) : (dat3 V c).after 5 t
    = countBlk (row (n0 := 8) (n1 := 1) (n2 := 1024) (V c main_v20) t) (row (n0 := 8) (n1 := 4) (n2 := 1024) (V c main_v22) t)
        (row (n0 := 8) (n1 := 1024) (n2 := 4) (V c main_v21) t) := by
  rw [after3_5]
  unfold outsAt3
  dsimp only
  rw [out_5, iblk3_0_eq, iblk3_1_eq, iblk3_2_eq]

/-- The selected scores, boxes and classes. -/
theorem arr3_4 (c : Dev nD) : (dat3 V c).arrAt 4 cfg3.N = ofRows (n0 := 8) (n1 := 8) (n2 := 256) fun b =>
    outBlk (row (n0 := 8) (n1 := 1) (n2 := 1024) (V c main_v20) b) (row (n0 := 8) (n1 := 4) (n2 := 1024) (V c main_v22) b)
        (row (n0 := 8) (n1 := 1024) (n2 := 4) (V c main_v21) b) (row (n0 := 8) (n1 := 1) (n2 := 1024) (V c main_v24) b) := by
  refine (dat3 V c).arrAt_eq_of_covers 4 _ (by decide +kernel) fun t hf y => ?_
  rw [after3_4_eq]
  blk_simp
  rw [show (win3_4.blk t).view.emb y = ix3 (n0 := 8) (n1 := 8) (n2 := 256) t (y 1) (y 2) from by blk_ext [index3_4]]
  exact ofRows_row (n0 := 8) (n1 := 8) (n2 := 256) (fun b => outBlk (row (n0 := 8) (n1 := 1) (n2 := 1024) (V c main_v20) b) (row (n0 := 8) (n1 := 4) (n2 := 1024) (V c main_v22) b)
        (row (n0 := 8) (n1 := 1024) (n2 := 4) (V c main_v21) b) (row (n0 := 8) (n1 := 1) (n2 := 1024) (V c main_v24) b)) t y

/-- The counts. -/
theorem arr3_5 (c : Dev nD) : (dat3 V c).arrAt 5 cfg3.N = ofRows (n0 := 8) (n1 := 1) (n2 := 128) fun b =>
    countBlk (row (n0 := 8) (n1 := 1) (n2 := 1024) (V c main_v20) b) (row (n0 := 8) (n1 := 4) (n2 := 1024) (V c main_v22) b)
        (row (n0 := 8) (n1 := 1024) (n2 := 4) (V c main_v21) b) := by
  refine (dat3 V c).arrAt_eq_of_covers 5 _ (by decide +kernel) fun t hf y => ?_
  rw [after3_5_eq]
  blk_simp
  rw [show (win3_5.blk t).view.emb y = ix3 (n0 := 8) (n1 := 1) (n2 := 128) t (y 1) (y 2) from by blk_ext [index3_5]]
  exact ofRows_row (n0 := 8) (n1 := 1) (n2 := 128) (fun b => countBlk (row (n0 := 8) (n1 := 1) (n2 := 1024) (V c main_v20) b) (row (n0 := 8) (n1 := 4) (n2 := 1024) (V c main_v22) b)
        (row (n0 := 8) (n1 := 1024) (n2 := 4) (V c main_v21) b)) t y

end Arrays

end Cert.KernelIdeal.Value

end
-- ==== Proof.Spec.lean ====
/- The whole computation for one image, in plain terms: from the raw predictions of all the anchors and their boxes to the
   detections returned. -/
module

public import proofs.«01_k».proof.Proof.Cell
public import proofs.«01_k».proof.Proof.CellMath
public import proofs.«01_k».proof.Proof.Nms
public import proofs.«01_k».proof.Proof.Pick

@[expose] public section

noncomputable section

namespace Cert.Spec

open Idealize.ShloMosaic

variable (raw : Fin 16128 → Fin 85 → EReal) (box : Fin 16128 → Fin 4 → EReal)

/-- The score of each anchor. -/
def score (P : Fin 16128) : EReal := Cell.score (raw P)

/-- The anchor of the candidate at place `i`: the thousand best are the candidates. -/
def sel (i : Fin 1000) : Fin 16128 := Order.src (score raw) (i.castLE (by decide))

/-- The candidates' scores. -/
def cand (i : Fin 1000) : EReal := score raw (sel raw i)

theorem cand_antitone : Antitone (cand raw) := fun _ _ h => Order.src_antitone (score raw) (Fin.le_def.mpr (Fin.le_def.mp h))

theorem cand_nonneg (i : Fin 1000) : 0 ≤ cand raw i := Cell.score_nonneg _

/-- The candidates' boxes. -/
def lane (j : ℕ) (q : Fin 4) : EReal := if h : j < 1000 then box (sel raw ⟨j, h⟩) q else 0

/-- Which candidates are kept. -/
def kept (j : ℕ) : Prop := Nms.keep (lane raw box) 1000 j

open Classical in
/-- The place among the candidates of the `p`th detection. -/
def place (p : Fin 200) : Fin 1000 := Pick.ordered (kept raw box) (cand raw) (p.castLE (by decide))

open Classical in
/-- The score of the `p`th detection, zero after the last. -/
def best (p : Fin 200) : EReal := Pick.best (kept raw box) (cand raw) (p.castLE (by decide))

/-- The box of the `p`th detection, zero after the last. -/
def outBox (p : Fin 200) (q : Fin 4) : EReal := if 0 < best raw box p then box (sel raw (place raw box p)) q else 0

/-- The class of the `p`th detection, minus one after the last. -/
def outClass (p : Fin 200) : BitVec 32 :=
  if 0 < best raw box p then BitVec.ofNat 32 (Cell.cls (raw (sel raw (place raw box p)))).val else 4294967295#32

/-- How many detections there are. -/
def outCount : BitVec 32 := BitVec.ofNat 32 (Finset.univ.filter fun p : Fin 200 => 0 < best raw box p).card

open Classical in
theorem best_nonneg (p : Fin 200) : 0 ≤ best raw box p := Pick.best_nonneg _ _ (cand_nonneg raw) _

open Classical in
/-- A detection's anchor has a positive score. -/
theorem best_score (p : Fin 200) (h : 0 < best raw box p) : 0 < score raw (sel raw (place raw box p)) := by
  have e := (Pick.best_pos _ _ (cand_antitone raw) (cand_nonneg raw) _ h).2.2
  exact lt_of_lt_of_eq h e

section Same

variable {raw} {box} {K : ℕ → Prop} (h : K = kept raw box) (d : DecidablePred K)

include h

theorem best_of (p : Fin 200) : Pick.best K (cand raw) (p.castLE (by decide)) = best raw box p := by
  subst h
  unfold best
  congr

theorem place_of (p : Fin 200) : Pick.ordered K (cand raw) (p.castLE (by decide)) = place raw box p := by
  subst h
  unfold place
  congr

theorem count_of : min (Finset.univ.filter fun j : Fin 1000 => 0 < Order.masked (cand raw) (fun j : Fin 1000 => K j.val) j).card 200
    = (Finset.univ.filter fun p : Fin 200 => 0 < best raw box p).card := by
  rw [← Pick.count_best K (cand raw)]
  simp only [best_of h d]

end Same

end Cert.Spec

end
-- ==== Proof.KernelOut.lean ====
/- The kernel's four results, one image at a time. -/
module

public import proofs.«01_k».proof.Proof.KernelCand
public import proofs.«01_k».proof.Proof.NmsOut
public import proofs.«01_k».proof.Proof.Region3
public import proofs.«01_k».proof.Proof.Spec

@[expose] public section

set_option maxRecDepth 16384

noncomputable section

namespace Cert.KernelIdeal.Value

open Cert.KernelIdeal Cert.KernelIdeal.Gen
open Idealize.ShloMosaic Idealize.ShloMosaic.TcCoe Idealize.ShloMosaic.StableHlo
open Idealize.SL.Sem

section Any

variable (W : Valuation τ sig (Elt Ideal)) (b : Fin 8) (p : Fin 200)

theorem tail_score : (after hostOps4 W (Proc.devRef .tc main_v27) : S8x200.Idx → EReal) (ix2 b p)
    = (W (Proc.devRef .tc main_v25_0) : S8x8x256.Idx → EReal) (ix3 b 0 (p.castLE (by decide))) := by
  after_reads_at
  rfl

theorem tail_box (q : Fin 4) : (after hostOps4 W (Proc.devRef .tc main_v29) : S8x200x4.Idx → EReal) (ix3 b p q)
    = (W (Proc.devRef .tc main_v25_0) : S8x8x256.Idx → EReal) (ix3 b ⟨q.val + 1, by omega⟩ (p.castLE (by decide))) := by
  after_reads_at
  rw [show (⟨1 + q.val, by omega⟩ : Fin 8) = ⟨q.val + 1, by omega⟩ from Fin.ext (Nat.add_comm _ _)]
  rfl

theorem tail_class : (after hostOps4_1 (after hostOps4 W) (Proc.devRef .tc main_v35) : S8x200.Idx → BitVec 32) (ix2 b p)
    = if (0 : EReal) < (W (Proc.devRef .tc main_v25_0) : S8x8x256.Idx → EReal) (ix3 b 0 (p.castLE (by decide)))
      then Ideal.fptosi 32 ((W (Proc.devRef .tc main_v25_0) : S8x8x256.Idx → EReal) (ix3 b 5 (p.castLE (by decide)))) else 4294967295#32 := by
  after_reads_at
  rfl

theorem tail_count : (after hostOps4_2 W (Proc.devRef .tc main_v38) : S8.Idx → BitVec 32) (ix1 b)
    = Ideal.fptosi 32 ((W (Proc.devRef .tc main_v25_1) : S8x1x128.Idx → EReal) (ix3 b 0 0)) := by
  after_reads_at
  rfl

end Any

section Rows

variable {raw : Fin 16128 → Fin 85 → EReal} {box : Fin 16128 → Fin 4 → EReal}
variable (x0 : FVec Ideal S1x1x1024 .f32) (x1 : FVec Ideal S1x4x1024 .f32) (x2 : FVec Ideal S1x1024x4 .f32) (x3 : FVec Ideal S1x1x1024 .f32)
variable (hx : ∀ (q : Fin 4) (j : Fin 1024), x2 (ix3 0 j q) = x1 (ix3 0 q j))
variable (z0 : ∀ j : Fin 1024, 1000 ≤ j.val → x0 (ix3 0 0 j) = 0) (z1 : ∀ (q : Fin 4) (j : Fin 1024), 1000 ≤ j.val → x1 (ix3 0 q j) = 0)
variable (z3 : ∀ j : Fin 1024, 1000 ≤ j.val → x3 (ix3 0 0 j) = 0)
variable (hc : candScore x0 = Spec.cand raw) (hk : keptLane x1 = Spec.kept raw box)

include hx z0 hc hk

theorem row_score (p : Fin 200) : outBlk (F := Ideal) x0 x1 x2 x3 (ix3 0 0 (p.castLE (by decide))) = Spec.best raw box p := by
  refine (out_score x0 x1 x2 x3 hx z0 (by rw [hc]; exact Spec.cand_antitone _) (by rw [hc]; exact Spec.cand_nonneg _) p).trans ?_
  rw [hc]
  exact Spec.best_of hk _ p

include z1 in
theorem row_box (p : Fin 200) (q : Fin 4) : outBlk (F := Ideal) x0 x1 x2 x3 (ix3 0 ⟨q.val + 1, by omega⟩ (p.castLE (by decide)))
    = if 0 < Spec.best raw box p then x1 (ix3 0 q ((Spec.place raw box p).castLE (by decide))) else 0 := by
  refine (out_box x0 x1 x2 x3 hx z0 z1 (by rw [hc]; exact Spec.cand_antitone _) (by rw [hc]; exact Spec.cand_nonneg _) p q).trans ?_
  rw [hc, Spec.best_of hk _ p, Spec.place_of hk _ p]

include z3 in
theorem row_class (p : Fin 200) (h : 0 < Spec.best raw box p) : outBlk (F := Ideal) x0 x1 x2 x3 (ix3 0 5 (p.castLE (by decide)))
    = x3 (ix3 0 0 ((Spec.place raw box p).castLE (by decide))) := by
  refine (out_class x0 x1 x2 x3 hx z0 z3 (by rw [hc]; exact Spec.cand_antitone _) (by rw [hc]; exact Spec.cand_nonneg _) p
    (by rw [hc, Spec.best_of hk _ p]; exact h)).trans ?_
  rw [hc, Spec.place_of hk _ p]

theorem row_count : Ideal.fptosi 32 (countBlk (F := Ideal) x0 x1 x2 (ix3 0 0 0)) = Spec.outCount raw box := by
  rw [out_count x0 x1 x2 hx z0 (by rw [hc]; exact Spec.cand_nonneg _), hc, Spec.count_of hk (fun _ => Classical.propDecidable _)]
  have hle : (Finset.univ.filter fun p : Fin 200 => 0 < Spec.best raw box p).card ≤ 200 := (Finset.card_le_univ _).trans (by simp)
  unfold Spec.outCount
  generalize (Finset.univ.filter fun p : Fin 200 => 0 < Spec.best raw box p).card = n at hle
  rw [← Cell.sitofp_small n (by omega)]
  exact Cell.fptosi_sitofp n (by omega)

end Rows

variable (m : (ℓ : Loc nD τ sig) → Buf (Elt Ideal) ℓ) (ρ : Dev nD → PrngReg) (c : Dev nD) (b : Fin 8)

/-- The suppression call's operands for one image. -/
abbrev op0 : FVec Ideal S1x1x1024 .f32 := row (n0 := 8) (n1 := 1) (n2 := 1024) (V16 m ρ c main_v20) b
abbrev op1 : FVec Ideal S1x4x1024 .f32 := row (n0 := 8) (n1 := 4) (n2 := 1024) (V16 m ρ c main_v22) b
abbrev op2 : FVec Ideal S1x1024x4 .f32 := row (n0 := 8) (n1 := 1024) (n2 := 4) (V16 m ρ c main_v21) b
abbrev op3 : FVec Ideal S1x1x1024 .f32 := row (n0 := 8) (n1 := 1) (n2 := 1024) (V16 m ρ c main_v24) b

theorem out0 (r : Fin 8) (p : Fin 256) : (W17 m ρ c (Proc.devRef .tc main_v25_0) : S8x8x256.Idx → EReal) (ix3 b r p)
    = outBlk (F := Ideal) (op0 m ρ c b) (op1 m ρ c b) (op2 m ρ c b) (op3 m ρ c b) (ix3 0 r p) :=
  congrFun ((W17_arr m ρ c 4).trans (arr3_4 (V16 m ρ) c)) (ix3 b r p)

theorem out1 : (W17 m ρ c (Proc.devRef .tc main_v25_1) : S8x1x128.Idx → EReal) (ix3 b 0 0)
    = countBlk (F := Ideal) (op0 m ρ c b) (op1 m ρ c b) (op2 m ρ c b) (ix3 0 0 0) :=
  congrFun ((W17_arr m ρ c 5).trans (arr3_5 (V16 m ρ) c)) (ix3 b 0 0)

theorem op_same (q : Fin 4) (j : Fin 1024) : op2 m ρ c b (ix3 0 j q) = op1 m ρ c b (ix3 0 q j) :=
  (cand_box_rows m ρ c b j q).trans (cand_box_lanes m ρ c b j q).symm

theorem op0_zero (j : Fin 1024) (h : 1000 ≤ j.val) : op0 m ρ c b (ix3 0 0 j) = 0 := (cand_score m ρ c b j).trans (dif_neg (by omega))

theorem op1_zero (q : Fin 4) (j : Fin 1024) (h : 1000 ≤ j.val) : op1 m ρ c b (ix3 0 q j) = 0 := (cand_box_lanes m ρ c b j q).trans (dif_neg (by omega))

theorem op3_zero (j : Fin 1024) (h : 1000 ≤ j.val) : op3 m ρ c b (ix3 0 0 j) = 0 := (cand_class m ρ c b j).trans (dif_neg (by omega))

theorem op1_at (j : Fin 1000) (q : Fin 4) : op1 m ρ c b (ix3 0 q (j.castLE (by decide))) = kBox m ρ c b (Spec.sel (chnAll m c b) j) q :=
  (cand_box_lanes m ρ c b (j.castLE (by decide)) q).trans (dif_pos j.isLt)

theorem op3_at (j : Fin 1000) : op3 m ρ c b (ix3 0 0 (j.castLE (by decide)))
    = FloatOps.sitofp (F := Ideal) .f32 (BitVec.ofNat 32 (Cell.cls (chnAll m c b (Spec.sel (chnAll m c b) j))).val) :=
  (cand_class m ρ c b (j.castLE (by decide))).trans (dif_pos j.isLt)

theorem op_cand : candScore (op0 m ρ c b) = Spec.cand (chnAll m c b) := by
  funext j
  exact (cand_score m ρ c b (j.castLE (by decide))).trans (dif_pos j.isLt)

theorem op_lane : boxLane (op1 m ρ c b) = Spec.lane (chnAll m c b) (kBox m ρ c b) := by
  funext j q
  unfold boxLane Spec.lane
  by_cases h : j < 1024
  · rw [dif_pos h]
    exact cand_box_lanes m ρ c b ⟨j, h⟩ q
  · rw [dif_neg h, dif_neg (by omega)]

theorem op_kept : keptLane (op1 m ρ c b) = Spec.kept (chnAll m c b) (kBox m ρ c b) := by
  unfold keptLane Spec.kept
  rw [op_lane]

theorem op_best (p : Fin 200) : outBlk (F := Ideal) (op0 m ρ c b) (op1 m ρ c b) (op2 m ρ c b) (op3 m ρ c b) (ix3 0 0 (p.castLE (by decide)))
    = Spec.best (chnAll m c b) (kBox m ρ c b) p :=
  row_score _ _ _ _ (op_same m ρ c b) (op0_zero m ρ c b) (op_cand m ρ c b) (op_kept m ρ c b) p

/-- The kernel's second result: the scores. -/
theorem k_score (p : Fin 200) : (W20 m ρ c (Proc.devRef .tc main_v27) : S8x200.Idx → EReal) (ix2 b p) = Spec.best (chnAll m c b) (kBox m ρ c b) p := by
  refine (congrFun ((W20_of m ρ c main_v27 (by decide)).trans (W19_of m ρ c main_v27 (by decide))) _).trans ?_
  exact (tail_score (W17 m ρ c) b p).trans ((out0 m ρ c b 0 _).trans (op_best m ρ c b p))

/-- The kernel's first result: the boxes. -/
theorem k_box (p : Fin 200) (q : Fin 4) : (W20 m ρ c (Proc.devRef .tc main_v29) : S8x200x4.Idx → EReal) (ix3 b p q)
    = Spec.outBox (chnAll m c b) (kBox m ρ c b) p q := by
  refine (congrFun ((W20_of m ρ c main_v29 (by decide)).trans (W19_of m ρ c main_v29 (by decide))) _).trans ?_
  refine (tail_box (W17 m ρ c) b p q).trans ((out0 m ρ c b _ _).trans ?_)
  refine (row_box _ _ _ _ (op_same m ρ c b) (op0_zero m ρ c b) (op1_zero m ρ c b) (op_cand m ρ c b) (op_kept m ρ c b) p q).trans ?_
  unfold Spec.outBox
  refine if_congr Iff.rfl ?_ rfl
  exact op1_at m ρ c b _ q

/-- The kernel's third result: the classes. -/
theorem k_class (p : Fin 200) : (W20 m ρ c (Proc.devRef .tc main_v35) : S8x200.Idx → BitVec 32) (ix2 b p)
    = Spec.outClass (chnAll m c b) (kBox m ρ c b) p := by
  refine (congrFun (W20_of m ρ c main_v35 (by decide)) _).trans ((tail_class (W17 m ρ c) b p).trans ?_)
  rw [out0, out0, op_best]
  unfold Spec.outClass
  by_cases h : 0 < Spec.best (chnAll m c b) (kBox m ρ c b) p
  · rw [if_pos h, if_pos h]
    refine (congrArg (Ideal.fptosi 32) ((row_class (op0 m ρ c b) (op1 m ρ c b) (op2 m ρ c b) (op3 m ρ c b) (op_same m ρ c b) (op0_zero m ρ c b) (op3_zero m ρ c b)
      (op_cand m ρ c b) (op_kept m ρ c b) p h).trans (op3_at m ρ c b _))).trans ?_
    exact Cell.fptosi_sitofp _ (by omega)
  · rw [if_neg h, if_neg h]

/-- The kernel's fourth result: how many. -/
theorem k_count : (W20 m ρ c (Proc.devRef .tc main_v38) : S8.Idx → BitVec 32) (ix1 b) = Spec.outCount (chnAll m c b) (kBox m ρ c b) := by
  refine (tail_count (W19 m ρ c) b).trans ?_
  rw [show (W19 m ρ c (Proc.devRef .tc main_v25_1) : S8x1x128.Idx → EReal) (ix3 b 0 0) = _ from
    (congrFun ((W19_of m ρ c main_v25_1 (by decide)).trans (W18_of m ρ c main_v25_1 (by decide))) _).trans (out1 m ρ c b)]
  exact row_count _ _ _ (op_same m ρ c b) (op0_zero m ρ c b) (op_cand m ρ c b) (op_kept m ρ c b)

end Cert.KernelIdeal.Value

end
-- ==== Proof.RefStep.lean ====
/- What each of the reference's stretches between its decoding and its loop leaves, at an index. -/
module

public import proofs.«01_k».proof.Proof.RefRun
public import proofs.«01_k».proof.Proof.Select
public import proofs.«01_k».proof.Proof.Take
public import proofs.«01_k».proof.Proof.Nms
public import Idealize.ShloMosaic.Lib.StableHlo.ReadAt

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Idealize.SL.Sem

variable (W : Valuation τ sig (Elt Ideal))

theorem values_read : (after hostOps0_2 W (Proc.devRef .tc main_values) : S8x1000.Idx → EReal)
    = (Host.topK S8x1000 1 (FloatOps.cmpfTotal (F := Ideal) (φ := .f32) .gt) (W (Proc.devRef .tc main_v254) : S8x16128.Idx → EReal) sliceFits_S8x16128_S8x1000).1 := by
  after_reads_simp

theorem indices_read : (after hostOps0_2 W (Proc.devRef .tc main_indices) : S8x1000.Idx → BitVec 32)
    = (Host.topK S8x1000 1 (FloatOps.cmpfTotal (F := Ideal) (φ := .f32) .gt) (W (Proc.devRef .tc main_v254) : S8x16128.Idx → EReal) sliceFits_S8x16128_S8x1000).2 := by
  after_reads_simp

theorem column_read (b : Fin 8) (i : Fin 1000) : (after hostOps0_2 W (Proc.devRef .tc main_v256) : S8x1000x1.Idx → BitVec 32) (ix3 b i 0)
    = (after hostOps0_2 W (Proc.devRef .tc main_indices) : S8x1000.Idx → BitVec 32) (ix2 b i) := by
  have e : (after hostOps0_2 W (Proc.devRef .tc main_v256) : S8x1000x1.Idx → BitVec 32) = broadcastInDim S8x1000x1 ![0, 1] bcast_S8x1000_S8x1000x1_0_1
      (after hostOps0_2 W (Proc.devRef .tc main_indices) : S8x1000.Idx → BitVec 32) := by
    after_reads_simp
  rw [e]
  generalize (after hostOps0_2 W (Proc.devRef .tc main_indices) : S8x1000.Idx → BitVec 32) = X
  pointwise []

theorem take_boxes (b : Fin 8) (i : Fin 1000) (q : Fin 4) (k : Fin 16128)
    (hw : (W (Proc.devRef .tc main_v256) : S8x1000x1.Idx → BitVec 32) (ix3 b i 0) = BitVec.ofNat 32 k.val) :
    (after hostOps0_3 W (Proc.devRef .tc main_v257) : S8x1000x4.Idx → EReal) (ix3 b i q) = (W (Proc.devRef .tc main_v241) : S8x16128x4.Idx → EReal) (ix3 b k q) := by
  after_reads_at
  exact Take.take3 _ _ _ _ _ _ (fun x => (W (Proc.devRef .tc main_v256) : S8x1000x1.Idx → BitVec 32) (ix3 b i x)) b i q k (by decide) rfl hw rfl

theorem take_classes (b : Fin 8) (i : Fin 1000) (k : Fin 16128)
    (hw : (W (Proc.devRef .tc main_indices) : S8x1000.Idx → BitVec 32) (ix2 b i) = BitVec.ofNat 32 k.val) :
    (after hostOps0_4 W (Proc.devRef .tc main_v258) : S8x1000.Idx → BitVec 32) (ix2 b i) = (W (Proc.devRef .tc main_v255) : S8x16128.Idx → BitVec 32) (ix2 b k) := by
  after_reads_at
  exact Take.take2 _ _ _ _ _ _ (fun _ => (W (Proc.devRef .tc main_indices) : S8x1000.Idx → BitVec 32) (ix2 b i)) b i k (by decide) rfl hw rfl

theorem negated : (after hostOps0_5 W (Proc.devRef .tc main_v259) : S8x1000.Idx → EReal)
    = Host.negf (F := Ideal) (φ := .f32) (W (Proc.devRef .tc main_values) : S8x1000.Idx → EReal) := by
  after_reads_simp

theorem sorted : (after hostOps0_6 W (Proc.devRef .tc main_v260) : S8x1000.Idx → BitVec 32)
    = (Host.sort2 S8x1000 1 (comparator_f32_i32_d1 (F := Ideal)) (W (Proc.devRef .tc main_v259) : S8x1000.Idx → EReal) (iotaInDim S8x1000 32 1)).2 := by
  after_reads_simp
  rfl

theorem sorted_column (b : Fin 8) (i : Fin 1000) : (after hostOps0_7 W (Proc.devRef .tc main_v261) : S8x1000x1.Idx → BitVec 32) (ix3 b i 0)
    = (W (Proc.devRef .tc main_v260) : S8x1000.Idx → BitVec 32) (ix2 b i) := by
  after_reads_at

theorem retake_boxes (b : Fin 8) (i : Fin 1000) (q : Fin 4) (k : Fin 1000)
    (hw : (W (Proc.devRef .tc main_v261) : S8x1000x1.Idx → BitVec 32) (ix3 b i 0) = BitVec.ofNat 32 k.val) :
    (after hostOps0_8 W (Proc.devRef .tc main_v262) : S8x1000x4.Idx → EReal) (ix3 b i q) = (W (Proc.devRef .tc main_v257) : S8x1000x4.Idx → EReal) (ix3 b k q) := by
  after_reads_at
  exact Take.take3 _ _ _ _ _ _ (fun x => (W (Proc.devRef .tc main_v261) : S8x1000x1.Idx → BitVec 32) (ix3 b i x)) b i q k (by decide) rfl hw rfl

theorem retake_scores (b : Fin 8) (i : Fin 1000) (k : Fin 1000)
    (hw : (W (Proc.devRef .tc main_v260) : S8x1000.Idx → BitVec 32) (ix2 b i) = BitVec.ofNat 32 k.val) :
    (after hostOps0_9 W (Proc.devRef .tc main_v263) : S8x1000.Idx → EReal) (ix2 b i) = (W (Proc.devRef .tc main_values) : S8x1000.Idx → EReal) (ix2 b k) := by
  after_reads_at
  exact Take.take2 _ _ _ _ _ _ (fun _ => (W (Proc.devRef .tc main_v260) : S8x1000.Idx → BitVec 32) (ix2 b i)) b i k (by decide) rfl hw rfl

theorem retake_classes (b : Fin 8) (i : Fin 1000) (k : Fin 1000)
    (hw : (W (Proc.devRef .tc main_v260) : S8x1000.Idx → BitVec 32) (ix2 b i) = BitVec.ofNat 32 k.val) :
    (after hostOps0_10 W (Proc.devRef .tc main_v264) : S8x1000.Idx → BitVec 32) (ix2 b i) = (W (Proc.devRef .tc main_v258) : S8x1000.Idx → BitVec 32) (ix2 b k) := by
  after_reads_at
  exact Take.take2 _ _ _ _ _ _ (fun _ => (W (Proc.devRef .tc main_v260) : S8x1000.Idx → BitVec 32) (ix2 b i)) b i k (by decide) rfl hw rfl

/-- The overlap of every two candidates. -/
theorem overlaps (b : Fin 8) (i j : Fin 1000) : (after hostOps0_11 W (Proc.devRef .tc main_v341_0) : S8x1000x1000.Idx → EReal) (ix3 b i j)
    = Nms.iou (fun q => (W (Proc.devRef .tc main_v262) : S8x1000x4.Idx → EReal) (ix3 b i q)) (fun q => (W (Proc.devRef .tc main_v262) : S8x1000x4.Idx → EReal) (ix3 b j q)) := by
  after_reads_at
  rw [id]
  pointwise []
  unfold Nms.iou Nms.inter Nms.area
  rfl

theorem numbers (j : Fin 1000) : (after hostOps0_11 W (Proc.devRef .tc main_v341_1) : S1000.Idx → BitVec 32) (ix1 j) = BitVec.ofNat 32 j.val := by
  after_reads_at
  rfl

theorem start_at : (after hostOps0_11 W (Proc.devRef .tc main_v341_3) : S_.Idx → BitVec 32) = fun _ => 0#32 := by
  after_reads_simp
  rfl

theorem all_kept (b : Fin 8) (j : Fin 1000) : (after hostOps0_11 W (Proc.devRef .tc main_v341_4) : S8x1000.Idx → BitVec 1) (ix2 b j) = 1#1 := by
  after_reads_at
  rfl

end Cert.ReferenceIdeal.Value

end
-- ==== Proof.RefLevel.lean ====
/- What the reference decodes at each level, read at an index. -/
module

public import proofs.«01_k».proof.Proof.RefRun
public import proofs.«01_k».proof.Proof.Cell
public import Idealize.ShloMosaic.Lib.StableHlo.ReadAt
public import Idealize.ShloMosaic.Lib.Pointwise

@[expose] public section

set_option maxRecDepth 16384

noncomputable section

namespace Cert.ReferenceIdeal.Value

open Idealize.ShloMosaic Idealize.ShloMosaic.TcCoe Idealize.ShloMosaic.StableHlo
open Idealize.SL Idealize.SL.RA Idealize.SL.BI Idealize.SL.Sem
open Cert.ReferenceIdeal Cert.ReferenceIdeal.Gen

variable (V : Valuation τ sig (Elt Idealize.ShloMosaic.Ideal))

/-- The channels of an anchor at the three levels. -/
abbrev raw0 (b : Fin 8) (p : Fin 12288) : Fin 85 → EReal := Cell.raw 64 192 12288 rfl rfl (V (Proc.devRef .tc main_arg0)) b p
abbrev raw1 (b : Fin 8) (p : Fin 3072) : Fin 85 → EReal := Cell.raw 32 96 3072 rfl rfl (V (Proc.devRef .tc main_arg1)) b p
abbrev raw2 (b : Fin 8) (p : Fin 768) : Fin 85 → EReal := Cell.raw 16 48 768 rfl rfl (V (Proc.devRef .tc main_arg2)) b p

theorem obj0 (b : Fin 8) (p : Fin 12288) :
    (after hostOps0 V (Proc.devRef .tc main_v77) : S8x12288.Idx → EReal) (ix2 b p) = Ideal.logistic (raw0 V b p 4) := by
  after_reads_at
  rfl
theorem obj1 (b : Fin 8) (p : Fin 3072) :
    (after hostOps0 V (Proc.devRef .tc main_v157) : S8x3072.Idx → EReal) (ix2 b p) = Ideal.logistic (raw1 V b p 4) := by
  after_reads_at
  rfl
theorem obj2 (b : Fin 8) (p : Fin 768) :
    (after hostOps0 V (Proc.devRef .tc main_v237) : S8x768.Idx → EReal) (ix2 b p) = Ideal.logistic (raw2 V b p 4) := by
  after_reads_at
  rfl

theorem prob0 (b : Fin 8) (p : Fin 12288) (k : Fin 80) :
    (after hostOps0 V (Proc.devRef .tc main_v79) : S8x12288x80.Idx → EReal) (ix3 b p k) = Cell.prob (raw0 V b p) k := by
  after_reads_at
  rfl
theorem prob1 (b : Fin 8) (p : Fin 3072) (k : Fin 80) :
    (after hostOps0 V (Proc.devRef .tc main_v159) : S8x3072x80.Idx → EReal) (ix3 b p k) = Cell.prob (raw1 V b p) k := by
  after_reads_at
  rfl
theorem prob2 (b : Fin 8) (p : Fin 768) (k : Fin 80) :
    (after hostOps0 V (Proc.devRef .tc main_v239) : S8x768x80.Idx → EReal) (ix3 b p k) = Cell.prob (raw2 V b p) k := by
  after_reads_at
  rfl

/-- The four coordinates of a box, one at a time. -/
theorem coord_cases (q : Fin 4) : q = 0 ∨ q = 1 ∨ q = 2 ∨ q = 3 := by omega

theorem box0 (b : Fin 8) (p : Fin 12288) (q : Fin 4) :
    (after hostOps0 V (Proc.devRef .tc main_v78) : S8x12288x4.Idx → EReal) (ix3 b p q)
      = Cell.refBox 0x3F99999A#32 0x3DCCCCCD#32 0x42800000#32 0x41000000#32 (raw0 V b p) (p.val / 3 % 64) (p.val / 192)
          (lit0 (S3x2.rowMajor (ix2 ⟨p.val % 3, Nat.mod_lt _ (by omega)⟩ 0))) (lit0 (S3x2.rowMajor (ix2 ⟨p.val % 3, Nat.mod_lt _ (by omega)⟩ 1))) q := by
  rcases coord_cases q with rfl | rfl | rfl | rfl <;> (after_reads_at; after_reads_at; after_reads_at; rfl)
theorem box1 (b : Fin 8) (p : Fin 3072) (q : Fin 4) :
    (after hostOps0 V (Proc.devRef .tc main_v158) : S8x3072x4.Idx → EReal) (ix3 b p q)
      = Cell.refBox 0x3F8CCCCD#32 0x3D4CCCCD#32 0x42000000#32 0x41800000#32 (raw1 V b p) (p.val / 3 % 32) (p.val / 96)
          (lit1 (S3x2.rowMajor (ix2 ⟨p.val % 3, Nat.mod_lt _ (by omega)⟩ 0))) (lit1 (S3x2.rowMajor (ix2 ⟨p.val % 3, Nat.mod_lt _ (by omega)⟩ 1))) q := by
  rcases coord_cases q with rfl | rfl | rfl | rfl <;> (after_reads_at; after_reads_at; after_reads_at; rfl)
theorem box2 (b : Fin 8) (p : Fin 768) (q : Fin 4) :
    (after hostOps0 V (Proc.devRef .tc main_v238) : S8x768x4.Idx → EReal) (ix3 b p q)
      = Cell.refBox 0x3F866666#32 0x3CCCCCCD#32 0x41800000#32 0x42000000#32 (raw2 V b p) (p.val / 3 % 16) (p.val / 48)
          (lit2 (S3x2.rowMajor (ix2 ⟨p.val % 3, Nat.mod_lt _ (by omega)⟩ 0))) (lit2 (S3x2.rowMajor (ix2 ⟨p.val % 3, Nat.mod_lt _ (by omega)⟩ 1))) q := by
  rcases coord_cases q with rfl | rfl | rfl | rfl <;> (after_reads_at; after_reads_at; after_reads_at; rfl)

end Cert.ReferenceIdeal.Value
end
-- ==== Proof.RefDecode.lean ====
/- What the reference decodes over all the levels together, read at an index. -/
module

public import proofs.«01_k».proof.Proof.RefLevel
public import proofs.«01_k».proof.Proof.CellMath

@[expose] public section

set_option maxRecDepth 16384

noncomputable section

namespace Cert.ReferenceIdeal.Value

open Idealize.ShloMosaic Idealize.ShloMosaic.TcCoe Idealize.ShloMosaic.StableHlo
open Idealize.SL Idealize.SL.RA Idealize.SL.BI Idealize.SL.Sem
open Cert.ReferenceIdeal Cert.ReferenceIdeal.Gen

variable (V : Valuation τ sig (Elt Idealize.ShloMosaic.Ideal))

/-- The channels of anchor `P` of all the levels together. -/
def rawAll (b : Fin 8) (P : Fin 16128) : Fin 85 → EReal :=
  if h : P.val < 12288 then raw0 V b ⟨P.val, h⟩
  else if h1 : P.val - 12288 < 3072 then raw1 V b ⟨P.val - 12288, h1⟩
  else raw2 V b ⟨P.val - 12288 - 3072, by omega⟩

/-- What a line leaves at a buffer its last operations do not write, it had left before them. -/
theorem upto_eq_after (n : ℕ) (r : Ref sig .tc)
    (h : ((hostOps0 : List (HloOp τ sig (Elt Idealize.ShloMosaic.Ideal))).drop n).map HloOp.writes = (hostOps0_W.drop n).map fun w => {Proc.devRef (τ := τ) .tc w})
    (hr : r ∉ hostOps0_W.drop n) : upto hostOps0 V n (Proc.devRef .tc r) = after hostOps0 V (Proc.devRef .tc r) := by
  have e := after_unwritten _ h hr (upto hostOps0 V n)
  rw [← e, upto, ← after_append, List.take_append_drop]

theorem up77 : upto hostOps0 V 285 (Proc.devRef .tc main_v77) = after hostOps0 V (Proc.devRef .tc main_v77) :=
  upto_eq_after V 285 _ rfl (by decide)
theorem up157 : upto hostOps0 V 285 (Proc.devRef .tc main_v157) = after hostOps0 V (Proc.devRef .tc main_v157) :=
  upto_eq_after V 285 _ rfl (by decide)
theorem up237 : upto hostOps0 V 285 (Proc.devRef .tc main_v237) = after hostOps0 V (Proc.devRef .tc main_v237) :=
  upto_eq_after V 285 _ rfl (by decide)
theorem up78 : upto hostOps0 V 286 (Proc.devRef .tc main_v78) = after hostOps0 V (Proc.devRef .tc main_v78) :=
  upto_eq_after V 286 _ rfl (by decide)
theorem up158 : upto hostOps0 V 286 (Proc.devRef .tc main_v158) = after hostOps0 V (Proc.devRef .tc main_v158) :=
  upto_eq_after V 286 _ rfl (by decide)
theorem up238 : upto hostOps0 V 286 (Proc.devRef .tc main_v238) = after hostOps0 V (Proc.devRef .tc main_v238) :=
  upto_eq_after V 286 _ rfl (by decide)
theorem up79 : upto hostOps0 V 287 (Proc.devRef .tc main_v79) = after hostOps0 V (Proc.devRef .tc main_v79) :=
  upto_eq_after V 287 _ rfl (by decide)
theorem up159 : upto hostOps0 V 287 (Proc.devRef .tc main_v159) = after hostOps0 V (Proc.devRef .tc main_v159) :=
  upto_eq_after V 287 _ rfl (by decide)
theorem up239 : upto hostOps0 V 287 (Proc.devRef .tc main_v239) = after hostOps0 V (Proc.devRef .tc main_v239) :=
  upto_eq_after V 287 _ rfl (by decide)

/-- The boxes of all the levels. -/
def boxAll (b : Fin 8) (P : Fin 16128) : Fin 4 → EReal :=
  if h : P.val < 12288 then fun q => (after hostOps0 V (Proc.devRef .tc main_v78) : S8x12288x4.Idx → EReal) (ix3 b ⟨P.val, h⟩ q)
  else if h1 : P.val - 12288 < 3072 then fun q => (after hostOps0 V (Proc.devRef .tc main_v158) : S8x3072x4.Idx → EReal) (ix3 b ⟨P.val - 12288, h1⟩ q)
  else fun q => (after hostOps0 V (Proc.devRef .tc main_v238) : S8x768x4.Idx → EReal) (ix3 b ⟨P.val - 12288 - 3072, by omega⟩ q)

theorem box_read : (after hostOps0 V (Proc.devRef .tc main_v241) : S8x16128x4.Idx → EReal)
    = concatenate S8x16128x4 1 [⟨S8x12288x4, upto hostOps0 V 286 (Proc.devRef .tc main_v78)⟩, ⟨S8x3072x4, upto hostOps0 V 286 (Proc.devRef .tc main_v158)⟩,
        ⟨S8x768x4, upto hostOps0 V 286 (Proc.devRef .tc main_v238)⟩] concatenates_S8x12288x4_S8x3072x4_S8x768x4_S8x16128x4_d1 := by
  after_reads_simp
  rfl

theorem box_all (b : Fin 8) (P : Fin 16128) (q : Fin 4) :
    (after hostOps0 V (Proc.devRef .tc main_v241) : S8x16128x4.Idx → EReal) (ix3 b P q) = boxAll V b P q := by
  rw [box_read, up78, up158, up238]
  generalize e0 : after hostOps0 V (Proc.devRef .tc main_v78) = X0
  generalize e1 : after hostOps0 V (Proc.devRef .tc main_v158) = X1
  generalize e2 : after hostOps0 V (Proc.devRef .tc main_v238) = X2
  unfold boxAll
  rw [e0, e1, e2]
  pointwise []
  split
  · rfl
  · split <;> rfl

theorem mask_all (b : Fin 8) (P : Fin 16128) (k : Fin 80) :
    (after hostOps0 V (Proc.devRef .tc main_v253) : S8x16128x80.Idx → EReal) (ix3 b P k) = Cell.prob (rawAll V b P) k := by
  after_reads_at
  unfold rawAll
  split
  · rename_i h
    have e := fun q => (congrFun (up79 V) (ix3 b ⟨P.val, h⟩ q)).trans (prob0 V b _ q)
    have o := (congrFun (up77 V) (ix2 b ⟨P.val, h⟩)).trans (obj0 V b _)
    refine Eq.trans ?_ (Cell.prob_mask _ k)
    rw [← o, ← e]
  · split
    · rename_i h h1
      have e := fun q => (congrFun (up159 V) (ix3 b ⟨P.val - 12288, h1⟩ q)).trans (prob1 V b _ q)
      have o := (congrFun (up157 V) (ix2 b ⟨P.val - 12288, h1⟩)).trans (obj1 V b _)
      refine Eq.trans ?_ (Cell.prob_mask _ k)
      rw [← o, ← e]
    · have e := fun q => (congrFun (up239 V) (ix3 b ⟨P.val - 12288 - 3072, by omega⟩ q)).trans (prob2 V b _ q)
      have o := (congrFun (up237 V) (ix2 b ⟨P.val - 12288 - 3072, by omega⟩)).trans (obj2 V b _)
      refine Eq.trans ?_ (Cell.prob_mask _ k)
      rw [← o, ← e]

theorem max_all (b : Fin 8) (P : Fin 16128) :
    (after hostOps0 V (Proc.devRef .tc main_v254) : S8x16128.Idx → EReal) (ix2 b P) = Cell.score (rawAll V b P) := by
  have e : (after hostOps0 V (Proc.devRef .tc main_v254) : S8x16128.Idx → EReal) (ix2 b P)
      = Finset.fold max (Ideal.ofBits .f32 0xFF800000#32) (fun k : Fin 80 => (after hostOps0 V (Proc.devRef .tc main_v253) : S8x16128x80.Idx → EReal) (ix3 b P k)) Finset.univ := by
    after_reads_at
  rw [e]
  exact (Finset.fold_congr fun k _ => mask_all V b P k).trans (Cell.fold_prob _)

theorem arg_read : (after hostOps0_1 (after hostOps0 V) (Proc.devRef .tc main_v255) : S8x16128.Idx → BitVec 32)
    = fun j => (Host.argReduce reducer_argmax_f32_i32 (after hostOps0 V (Proc.devRef .tc main_v253) : S8x16128x80.Idx → EReal) (iotaInDim S8x16128x80 32 2)
        (constant (F := Ideal) S_ .f32 0xFF800000#32) (constantI S_ 32 0#32) reducesTo_S8x16128x80_S8x16128_d2 h_S_ j).2 := by
  after_reads_simp
  rfl

end Cert.ReferenceIdeal.Value
end
-- ==== Proof.Argmax.lean ====
/- The arg-max fold: its result is a greatest entry, the earliest among equals. -/
module

public import proofs.«01_k».proof.ReferenceIdeal
public import proofs.«01_k».proof.Proof.CellMath
public import Idealize.ShloMosaic.PureOps.Ideal.Laws

@[expose] public section

noncomputable section

namespace Cert.Argmax

open Idealize.ShloMosaic Cert.ReferenceIdeal

/-- `a` beats or equals `b`: a greater value, or the same one and no later an index. -/
def Ge (a b : EReal × BitVec 32) : Prop := b.1 < a.1 ∨ (b.1 = a.1 ∧ ¬ b.2.toInt < a.2.toInt)

theorem Ge.refl (a : EReal × BitVec 32) : Ge a a := .inr ⟨rfl, lt_irrefl _⟩
theorem Ge.trans {a b c : EReal × BitVec 32} (h : Ge a b) (h' : Ge b c) : Ge a c := by
  rcases h with h | ⟨h, i⟩ <;> rcases h' with h' | ⟨h', i'⟩
  · exact .inl (h'.trans h)
  · exact .inl (h' ▸ h)
  · exact .inl (h ▸ h')
  · exact .inr ⟨h'.trans h, by omega⟩

theorem ofBool_one (p : Bool) : BitVec.ofBool p = 1#1 ↔ p = true := by cases p <;> decide

/-- One step keeps the better of the two pairs. -/
theorem step (a b : EReal × BitVec 32) : (reducer_argmax_f32_i32 (F := Ideal) a b = a ∨ reducer_argmax_f32_i32 (F := Ideal) a b = b)
    ∧ Ge (reducer_argmax_f32_i32 (F := Ideal) a b) a ∧ Ge (reducer_argmax_f32_i32 (F := Ideal) a b) b := by
  have e : reducer_argmax_f32_i32 (F := Ideal) a b
      = (if b.1 < a.1 then a.1 else b.1, if b.1 < a.1 ∨ (a.1 = b.1 ∧ a.2.toInt < b.2.toInt) then a.2 else b.2) := by
    unfold reducer_argmax_f32_i32
    simp only [Ideal.cmpf_def, Ideal.cmp, Scalar.select, IntOp.ori, IntOp.andi, IntOp.cmpi, ne_eq, not_true_eq_false, decide_false,
      BitVec.slt]
    by_cases h1 : b.1 < a.1 <;> by_cases h2 : a.1 = b.1 <;> by_cases h3 : a.2.toInt < b.2.toInt <;> simp [h1, h2, h3]
  rw [e]
  by_cases h1 : b.1 < a.1
  · rw [if_pos h1, if_pos (.inl h1)]
    exact ⟨.inl rfl, Ge.refl _, .inl h1⟩
  · rw [if_neg h1]
    by_cases h2 : a.1 = b.1 ∧ a.2.toInt < b.2.toInt
    · rw [if_pos (.inr h2)]
      refine ⟨.inl (Prod.ext h2.1.symm rfl), .inr ⟨h2.1, lt_irrefl _⟩, .inr ⟨rfl, ?_⟩⟩
      show ¬ b.2.toInt < a.2.toInt
      omega
    · rw [if_neg (by rintro (h | h); exacts [h1 h, h2 h])]
      refine ⟨.inr rfl, ?_, Ge.refl _⟩
      rcases lt_trichotomy a.1 b.1 with h | h | h
      · exact .inl h
      · exact .inr ⟨h, fun h' => h2 ⟨h, h'⟩⟩
      · exact absurd h h1

/-- The fold's result is the initial pair or one of the list's, and beats them all. -/
theorem foldl_spec (l : List (EReal × BitVec 32)) (z : EReal × BitVec 32) :
    (l.foldl (reducer_argmax_f32_i32 (F := Ideal)) z = z ∨ l.foldl (reducer_argmax_f32_i32 (F := Ideal)) z ∈ l)
      ∧ Ge (l.foldl (reducer_argmax_f32_i32 (F := Ideal)) z) z ∧ ∀ p ∈ l, Ge (l.foldl (reducer_argmax_f32_i32 (F := Ideal)) z) p := by
  induction l generalizing z with
  | nil => exact ⟨.inl rfl, Ge.refl _, by simp⟩
  | cons q l ih =>
    obtain ⟨h1, h2, h3⟩ := ih (reducer_argmax_f32_i32 (F := Ideal) z q)
    obtain ⟨s1, s2, s3⟩ := step z q
    rw [List.foldl_cons]
    refine ⟨?_, h2.trans s2, fun p hp => ?_⟩
    · rcases h1 with h1 | h1
      · rw [h1]
        rcases s1 with s1 | s1
        · exact .inl s1
        · exact .inr (by rw [s1]; exact List.mem_cons_self)
      · exact .inr (List.mem_cons_of_mem _ h1)
    · rcases List.mem_cons.1 hp with rfl | hp
      · exact h2.trans s3
      · exact h3 p hp

/-- Along the class axis, the arg-max of a cell's class scores is the first class with the greatest logit, when the best score is positive. -/
theorem argReduce_cls (X : S8x16128x80.Idx → EReal) (h : S8x16128x80.ReducesTo [2] S8x16128) (hu : 0 < S_.numel) (b : Fin 8) (P : Fin 16128)
    (x : Fin 85 → EReal) (hX : ∀ k, X (ix3 b P k) = Cell.prob x k) (hs : 0 < Cell.score x) :
    (Host.argReduce (F := Ideal) (φ := .f32) reducer_argmax_f32_i32 X (iotaInDim S8x16128x80 32 2)
        (constant (F := Ideal) S_ .f32 0xFF800000#32) (constantI S_ 32 0#32) h hu (ix2 b P)).2 = BitVec.ofNat 32 (Cell.cls x) := by
  rw [Ideal.argReduce_eq_reduce2, Host.reduce2_eq_foldl_fiber]
  have hdrop : ∀ i : S8x16128x80.Idx, h.drop i = ix2 b P ↔ i 0 = b ∧ i 1 = P := by
    intro i
    have hv0 : (h.drop i 0 : Nat) = i 0 := Shape.ReducesTo.drop_apply_val h i 0
    have hv1 : (h.drop i 1 : Nat) = i 1 := Shape.ReducesTo.drop_apply_val h i 1
    constructor
    · intro e
      rw [e] at hv0 hv1
      exact ⟨Fin.ext hv0.symm, Fin.ext hv1.symm⟩
    · rintro ⟨e1, e2⟩
      funext c
      match c with
      | ⟨0, _⟩ => exact Fin.ext (hv0.trans (congrArg Fin.val e1))
      | ⟨1, _⟩ => exact Fin.ext (hv1.trans (congrArg Fin.val e2))
  have hmem : ∀ p : EReal × BitVec 32, p ∈ Host.argReduceFiber X (iotaInDim S8x16128x80 32 2) h (ix2 b P)
      ↔ ∃ k : Fin 80, p = (Cell.prob x k, BitVec.ofNat 32 k) := by
    intro p
    unfold Host.argReduceFiber
    simp only [List.mem_map, List.mem_filter, List.mem_finRange, true_and, decide_eq_true_eq]
    constructor
    · rintro ⟨n, hn, rfl⟩
      generalize S8x16128x80.rowMajor.symm n = i at *
      obtain ⟨e0, e1⟩ := (hdrop i).1 hn
      have ei : i = ix3 b P (i 2) := by
        funext c
        match c with
        | ⟨0, _⟩ => exact e0
        | ⟨1, _⟩ => exact e1
        | ⟨2, _⟩ => rfl
      exact ⟨i 2, Prod.ext ((congrArg X ei).trans (hX _)) rfl⟩
    · rintro ⟨k, rfl⟩
      refine ⟨S8x16128x80.rowMajor (ix3 b P k), ?_, ?_⟩
      · rw [Equiv.symm_apply_apply]; exact (hdrop _).2 ⟨rfl, rfl⟩
      · rw [Equiv.symm_apply_apply]; exact Prod.ext (hX k) rfl
  generalize hr : List.foldl (reducer_argmax_f32_i32 (F := Ideal)) _ _ = r
  obtain ⟨g1, g2, g3⟩ := foldl_spec (Host.argReduceFiber X (iotaInDim S8x16128x80 32 2) h (ix2 b P))
    (constant (F := Ideal) S_ .f32 0xFF800000#32 (Shape.Idx.first hu), constantI S_ 32 0#32 (Shape.Idx.first hu))
  rw [hr] at g1 g2 g3
  have hc : Cell.prob x (Cell.cls x) = Cell.score x := by unfold Cell.prob Cell.score; rw [Cell.cls_top x]
  have hbest := g3 _ ((hmem _).2 ⟨Cell.cls x, rfl⟩)
  have hle : Cell.score x ≤ r.1 := by
    rcases hbest with h | ⟨h, -⟩
    · exact hc ▸ h.le
    · exact hc ▸ h.le
  rcases g1 with g1 | g1
  · rw [g1] at hle
    exact absurd (hs.trans_le hle) (by show ¬ (0 : EReal) < Ideal.ofBits .f32 0xFF800000#32; rw [Cell.ofBits_ninf]; exact not_lt.2 bot_le)
  · obtain ⟨k, hk⟩ := (hmem _).1 g1
    rw [hk] at hle hbest ⊢
    have a := Cell.cls_le x k (Cell.eq_top_of_prob x hs k hle)
    have c : ¬ (BitVec.ofNat 32 (Cell.cls x)).toInt < (BitVec.ofNat 32 k.val).toInt := by
      rcases hbest with h | ⟨-, h⟩
      · exact absurd (Cell.prob_le_score x k) (not_le.2 (hc ▸ h))
      · exact h
    rw [Cell.toInt_small _ (by omega), Cell.toInt_small _ (by omega)] at c
    have a' : (Cell.cls x).val ≤ k.val := a
    have a'' : k.val = (Cell.cls x).val := by omega
    exact congrArg (BitVec.ofNat 32) a''

end Cert.Argmax

end
-- ==== Proof.RefCand.lean ====
/- The reference's candidates when its loop starts: the thousand best anchors' scores, boxes and classes. -/
module

public import proofs.«01_k».proof.Proof.RefStep
public import proofs.«01_k».proof.Proof.RefDecode
public import proofs.«01_k».proof.Proof.Spec
public import proofs.«01_k».proof.Proof.Argmax

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Idealize.SL.Sem

variable (V : Valuation τ sig (Elt Ideal))

/-- The buffers after each stretch before the loop. -/
abbrev R1 := after hostOps0 V
abbrev R2 := after hostOps0_1 (R1 V)
abbrev R3 := after hostOps0_2 (R2 V)
abbrev R4 := after hostOps0_3 (R3 V)
abbrev R5 := after hostOps0_4 (R4 V)
abbrev R6 := after hostOps0_5 (R5 V)
abbrev R7 := after hostOps0_6 (R6 V)
abbrev R8 := after hostOps0_7 (R7 V)
abbrev R9 := after hostOps0_8 (R8 V)
abbrev R10 := after hostOps0_9 (R9 V)
abbrev R11 := after hostOps0_10 (R10 V)
abbrev R12 := after hostOps0_11 (R11 V)

theorem R2_of (r : Ref sig .tc) (h : r ∉ hostOps0_1_W) : R2 V (Proc.devRef .tc r) = R1 V (Proc.devRef .tc r) := after_of_writes_sub hostOps0_1 _ hostOps0_1_writes h
theorem R3_of (r : Ref sig .tc) (h : r ∉ hostOps0_2_W) : R3 V (Proc.devRef .tc r) = R2 V (Proc.devRef .tc r) := after_of_writes_sub hostOps0_2 _ hostOps0_2_writes h
theorem R4_of (r : Ref sig .tc) (h : r ∉ hostOps0_3_W) : R4 V (Proc.devRef .tc r) = R3 V (Proc.devRef .tc r) := after_of_writes_sub hostOps0_3 _ hostOps0_3_writes h
theorem R5_of (r : Ref sig .tc) (h : r ∉ hostOps0_4_W) : R5 V (Proc.devRef .tc r) = R4 V (Proc.devRef .tc r) := after_of_writes_sub hostOps0_4 _ hostOps0_4_writes h
theorem R6_of (r : Ref sig .tc) (h : r ∉ hostOps0_5_W) : R6 V (Proc.devRef .tc r) = R5 V (Proc.devRef .tc r) := after_of_writes_sub hostOps0_5 _ hostOps0_5_writes h
theorem R7_of (r : Ref sig .tc) (h : r ∉ hostOps0_6_W) : R7 V (Proc.devRef .tc r) = R6 V (Proc.devRef .tc r) := after_of_writes_sub hostOps0_6 _ hostOps0_6_writes h
theorem R8_of (r : Ref sig .tc) (h : r ∉ hostOps0_7_W) : R8 V (Proc.devRef .tc r) = R7 V (Proc.devRef .tc r) := after_of_writes_sub hostOps0_7 _ hostOps0_7_writes h
theorem R9_of (r : Ref sig .tc) (h : r ∉ hostOps0_8_W) : R9 V (Proc.devRef .tc r) = R8 V (Proc.devRef .tc r) := after_of_writes_sub hostOps0_8 _ hostOps0_8_writes h
theorem R10_of (r : Ref sig .tc) (h : r ∉ hostOps0_9_W) : R10 V (Proc.devRef .tc r) = R9 V (Proc.devRef .tc r) := after_of_writes_sub hostOps0_9 _ hostOps0_9_writes h
theorem R11_of (r : Ref sig .tc) (h : r ∉ hostOps0_10_W) : R11 V (Proc.devRef .tc r) = R10 V (Proc.devRef .tc r) := after_of_writes_sub hostOps0_10 _ hostOps0_10_writes h
theorem R12_of (r : Ref sig .tc) (h : r ∉ hostOps0_11_W) : R12 V (Proc.devRef .tc r) = R11 V (Proc.devRef .tc r) := after_of_writes_sub hostOps0_11 _ hostOps0_11_writes h

/-- All the scores the reference selects among. -/
def refScores : S8x16128.Idx → EReal := R2 V (Proc.devRef .tc main_v254)

variable (b : Fin 8)

theorem refScores_row : Select.rowOf (refScores V) b = Spec.score (rawAll V b) := by
  funext P
  exact (congrFun (R2_of V main_v254 (by decide)) _).trans (max_all V b P)

theorem r_values (i : Fin 1000) : (R3 V (Proc.devRef .tc main_values) : S8x1000.Idx → EReal) (ix2 b i) = Spec.cand (rawAll V b) i := by
  refine (congrFun (values_read (R2 V)) (ix2 b i)).trans ((Select.topK_row (refScores V) _ (by decide : 1000 ≤ 16128) b i).1.trans ?_)
  rw [refScores_row]
  exact congrFun (refScores_row V b) _

theorem r_indices (i : Fin 1000) : (R3 V (Proc.devRef .tc main_indices) : S8x1000.Idx → BitVec 32) (ix2 b i) = BitVec.ofNat 32 (Spec.sel (rawAll V b) i).val := by
  refine (congrFun (indices_read (R2 V)) (ix2 b i)).trans ((Select.topK_row (refScores V) _ (by decide : 1000 ≤ 16128) b i).2.trans ?_)
  rw [refScores_row]
  rfl

/-- The class the reference picks for an anchor. -/
def refClass (P : Fin 16128) : BitVec 32 := (R2 V (Proc.devRef .tc main_v255) : S8x16128.Idx → BitVec 32) (ix2 b P)

theorem refClass_eq (P : Fin 16128) (h : 0 < Cell.score (rawAll V b P)) : refClass V b P = BitVec.ofNat 32 (Cell.cls (rawAll V b P)).val := by
  unfold refClass
  refine (congrFun (arg_read V) (ix2 b P)).trans ?_
  exact Argmax.argReduce_cls _ _ _ b P (rawAll V b P) (fun k => mask_all V b P k) h

theorem r_boxes (i : Fin 1000) (q : Fin 4) : (R4 V (Proc.devRef .tc main_v257) : S8x1000x4.Idx → EReal) (ix3 b i q) = boxAll V b (Spec.sel (rawAll V b) i) q := by
  refine (take_boxes (R3 V) b i q (Spec.sel (rawAll V b) i) ((column_read (R2 V) b i).trans (r_indices V b i))).trans ?_
  exact (congrFun ((R3_of V main_v241 (by decide)).trans (R2_of V main_v241 (by decide))) _).trans (box_all V b _ q)

theorem r_classes (i : Fin 1000) : (R5 V (Proc.devRef .tc main_v258) : S8x1000.Idx → BitVec 32) (ix2 b i) = refClass V b (Spec.sel (rawAll V b) i) := by
  refine (take_classes (R4 V) b i (Spec.sel (rawAll V b) i) ?_).trans ?_
  · exact (congrFun (R4_of V main_indices (by decide)) _).trans (r_indices V b i)
  · exact congrFun ((R4_of V main_v255 (by decide)).trans (R3_of V main_v255 (by decide))) _

/-- The candidates' scores as an array. -/
def refCand : S8x1000.Idx → EReal := R3 V (Proc.devRef .tc main_values)

theorem refCand_row : Select.rowOf (refCand V) b = Spec.cand (rawAll V b) := by
  funext i
  exact r_values V b i

/-- The candidates come sorted already. -/
theorem r_order (i : Fin 1000) : (R7 V (Proc.devRef .tc main_v260) : S8x1000.Idx → BitVec 32) (ix2 b i) = BitVec.ofNat 32 i.val := by
  have e : (R6 V (Proc.devRef .tc main_v259) : S8x1000.Idx → EReal) = Host.negf (F := Ideal) (φ := .f32) (refCand V) :=
    (negated (R5 V)).trans (congrArg (Host.negf (F := Ideal) (φ := .f32)) ((R5_of V main_values (by decide)).trans (R4_of V main_values (by decide))))
  refine (congrFun (sorted (R6 V)) (ix2 b i)).trans ?_
  rw [e]
  exact Select.argsort_row (refCand V) (fun b => by rw [refCand_row]; exact Spec.cand_antitone _) b i

theorem r_boxes' (i : Fin 1000) (q : Fin 4) : (R9 V (Proc.devRef .tc main_v262) : S8x1000x4.Idx → EReal) (ix3 b i q) = boxAll V b (Spec.sel (rawAll V b) i) q := by
  refine (retake_boxes (R8 V) b i q i ((sorted_column (R7 V) b i).trans (r_order V b i))).trans ?_
  exact (congrFun ((R8_of V main_v257 (by decide)).trans ((R7_of V main_v257 (by decide)).trans ((R6_of V main_v257 (by decide)).trans (R5_of V main_v257 (by decide))))) _).trans
    (r_boxes V b i q)

theorem r_scores (i : Fin 1000) : (R10 V (Proc.devRef .tc main_v263) : S8x1000.Idx → EReal) (ix2 b i) = Spec.cand (rawAll V b) i := by
  refine (retake_scores (R9 V) b i i ?_).trans ?_
  · exact (congrFun ((R9_of V main_v260 (by decide)).trans (R8_of V main_v260 (by decide))) _).trans (r_order V b i)
  · exact (congrFun ((R9_of V main_values (by decide)).trans ((R8_of V main_values (by decide)).trans ((R7_of V main_values (by decide)).trans
      ((R6_of V main_values (by decide)).trans ((R5_of V main_values (by decide)).trans (R4_of V main_values (by decide))))))) _).trans (r_values V b i)

theorem r_classes' (i : Fin 1000) : (R11 V (Proc.devRef .tc main_v264) : S8x1000.Idx → BitVec 32) (ix2 b i) = refClass V b (Spec.sel (rawAll V b) i) := by
  refine (retake_classes (R10 V) b i i ?_).trans ?_
  · exact (congrFun ((R10_of V main_v260 (by decide)).trans ((R9_of V main_v260 (by decide)).trans (R8_of V main_v260 (by decide)))) _).trans (r_order V b i)
  · exact (congrFun ((R10_of V main_v258 (by decide)).trans ((R9_of V main_v258 (by decide)).trans ((R8_of V main_v258 (by decide)).trans
      ((R7_of V main_v258 (by decide)).trans (R6_of V main_v258 (by decide)))))) _).trans (r_classes V b i)

/-- What the loop and the stretches after it find. -/
theorem entry_boxes (i : Fin 1000) (q : Fin 4) : (R12 V (Proc.devRef .tc main_v262) : S8x1000x4.Idx → EReal) (ix3 b i q) = boxAll V b (Spec.sel (rawAll V b) i) q :=
  (congrFun ((R12_of V main_v262 (by decide)).trans ((R11_of V main_v262 (by decide)).trans (R10_of V main_v262 (by decide)))) _).trans (r_boxes' V b i q)

theorem entry_scores (i : Fin 1000) : (R12 V (Proc.devRef .tc main_v263) : S8x1000.Idx → EReal) (ix2 b i) = Spec.cand (rawAll V b) i :=
  (congrFun ((R12_of V main_v263 (by decide)).trans (R11_of V main_v263 (by decide))) _).trans (r_scores V b i)

theorem entry_classes (i : Fin 1000) : (R12 V (Proc.devRef .tc main_v264) : S8x1000.Idx → BitVec 32) (ix2 b i) = refClass V b (Spec.sel (rawAll V b) i) :=
  (congrFun (R12_of V main_v264 (by decide)) _).trans (r_classes' V b i)

theorem entry_overlaps (i j : Fin 1000) : (R12 V (Proc.devRef .tc main_v341_0) : S8x1000x1000.Idx → EReal) (ix3 b i j)
    = Nms.iou (Spec.lane (rawAll V b) (boxAll V b) i.val) (Spec.lane (rawAll V b) (boxAll V b) j.val) := by
  have e : ∀ i : Fin 1000, (fun q => (R11 V (Proc.devRef .tc main_v262) : S8x1000x4.Idx → EReal) (ix3 b i q)) = Spec.lane (rawAll V b) (boxAll V b) i.val := by
    intro i
    funext q
    refine (congrFun ((R11_of V main_v262 (by decide)).trans (R10_of V main_v262 (by decide))) _).trans ((r_boxes' V b i q).trans ?_)
    unfold Spec.lane
    rw [dif_pos i.isLt]
  refine (overlaps (R11 V) b i j).trans ?_
  rw [e, e]

end Cert.ReferenceIdeal.Value

end
-- ==== Proof.RefLoop.lean ====
/- The reference's loop: after `k` trips a candidate is kept exactly when the first `k` candidates have not dropped it. -/
module

public import proofs.«01_k».proof.Proof.RefStep
public import proofs.«01_k».proof.Proof.NmsKeep
public import Idealize.ShloMosaic.Lib.DynamicIndex

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Idealize.SL.Sem

theorem slices_row (k : ℕ) (hk : k < 1000) : S8x1000x1000.Slices ![0, k, 0] S8x1x1000 :=
  ⟨rfl, fun a => by fin_cases a <;> simp <;> omega⟩

theorem slices_column (k : ℕ) (hk : k < 1000) : S8x1000.Slices ![0, k] S8x1 :=
  ⟨rfl, fun a => by fin_cases a <;> simp <;> omega⟩

open Classical in
/-- One trip of the loop. -/
theorem step_kept (V : Valuation τ sig (Elt Ideal)) (B : ℕ → Fin 4 → EReal) (k : ℕ) (hk : k < 1000) (b : Fin 8)
    (h0 : ∀ i j : Fin 1000, (V (Proc.devRef .tc main_v341_0) : S8x1000x1000.Idx → EReal) (ix3 b i j) = Nms.iou (B i.val) (B j.val))
    (h1 : ∀ j : Fin 1000, (V (Proc.devRef .tc main_v341_1) : S1000.Idx → BitVec 32) (ix1 j) = BitVec.ofNat 32 j.val)
    (h3 : (V (Proc.devRef .tc main_v341_3) : S_.Idx → BitVec 32) = fun _ => BitVec.ofNat 32 k)
    (h4 : ∀ j : Fin 1000, (V (Proc.devRef .tc main_v341_4) : S8x1000.Idx → BitVec 1) (ix2 b j) = BitVec.ofBool (decide (Nms.keep B k j.val))) (j : Fin 1000) :
    (step_main_v341_4 V : S8x1000.Idx → BitVec 1) (ix2 b j) = BitVec.ofBool (decide (Nms.keep B (k + 1) j.val)) := by
  unfold step_main_v341_4
  rw [h3]
  rw [Host.dynamicSlice_eq_extractStridedSlice S8x1x1000 _ _ ![0, k, 0] _ (slices_row k hk) ?_]
  rw [Host.dynamicSlice_eq_extractStridedSlice S8x1 _ _ ![0, k] _ (slices_column k hk) ?_]
  rw [id]
  pointwise [h1]
  · rw [h0, h4, h4]
    have hs : Nms.keep B (k + 1) j.val ↔ Nms.keep B k j.val ∧ ¬ ((Ideal.ofBits .f32 0x3F19999A#32 < Nms.iou (B k) (B j.val) ∧ k < j.val) ∧ Nms.keep B k k) := Iff.rfl
    have key : ∀ w : BitVec 1, w = BitVec.ofBool (decide (k < j.val)) →
        IntOp.andi (BitVec.ofBool (decide (Nms.keep B k j.val)))
          (~~~ IntOp.andi (IntOp.andi (BitVec.ofBool (decide (Ideal.ofBits .f32 0x3F19999A#32 < Nms.iou (B k) (B j.val)))) w) (BitVec.ofBool (decide (Nms.keep B k k))))
        = BitVec.ofBool (decide (Nms.keep B (k + 1) j.val)) := by
      intro w hw
      subst hw
      simp only [hs]
      by_cases a : Nms.keep B k j.val <;> by_cases a1 : Ideal.ofBits .f32 0x3F19999A#32 < Nms.iou (B k) (B j.val) <;> by_cases a2 : k < j.val <;>
        by_cases a3 : Nms.keep B k k <;> simp only [a, a1, a2, a3, decide_true, decide_false, and_true, and_false, not_true_eq_false, not_false_eq_true] <;> rfl
    exact key _ (Cert.KernelIdeal.Value.gt_word j.val k (by omega) (by omega))
  · intro a
    match a with
    | ⟨0, _⟩ => rfl
    | ⟨1, _⟩ => exact toInt_wrap_ofNat k (by omega)
  · intro a
    match a with
    | ⟨0, _⟩ => rfl
    | ⟨1, _⟩ => exact toInt_wrap_ofNat k (by omega)
    | ⟨2, _⟩ => rfl

open Classical in
/-- After `k` trips. -/
theorem loop_kept (E : Valuation τ sig (Elt Ideal)) (B : ℕ → Fin 4 → EReal) (b : Fin 8)
    (h0 : ∀ i j : Fin 1000, (E (Proc.devRef .tc main_v341_0) : S8x1000x1000.Idx → EReal) (ix3 b i j) = Nms.iou (B i.val) (B j.val))
    (h1 : ∀ j : Fin 1000, (E (Proc.devRef .tc main_v341_1) : S1000.Idx → BitVec 32) (ix1 j) = BitVec.ofNat 32 j.val)
    (h3 : (E (Proc.devRef .tc main_v341_3) : S_.Idx → BitVec 32) = fun _ => 0#32)
    (h4 : ∀ j : Fin 1000, (E (Proc.devRef .tc main_v341_4) : S8x1000.Idx → BitVec 1) (ix2 b j) = 1#1) :
    ∀ k ≤ 1000, (STEP^[k] E) (Proc.devRef .tc main_v341_0) = E (Proc.devRef .tc main_v341_0)
      ∧ (STEP^[k] E) (Proc.devRef .tc main_v341_1) = E (Proc.devRef .tc main_v341_1)
      ∧ ((STEP^[k] E) (Proc.devRef .tc main_v341_3) : S_.Idx → BitVec 32) = (fun _ => BitVec.ofNat 32 k)
      ∧ ∀ j : Fin 1000, ((STEP^[k] E) (Proc.devRef .tc main_v341_4) : S8x1000.Idx → BitVec 1) (ix2 b j) = BitVec.ofBool (decide (Nms.keep B k j.val))
  | 0, _ => ⟨rfl, rfl, h3, fun j => (h4 j).trans (by rw [decide_eq_true (show Nms.keep B 0 j.val from trivial)]; rfl)⟩
  | k + 1, hk => by
    obtain ⟨a0, a1, a3, a4⟩ := loop_kept E B b h0 h1 h3 h4 k (by omega)
    rw [Function.iterate_succ_apply']
    refine ⟨(STEP_main_v341_0 _).trans a0, (STEP_main_v341_1 _).trans a1, ?_, fun j => ?_⟩
    · rw [STEP_main_v341_3, step_main_v341_3, a3]
      funext x
      show BitVec.ofNat 32 k + 1#32 = _
      rw [BitVec.ofNat_add]
    · refine (congrFun (STEP_main_v341_4 _) _).trans ?_
      exact step_kept _ B k (by omega) b (fun i j => (congrFun a0 _).trans (h0 i j)) (fun j => (congrFun a1 _).trans (h1 j)) a3 a4 j

end Cert.ReferenceIdeal.Value

end
-- ==== Proof.RefTail.lean ====
/- What the reference's stretches after its loop leave, at an index. -/
module

public import proofs.«01_k».proof.Proof.RefRun
public import proofs.«01_k».proof.Proof.Take
public import Idealize.ShloMosaic.Lib.StableHlo.ReadAt

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Idealize.SL.Sem

variable (W : Valuation τ sig (Elt Ideal)) (b : Fin 8)

/-- Adding up flags counts them. -/
theorem fold_count (P : Fin 200 → Prop) [DecidablePred P] (s : Finset (Fin 200)) :
    Finset.fold IntOp.addi (0#32) (fun x => BitVec.setWidth 32 (BitVec.ofBool (decide (P x)))) s = BitVec.ofNat 32 (s.filter P).card := by
  induction s using Finset.induction_on with
  | empty => rfl
  | insert a s ha ih =>
    rw [Finset.fold_insert ha, ih, Finset.filter_insert]
    by_cases h : P a
    · rw [if_pos h, decide_eq_true h, Finset.card_insert_of_notMem (fun hm => ha (Finset.mem_filter.1 hm).1), BitVec.ofNat_add]
      exact BitVec.add_comm _ _
    · rw [if_neg h, decide_eq_false h]
      exact BitVec.zero_add _

theorem masked_at (j : Fin 1000) : (after hostOps0_13 (after hostOps0_12 W) (Proc.devRef .tc main_v342) : S8x1000.Idx → EReal) (ix2 b j)
    = Scalar.select ((W (Proc.devRef .tc main_v341_4) : S8x1000.Idx → BitVec 1) (ix2 b j)) ((W (Proc.devRef .tc main_v263) : S8x1000.Idx → EReal) (ix2 b j)) (0 : EReal) := by
  after_reads_at
  exact congrArg (Scalar.select _ _) (Ideal.ofBits_zero .f32)

theorem best_read : (after hostOps0_14 W (Proc.devRef .tc main_values_53) : S8x200.Idx → EReal)
    = (Host.topK S8x200 1 (FloatOps.cmpfTotal (F := Ideal) (φ := .f32) .gt) (W (Proc.devRef .tc main_v342) : S8x1000.Idx → EReal) sliceFits_S8x1000_S8x200).1 := by
  after_reads_simp

theorem place_read : (after hostOps0_14 W (Proc.devRef .tc main_indices_54) : S8x200.Idx → BitVec 32)
    = (Host.topK S8x200 1 (FloatOps.cmpfTotal (F := Ideal) (φ := .f32) .gt) (W (Proc.devRef .tc main_v342) : S8x1000.Idx → EReal) sliceFits_S8x1000_S8x200).2 := by
  after_reads_simp

theorem there_at (p : Fin 200) : (after hostOps0_14 W (Proc.devRef .tc main_v345) : S8x200.Idx → EReal) (ix2 b p)
    = if (0 : EReal) < (after hostOps0_14 W (Proc.devRef .tc main_values_53) : S8x200.Idx → EReal) (ix2 b p) then (1 : EReal) else (0 : EReal) := by
  rw [best_read]
  generalize hX : (Host.topK S8x200 1 (FloatOps.cmpfTotal (F := Ideal) (φ := .f32) .gt) (W (Proc.devRef .tc main_v342) : S8x1000.Idx → EReal) sliceFits_S8x1000_S8x200).1 = X
  after_reads_at
  rw [hX]
  by_cases h : 0 < X (ix2 b p)
  · rw [if_pos h, decide_eq_true h]
    show (((1#1 : BitVec 1).toNat : ℝ) : EReal) = 1
    norm_num
  · rw [if_neg h, decide_eq_false h]
    show (((0#1 : BitVec 1).toNat : ℝ) : EReal) = 0
    norm_num

theorem place_column (p : Fin 200) : (after hostOps0_14 W (Proc.devRef .tc main_v346) : S8x200x1.Idx → BitVec 32) (ix3 b p 0)
    = (after hostOps0_14 W (Proc.devRef .tc main_indices_54) : S8x200.Idx → BitVec 32) (ix2 b p) := by
  rw [place_read]
  after_reads_at

theorem final_boxes (p : Fin 200) (q : Fin 4) (k : Fin 1000)
    (hw : (W (Proc.devRef .tc main_v346) : S8x200x1.Idx → BitVec 32) (ix3 b p 0) = BitVec.ofNat 32 k.val) :
    (after hostOps0_15 W (Proc.devRef .tc main_v347) : S8x200x4.Idx → EReal) (ix3 b p q) = (W (Proc.devRef .tc main_v262) : S8x1000x4.Idx → EReal) (ix3 b k q) := by
  after_reads_at
  exact Take.take3 _ _ _ _ _ _ (fun x => (W (Proc.devRef .tc main_v346) : S8x200x1.Idx → BitVec 32) (ix3 b p x)) b p q k (by decide) rfl hw rfl

theorem box_result (p : Fin 200) (q : Fin 4) : (after hostOps0_16 W (Proc.devRef .tc main_v350) : S8x200x4.Idx → EReal) (ix3 b p q)
    = @HMul.hMul EReal EReal EReal _ ((W (Proc.devRef .tc main_v347) : S8x200x4.Idx → EReal) (ix3 b p q)) ((W (Proc.devRef .tc main_v345) : S8x200.Idx → EReal) (ix2 b p)) := by
  after_reads_at

theorem score_result (p : Fin 200) : (after hostOps0_16 W (Proc.devRef .tc main_v351) : S8x200.Idx → EReal) (ix2 b p)
    = @HMul.hMul EReal EReal EReal _ ((W (Proc.devRef .tc main_values_53) : S8x200.Idx → EReal) (ix2 b p)) ((W (Proc.devRef .tc main_v345) : S8x200.Idx → EReal) (ix2 b p)) := by
  after_reads_at

theorem flag_result (p : Fin 200) : (after hostOps0_16 W (Proc.devRef .tc main_v353) : S8x200.Idx → BitVec 1) (ix2 b p)
    = BitVec.ofBool (decide ((0 : EReal) < (W (Proc.devRef .tc main_values_53) : S8x200.Idx → EReal) (ix2 b p))) := by
  after_reads_at

theorem final_classes (p : Fin 200) (k : Fin 1000)
    (hw : (W (Proc.devRef .tc main_indices_54) : S8x200.Idx → BitVec 32) (ix2 b p) = BitVec.ofNat 32 k.val) :
    (after hostOps0_17 W (Proc.devRef .tc main_v354) : S8x200.Idx → BitVec 32) (ix2 b p) = (W (Proc.devRef .tc main_v264) : S8x1000.Idx → BitVec 32) (ix2 b k) := by
  after_reads_at
  exact Take.take2 _ _ _ _ _ _ (fun _ => (W (Proc.devRef .tc main_indices_54) : S8x200.Idx → BitVec 32) (ix2 b p)) b p k (by decide) rfl hw rfl

theorem class_result (p : Fin 200) : (after hostOps0_19 (after hostOps0_18 W) (Proc.devRef .tc main_v355) : S8x200.Idx → BitVec 32) (ix2 b p)
    = Scalar.select ((W (Proc.devRef .tc main_v353) : S8x200.Idx → BitVec 1) (ix2 b p)) ((W (Proc.devRef .tc main_v354) : S8x200.Idx → BitVec 32) (ix2 b p)) 4294967295#32 := by
  after_reads_at
  rfl

theorem count_result : (after hostOps0_20 W (Proc.devRef .tc main_v359) : S8.Idx → BitVec 32) (ix1 b)
    = BitVec.ofNat 32 (Finset.univ.filter fun p : Fin 200 => (0 : EReal) < (W (Proc.devRef .tc main_values_53) : S8x200.Idx → EReal) (ix2 b p)).card := by
  after_reads_at
  exact fold_count _ _

end Cert.ReferenceIdeal.Value

end
-- ==== Proof.RefOut.lean ====
/- The reference's four results, one image at a time. -/
module

public import proofs.«01_k».proof.Proof.RefCand
public import proofs.«01_k».proof.Proof.RefLoop
public import proofs.«01_k».proof.Proof.RefTail

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.StableHlo
open Idealize.SL.Sem

section Any

variable (X : Valuation τ sig (Elt Ideal))

/-- The buffers after each stretch behind the loop. -/
abbrev P13 := after hostOps0_13 (after hostOps0_12 X)
abbrev P14 := after hostOps0_14 (P13 X)
abbrev P15 := after hostOps0_15 (P14 X)
abbrev P16 := after hostOps0_16 (P15 X)
abbrev P17 := after hostOps0_17 (P16 X)
abbrev P19 := after hostOps0_19 (after hostOps0_18 (P17 X))
abbrev P20 := after hostOps0_20 (P19 X)

theorem P13_of (r : Ref sig .tc) (h : r ∉ hostOps0_12_W) (h' : r ∉ hostOps0_13_W) : P13 X (Proc.devRef .tc r) = X (Proc.devRef .tc r) :=
  (after_of_writes_sub hostOps0_13 _ hostOps0_13_writes h').trans (after_of_writes_sub hostOps0_12 _ hostOps0_12_writes h)
theorem P14_of (r : Ref sig .tc) (h : r ∉ hostOps0_14_W) : P14 X (Proc.devRef .tc r) = P13 X (Proc.devRef .tc r) := after_of_writes_sub hostOps0_14 _ hostOps0_14_writes h
theorem P15_of (r : Ref sig .tc) (h : r ∉ hostOps0_15_W) : P15 X (Proc.devRef .tc r) = P14 X (Proc.devRef .tc r) := after_of_writes_sub hostOps0_15 _ hostOps0_15_writes h
theorem P16_of (r : Ref sig .tc) (h : r ∉ hostOps0_16_W) : P16 X (Proc.devRef .tc r) = P15 X (Proc.devRef .tc r) := after_of_writes_sub hostOps0_16 _ hostOps0_16_writes h
theorem P17_of (r : Ref sig .tc) (h : r ∉ hostOps0_17_W) : P17 X (Proc.devRef .tc r) = P16 X (Proc.devRef .tc r) := after_of_writes_sub hostOps0_17 _ hostOps0_17_writes h
theorem P19_of (r : Ref sig .tc) (h : r ∉ hostOps0_18_W) (h' : r ∉ hostOps0_19_W) : P19 X (Proc.devRef .tc r) = P17 X (Proc.devRef .tc r) :=
  (after_of_writes_sub hostOps0_19 _ hostOps0_19_writes h').trans (after_of_writes_sub hostOps0_18 _ hostOps0_18_writes h)
theorem P20_of (r : Ref sig .tc) (h : r ∉ hostOps0_20_W) : P20 X (Proc.devRef .tc r) = P19 X (Proc.devRef .tc r) := after_of_writes_sub hostOps0_20 _ hostOps0_20_writes h

/-- The loop's scores, those not kept zeroed. -/
def maskedScores : S8x1000.Idx → EReal := P13 X (Proc.devRef .tc main_v342)

variable {raw : Fin 16128 → Fin 85 → EReal} {box : Fin 16128 → Fin 4 → EReal} {cl : Fin 16128 → BitVec 32} (b : Fin 8)

section Facts

open Classical in
/-- What the loop leaves, for one image. -/
structure Left (raw : Fin 16128 → Fin 85 → EReal) (box : Fin 16128 → Fin 4 → EReal) (cl : Fin 16128 → BitVec 32) : Prop where
  kept : ∀ j : Fin 1000, (X (Proc.devRef .tc main_v341_4) : S8x1000.Idx → BitVec 1) (ix2 b j) = BitVec.ofBool (decide (Spec.kept raw box j.val))
  score : ∀ j : Fin 1000, (X (Proc.devRef .tc main_v263) : S8x1000.Idx → EReal) (ix2 b j) = Spec.cand raw j
  box : ∀ (j : Fin 1000) (q : Fin 4), (X (Proc.devRef .tc main_v262) : S8x1000x4.Idx → EReal) (ix3 b j q) = box (Spec.sel raw j) q
  cls : ∀ j : Fin 1000, (X (Proc.devRef .tc main_v264) : S8x1000.Idx → BitVec 32) (ix2 b j) = cl (Spec.sel raw j)

variable (L : Left X b raw box cl)

include L

open Classical in
theorem masked_row : Select.rowOf (maskedScores X) b = Order.masked (Spec.cand raw) fun j : Fin 1000 => Spec.kept raw box j.val := by
  funext j
  refine (masked_at X b j).trans ?_
  rw [L.kept j, L.score j]
  unfold Order.masked
  by_cases h : Spec.kept raw box j.val
  · rw [if_pos h, decide_eq_true h]; rfl
  · rw [if_neg h, decide_eq_false h]; rfl

theorem best_at (p : Fin 200) : (P14 X (Proc.devRef .tc main_values_53) : S8x200.Idx → EReal) (ix2 b p) = Spec.best raw box p := by
  refine (congrFun (best_read (P13 X)) (ix2 b p)).trans ((Select.topK_row (maskedScores X) _ (by decide : 200 ≤ 1000) b p).1.trans ?_)
  rw [masked_row X b L]
  exact congrFun (masked_row X b L) _

theorem place_at (p : Fin 200) : (P14 X (Proc.devRef .tc main_indices_54) : S8x200.Idx → BitVec 32) (ix2 b p) = BitVec.ofNat 32 (Spec.place raw box p).val := by
  refine (congrFun (place_read (P13 X)) (ix2 b p)).trans ((Select.topK_row (maskedScores X) _ (by decide : 200 ≤ 1000) b p).2.trans ?_)
  rw [masked_row X b L]
  rfl

theorem there (p : Fin 200) : (P14 X (Proc.devRef .tc main_v345) : S8x200.Idx → EReal) (ix2 b p) = if 0 < Spec.best raw box p then (1 : EReal) else (0 : EReal) := by
  refine (there_at (P13 X) b p).trans ?_
  rw [show (after hostOps0_14 (P13 X) (Proc.devRef .tc main_values_53) : S8x200.Idx → EReal) (ix2 b p) = _ from best_at X b L p]

/-- The scores. -/
theorem r_score (p : Fin 200) : (P20 X (Proc.devRef .tc main_v351) : S8x200.Idx → EReal) (ix2 b p) = Spec.best raw box p := by
  refine (congrFun ((P20_of X main_v351 (by decide)).trans ((P19_of X main_v351 (by decide) (by decide)).trans (P17_of X main_v351 (by decide)))) _).trans ?_
  refine (score_result (P15 X) b p).trans ?_
  rw [show (P15 X (Proc.devRef .tc main_values_53) : S8x200.Idx → EReal) (ix2 b p) = _ from (congrFun (P15_of X main_values_53 (by decide)) _).trans (best_at X b L p),
    show (P15 X (Proc.devRef .tc main_v345) : S8x200.Idx → EReal) (ix2 b p) = _ from (congrFun (P15_of X main_v345 (by decide)) _).trans (there X b L p)]
  by_cases h : 0 < Spec.best raw box p
  · rw [if_pos h, mul_one]
  · rw [if_neg h, mul_zero]
    exact le_antisymm (α := EReal) (Spec.best_nonneg raw box p) (not_lt.mp h)

/-- The boxes. -/
theorem r_box (p : Fin 200) (q : Fin 4) : (P20 X (Proc.devRef .tc main_v350) : S8x200x4.Idx → EReal) (ix3 b p q) = Spec.outBox raw box p q := by
  refine (congrFun ((P20_of X main_v350 (by decide)).trans ((P19_of X main_v350 (by decide) (by decide)).trans (P17_of X main_v350 (by decide)))) _).trans ?_
  refine (box_result (P15 X) b p q).trans ?_
  rw [show (P15 X (Proc.devRef .tc main_v345) : S8x200.Idx → EReal) (ix2 b p) = _ from (congrFun (P15_of X main_v345 (by decide)) _).trans (there X b L p),
    show (P15 X (Proc.devRef .tc main_v347) : S8x200x4.Idx → EReal) (ix3 b p q) = _ from
      (final_boxes (P14 X) b p q (Spec.place raw box p) ((place_column (P13 X) b p).trans (place_at X b L p))).trans
        ((congrFun ((P14_of X main_v262 (by decide)).trans (P13_of X main_v262 (by decide) (by decide))) _).trans (L.box _ q))]
  unfold Spec.outBox
  by_cases h : 0 < Spec.best raw box p
  · rw [if_pos h, if_pos h, mul_one]
  · rw [if_neg h, if_neg h, mul_zero]

/-- The classes. -/
theorem r_class (hcl : ∀ P, 0 < Spec.score raw P → cl P = BitVec.ofNat 32 (Cell.cls (raw P)).val) (p : Fin 200) :
    (P20 X (Proc.devRef .tc main_v355) : S8x200.Idx → BitVec 32) (ix2 b p) = Spec.outClass raw box p := by
  refine (congrFun (P20_of X main_v355 (by decide)) _).trans ((class_result (P17 X) b p).trans ?_)
  rw [show (P17 X (Proc.devRef .tc main_v353) : S8x200.Idx → BitVec 1) (ix2 b p) = BitVec.ofBool (decide (0 < Spec.best raw box p)) from by
      refine (congrFun (P17_of X main_v353 (by decide)) _).trans ((flag_result (P15 X) b p).trans ?_)
      rw [show (P15 X (Proc.devRef .tc main_values_53) : S8x200.Idx → EReal) (ix2 b p) = _ from (congrFun (P15_of X main_values_53 (by decide)) _).trans (best_at X b L p)],
    show (P17 X (Proc.devRef .tc main_v354) : S8x200.Idx → BitVec 32) (ix2 b p) = _ from
      (final_classes (P16 X) b p (Spec.place raw box p) ((congrFun ((P16_of X main_indices_54 (by decide)).trans (P15_of X main_indices_54 (by decide))) _).trans (place_at X b L p))).trans
        ((congrFun ((P16_of X main_v264 (by decide)).trans ((P15_of X main_v264 (by decide)).trans ((P14_of X main_v264 (by decide)).trans (P13_of X main_v264 (by decide) (by decide))))) _).trans (L.cls _))]
  unfold Spec.outClass
  by_cases h : 0 < Spec.best raw box p
  · rw [if_pos h, decide_eq_true h, hcl _ (Spec.best_score raw box p h)]
    rfl
  · rw [if_neg h, decide_eq_false h]
    rfl

/-- How many. -/
theorem r_count : (P20 X (Proc.devRef .tc main_v359) : S8.Idx → BitVec 32) (ix1 b) = Spec.outCount raw box := by
  refine (count_result (P19 X) b).trans ?_
  unfold Spec.outCount
  have e : ∀ p : Fin 200, (P19 X (Proc.devRef .tc main_values_53) : S8x200.Idx → EReal) (ix2 b p) = Spec.best raw box p := fun p =>
    (congrFun ((P19_of X main_values_53 (by decide) (by decide)).trans ((P17_of X main_values_53 (by decide)).trans
      ((P16_of X main_values_53 (by decide)).trans (P15_of X main_values_53 (by decide))))) _).trans (best_at X b L p)
  simp only [e]

end Facts

end Any

variable (m : (ℓ : Loc nD τ sig) → Buf (Elt Ideal) ℓ) (c : Dev nD) (b : Fin 8)

/-- The arguments as launched. -/
abbrev V0 : Valuation τ sig (Elt Ideal) := launchContents m c

theorem entry_eq : entryContents preI m c = R12 (V0 m c) := rfl

theorem kept_left (j : Fin 1000) : (exitContents m c (Proc.devRef .tc main_v341_4) : S8x1000.Idx → BitVec 1)
    = (STEP^[1000] (entryContents preI m c)) (Proc.devRef .tc main_v341_4) :=
  (cond_keeps (atK m 1000 c) main_v341_4 (by decide)).trans (atK_agree m c 1000 main_v341_4 (by decide))

/-- What the loop leaves. -/
theorem left : Left (exitContents m c) b (rawAll (V0 m c) b) (boxAll (V0 m c) b) (refClass (V0 m c) b) where
  kept j := by
    refine (congrFun (kept_left m c j) _).trans ?_
    exact (loop_kept (entryContents preI m c) (Spec.lane (rawAll (V0 m c) b) (boxAll (V0 m c) b)) b (entry_overlaps (V0 m c) b) (numbers (R11 (V0 m c)))
      (start_at (R11 (V0 m c))) (all_kept (R11 (V0 m c)) b) 1000 le_rfl).2.2.2 j
  score j := (congrFun (exit_keep m c main_v263 (by decide +kernel) (by decide +kernel) (by decide +kernel) (by decide +kernel) (by decide +kernel)) _).trans (entry_scores (V0 m c) b j)
  box j q := (congrFun (exit_keep m c main_v262 (by decide +kernel) (by decide +kernel) (by decide +kernel) (by decide +kernel) (by decide +kernel)) _).trans (entry_boxes (V0 m c) b j q)
  cls j := (congrFun (exit_keep m c main_v264 (by decide +kernel) (by decide +kernel) (by decide +kernel) (by decide +kernel) (by decide +kernel)) _).trans (entry_classes (V0 m c) b j)

theorem post_eq : afterL postI (exitContents m c) = P20 (exitContents m c) := rfl

/-- The reference's first result: the boxes. -/
theorem ref_box (p : Fin 200) (q : Fin 4) : (afterL postI (exitContents m c) (Proc.devRef .tc main_v350) : S8x200x4.Idx → EReal) (ix3 b p q)
    = Spec.outBox (rawAll (V0 m c) b) (boxAll (V0 m c) b) p q := r_box _ b (left m c b) p q

/-- The reference's second result: the scores. -/
theorem ref_score (p : Fin 200) : (afterL postI (exitContents m c) (Proc.devRef .tc main_v351) : S8x200.Idx → EReal) (ix2 b p)
    = Spec.best (rawAll (V0 m c) b) (boxAll (V0 m c) b) p := r_score _ b (left m c b) p

/-- The reference's third result: the classes. -/
theorem ref_class (p : Fin 200) : (afterL postI (exitContents m c) (Proc.devRef .tc main_v355) : S8x200.Idx → BitVec 32) (ix2 b p)
    = Spec.outClass (rawAll (V0 m c) b) (boxAll (V0 m c) b) p := r_class _ b (left m c b) (refClass_eq (V0 m c) b) p

/-- The reference's fourth result: how many. -/
theorem ref_count : (afterL postI (exitContents m c) (Proc.devRef .tc main_v359) : S8.Idx → BitVec 32) (ix1 b)
    = Spec.outCount (rawAll (V0 m c) b) (boxAll (V0 m c) b) := r_count _ b (left m c b)

end Cert.ReferenceIdeal.Value

end
-- ==== Proof.Tables.lean ====
/- The anchors' sizes. -/
module

public import proofs.«01_k».proof.Proof.Words

@[expose] public section

set_option maxRecDepth 100000

noncomputable section

namespace Cert.Tables

open Idealize.ShloMosaic Cert.Words

/-- The anchors' sizes, level by level. -/
def anc : ℕ → ℕ → ℕ → ℕ
  | 0, 0, 0 => 12 | 0, 0, _ => 16 | 0, 1, 0 => 19 | 0, 1, _ => 36 | 0, _, 0 => 40 | 0, _, _ => 28
  | 1, 0, 0 => 36 | 1, 0, _ => 75 | 1, 1, 0 => 76 | 1, 1, _ => 55 | 1, _, 0 => 72 | 1, _, _ => 146
  | _, 0, 0 => 142 | _, 0, _ => 110 | _, 1, 0 => 192 | _, 1, _ => 243 | _, _, 0 => 459 | _, _, _ => 401

end Cert.Tables

end
-- ==== Proof.Table0.lean ====
/- The grid table of level 0, checked word by word. -/
module

public import proofs.«01_k».proof.KernelIdeal
public import proofs.«01_k».proof.Proof.Tables

@[expose] public section

set_option maxRecDepth 100000

noncomputable section

namespace Cert.Tables

open Idealize.ShloMosaic Cert.KernelIdeal Cert.Words

theorem columns0 : run lit0t 0 12288 0 (fun p => p / 3 % 64) = true := by decide +kernel

theorem rows0 : run lit0t 12288 12288 0 (fun p => p / 192) = true := by decide +kernel

theorem widths0 : run lit0t 24576 12288 9 (fun p => anc 0 (p % 3) 0) = true := by decide +kernel

theorem heights0 : run lit0t 36864 12288 9 (fun p => anc 0 (p % 3) 1) = true := by decide +kernel

/-- Anchor `p` of level 0: its cell's column and row, and its two sizes over 512. -/
theorem table0 (p : Fin 12288) : IsDyadic (lit0 ⟨p.val, by omega⟩) (p.val / 3 % 64) 0
    ∧ IsDyadic (lit0 ⟨12288 + p.val, by omega⟩) (p.val / 192) 0
    ∧ IsDyadic (lit0 ⟨24576 + p.val, by omega⟩) (anc 0 (p.val % 3) 0) 9
    ∧ IsDyadic (lit0 ⟨36864 + p.val, by omega⟩) (anc 0 (p.val % 3) 1) 9 :=
  ⟨by simpa only [Nat.zero_add] using of_run columns0 p.isLt, of_run rows0 p.isLt, of_run widths0 p.isLt, of_run heights0 p.isLt⟩

end Cert.Tables

end
-- ==== Proof.Table1.lean ====
/- The grid table of level 1, checked word by word. -/
module

public import proofs.«01_k».proof.KernelIdeal
public import proofs.«01_k».proof.Proof.Tables

@[expose] public section

set_option maxRecDepth 100000

noncomputable section

namespace Cert.Tables

open Idealize.ShloMosaic Cert.KernelIdeal Cert.Words

theorem columns1 : run lit1t 0 3072 0 (fun p => p / 3 % 32) = true := by decide +kernel

theorem rows1 : run lit1t 3072 3072 0 (fun p => p / 96) = true := by decide +kernel

theorem widths1 : run lit1t 6144 3072 9 (fun p => anc 1 (p % 3) 0) = true := by decide +kernel

theorem heights1 : run lit1t 9216 3072 9 (fun p => anc 1 (p % 3) 1) = true := by decide +kernel

/-- Anchor `p` of level 1: its cell's column and row, and its two sizes over 512. -/
theorem table1 (p : Fin 3072) : IsDyadic (lit1 ⟨p.val, by omega⟩) (p.val / 3 % 32) 0
    ∧ IsDyadic (lit1 ⟨3072 + p.val, by omega⟩) (p.val / 96) 0
    ∧ IsDyadic (lit1 ⟨6144 + p.val, by omega⟩) (anc 1 (p.val % 3) 0) 9
    ∧ IsDyadic (lit1 ⟨9216 + p.val, by omega⟩) (anc 1 (p.val % 3) 1) 9 :=
  ⟨by simpa only [Nat.zero_add] using of_run columns1 p.isLt, of_run rows1 p.isLt, of_run widths1 p.isLt, of_run heights1 p.isLt⟩

end Cert.Tables

end
-- ==== Proof.Table2.lean ====
/- The grid table of level 2, checked word by word. -/
module

public import proofs.«01_k».proof.KernelIdeal
public import proofs.«01_k».proof.Proof.Tables

@[expose] public section

set_option maxRecDepth 100000

noncomputable section

namespace Cert.Tables

open Idealize.ShloMosaic Cert.KernelIdeal Cert.Words

theorem columns2 : run lit2t 0 768 0 (fun p => p / 3 % 16) = true := by decide +kernel

theorem rows2 : run lit2t 768 768 0 (fun p => p / 48) = true := by decide +kernel

theorem widths2 : run lit2t 1536 768 9 (fun p => anc 2 (p % 3) 0) = true := by decide +kernel

theorem heights2 : run lit2t 2304 768 9 (fun p => anc 2 (p % 3) 1) = true := by decide +kernel

/-- Anchor `p` of level 2: its cell's column and row, and its two sizes over 512. -/
theorem table2 (p : Fin 768) : IsDyadic (lit2 ⟨p.val, by omega⟩) (p.val / 3 % 16) 0
    ∧ IsDyadic (lit2 ⟨768 + p.val, by omega⟩) (p.val / 48) 0
    ∧ IsDyadic (lit2 ⟨1536 + p.val, by omega⟩) (anc 2 (p.val % 3) 0) 9
    ∧ IsDyadic (lit2 ⟨2304 + p.val, by omega⟩) (anc 2 (p.val % 3) 1) 9 :=
  ⟨by simpa only [Nat.zero_add] using of_run columns2 p.isLt, of_run rows2 p.isLt, of_run widths2 p.isLt, of_run heights2 p.isLt⟩

end Cert.Tables

end
-- ==== Proof.BoxEq.lean ====
/- The boxes of the two programs are one another's: the kernel's tables hold the cells and the anchors the reference divides. -/
module

public import proofs.«01_k».proof.Proof.KernelAll
public import proofs.«01_k».proof.Proof.RefDecode
public import proofs.«01_k».proof.Proof.BoxMath
public import proofs.«01_k».proof.Proof.Table0
public import proofs.«01_k».proof.Proof.Table1
public import proofs.«01_k».proof.Proof.Table2

@[expose] public section

set_option maxRecDepth 16384

noncomputable section

namespace Cert.Decode

open Cert.KernelIdeal.Gen Cert.KernelIdeal.Value
open Idealize.ShloMosaic Idealize.ShloMosaic.TcCoe Idealize.ShloMosaic.StableHlo
open Idealize.SL.Sem Cert.Words Cert.Tables

/-- Both programs are handed the same three arrays. -/
structure Same (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal)) : Prop where
  a0 : (V (Proc.devRef .tc Cert.ReferenceIdeal.main_arg0) : Cert.ReferenceIdeal.S8x64x64x255.Idx → EReal)
    = m ((c : Thread Cert.KernelIdeal.nD Cert.KernelIdeal.τ).loc Cert.KernelIdeal.main_arg0)
  a1 : (V (Proc.devRef .tc Cert.ReferenceIdeal.main_arg1) : Cert.ReferenceIdeal.S8x32x32x255.Idx → EReal)
    = m ((c : Thread Cert.KernelIdeal.nD Cert.KernelIdeal.τ).loc Cert.KernelIdeal.main_arg1)
  a2 : (V (Proc.devRef .tc Cert.ReferenceIdeal.main_arg2) : Cert.ReferenceIdeal.S8x16x16x255.Idx → EReal)
    = m ((c : Thread Cert.KernelIdeal.nD Cert.KernelIdeal.τ).loc Cert.KernelIdeal.main_arg2)

variable (m : (ℓ : Loc Cert.KernelIdeal.nD Cert.KernelIdeal.τ Cert.KernelIdeal.sig) → Buf (Elt Ideal) ℓ) (ρ : Dev Cert.KernelIdeal.nD → PrngReg)
  (c : Dev Cert.KernelIdeal.nD) (V : Valuation Cert.ReferenceIdeal.τ Cert.ReferenceIdeal.sig (Elt Ideal))

theorem raw0_eq (h : Same m c V) (b : Fin 8) (p : Fin 12288) : Cert.ReferenceIdeal.Value.raw0 V b p = chn0 m c b p :=
  congrArg (fun a => Cell.raw 64 192 12288 rfl rfl a b p) h.a0
theorem raw1_eq (h : Same m c V) (b : Fin 8) (p : Fin 3072) : Cert.ReferenceIdeal.Value.raw1 V b p = chn1 m c b p :=
  congrArg (fun a => Cell.raw 32 96 3072 rfl rfl a b p) h.a1
theorem raw2_eq (h : Same m c V) (b : Fin 8) (p : Fin 768) : Cert.ReferenceIdeal.Value.raw2 V b p = chn2 m c b p :=
  congrArg (fun a => Cell.raw 16 48 768 rfl rfl a b p) h.a2

theorem rawAll_eq (h : Same m c V) (b : Fin 8) (P : Fin 16128) : Cert.ReferenceIdeal.Value.rawAll V b P = chnAll m c b P := by
  unfold Cert.ReferenceIdeal.Value.rawAll chnAll
  simp only [raw0_eq m c V h, raw1_eq m c V h, raw2_eq m c V h]

/-- The anchors of the reference, level by level. -/
theorem anchors0 : ∀ (r : Fin 3), IsDyadic (Cert.ReferenceIdeal.lit0 (Cert.ReferenceIdeal.S3x2.rowMajor (ix2 r 0))) (anc 0 r.val 0) 0
    ∧ IsDyadic (Cert.ReferenceIdeal.lit0 (Cert.ReferenceIdeal.S3x2.rowMajor (ix2 r 1))) (anc 0 r.val 1) 0 := by decide +kernel
theorem anchors1 : ∀ (r : Fin 3), IsDyadic (Cert.ReferenceIdeal.lit1 (Cert.ReferenceIdeal.S3x2.rowMajor (ix2 r 0))) (anc 1 r.val 0) 0
    ∧ IsDyadic (Cert.ReferenceIdeal.lit1 (Cert.ReferenceIdeal.S3x2.rowMajor (ix2 r 1))) (anc 1 r.val 1) 0 := by decide +kernel
theorem anchors2 : ∀ (r : Fin 3), IsDyadic (Cert.ReferenceIdeal.lit2 (Cert.ReferenceIdeal.S3x2.rowMajor (ix2 r 0))) (anc 2 r.val 0) 0
    ∧ IsDyadic (Cert.ReferenceIdeal.lit2 (Cert.ReferenceIdeal.S3x2.rowMajor (ix2 r 1))) (anc 2 r.val 1) 0 := by decide +kernel

/-- Row `q` of a table of four rows, by the place of its word. -/
theorem place {n : ℕ} (q : Fin 4) (p : Fin n) : ((⟨2, ![4, n]⟩ : Shape).rowMajor (ix2 q p)).val = q.val * n + p.val := by
  rw [Shape.rowMajor_val_two]
  rfl

theorem level0 (h : Same m c V) (b : Fin 8) (p : Fin 12288) (q : Fin 4) :
    (after Cert.ReferenceIdeal.Gen.hostOps0 V (Proc.devRef .tc Cert.ReferenceIdeal.main_v78) : Cert.ReferenceIdeal.S8x12288x4.Idx → EReal) (ix3 b p q)
      = (W6 m ρ c (Proc.devRef .tc Cert.KernelIdeal.main_v2_1) : Cert.KernelIdeal.S8x4x12288.Idx → EReal) (ix3 b q p) := by
  obtain ⟨t0, t1, t2, t3⟩ := table0 p
  obtain ⟨u0, u1⟩ := anchors0 ⟨p.val % 3, Nat.mod_lt _ (by omega)⟩
  refine (Cert.ReferenceIdeal.Value.box0 V b p q).trans (Eq.trans ?_ (b0 m ρ c b q p).symm)
  rw [raw0_eq m c V h b p]
  refine congrFun (Cell.refBox_eq_kerBox _ _ _ _ _ _ _ _ _ _ _ _ _ _ 6 8 _ _ (by decide) (by decide) (by decide) (by decide) u0 u1
    (by omega) (by omega) ?_ ?_ ?_ ?_) q
  · rwa [show Cert.KernelIdeal.S4x12288.rowMajor (ix2 0 p) = (⟨p.val, by omega⟩ : Fin 49152) from Fin.ext ((place 0 p).trans (by simp))]
  · rwa [show Cert.KernelIdeal.S4x12288.rowMajor (ix2 1 p) = (⟨12288 + p.val, by omega⟩ : Fin 49152) from Fin.ext ((place 1 p).trans (by simp))]
  · rwa [show Cert.KernelIdeal.S4x12288.rowMajor (ix2 2 p) = (⟨24576 + p.val, by omega⟩ : Fin 49152) from Fin.ext ((place 2 p).trans (by simp))]
  · rwa [show Cert.KernelIdeal.S4x12288.rowMajor (ix2 3 p) = (⟨36864 + p.val, by omega⟩ : Fin 49152) from Fin.ext ((place 3 p).trans (by simp))]

theorem level1 (h : Same m c V) (b : Fin 8) (p : Fin 3072) (q : Fin 4) :
    (after Cert.ReferenceIdeal.Gen.hostOps0 V (Proc.devRef .tc Cert.ReferenceIdeal.main_v158) : Cert.ReferenceIdeal.S8x3072x4.Idx → EReal) (ix3 b p q)
      = (W6 m ρ c (Proc.devRef .tc Cert.KernelIdeal.main_v5_1) : Cert.KernelIdeal.S8x4x3072.Idx → EReal) (ix3 b q p) := by
  obtain ⟨t0, t1, t2, t3⟩ := table1 p
  obtain ⟨u0, u1⟩ := anchors1 ⟨p.val % 3, Nat.mod_lt _ (by omega)⟩
  refine (Cert.ReferenceIdeal.Value.box1 V b p q).trans (Eq.trans ?_ (b1 m ρ c b q p).symm)
  rw [raw1_eq m c V h b p]
  refine congrFun (Cell.refBox_eq_kerBox _ _ _ _ _ _ _ _ _ _ _ _ _ _ 5 16 _ _ (by decide) (by decide) (by decide) (by decide) u0 u1
    (by omega) (by omega) ?_ ?_ ?_ ?_) q
  · rwa [show Cert.KernelIdeal.S4x3072.rowMajor (ix2 0 p) = (⟨p.val, by omega⟩ : Fin 12288) from Fin.ext ((place 0 p).trans (by simp))]
  · rwa [show Cert.KernelIdeal.S4x3072.rowMajor (ix2 1 p) = (⟨3072 + p.val, by omega⟩ : Fin 12288) from Fin.ext ((place 1 p).trans (by simp))]
  · rwa [show Cert.KernelIdeal.S4x3072.rowMajor (ix2 2 p) = (⟨6144 + p.val, by omega⟩ : Fin 12288) from Fin.ext ((place 2 p).trans (by simp))]
  · rwa [show Cert.KernelIdeal.S4x3072.rowMajor (ix2 3 p) = (⟨9216 + p.val, by omega⟩ : Fin 12288) from Fin.ext ((place 3 p).trans (by simp))]

theorem level2 (h : Same m c V) (b : Fin 8) (p : Fin 768) (q : Fin 4) :
    (after Cert.ReferenceIdeal.Gen.hostOps0 V (Proc.devRef .tc Cert.ReferenceIdeal.main_v238) : Cert.ReferenceIdeal.S8x768x4.Idx → EReal) (ix3 b p q)
      = (W6 m ρ c (Proc.devRef .tc Cert.KernelIdeal.main_v8_1) : Cert.KernelIdeal.S8x4x768.Idx → EReal) (ix3 b q p) := by
  obtain ⟨t0, t1, t2, t3⟩ := table2 p
  obtain ⟨u0, u1⟩ := anchors2 ⟨p.val % 3, Nat.mod_lt _ (by omega)⟩
  refine (Cert.ReferenceIdeal.Value.box2 V b p q).trans (Eq.trans ?_ (b2 m ρ c b q p).symm)
  rw [raw2_eq m c V h b p]
  refine congrFun (Cell.refBox_eq_kerBox _ _ _ _ _ _ _ _ _ _ _ _ _ _ 4 32 _ _ (by decide) (by decide) (by decide) (by decide) u0 u1
    (by omega) (by omega) ?_ ?_ ?_ ?_) q
  · rwa [show Cert.KernelIdeal.S4x768.rowMajor (ix2 0 p) = (⟨p.val, by omega⟩ : Fin 3072) from Fin.ext ((place 0 p).trans (by simp))]
  · rwa [show Cert.KernelIdeal.S4x768.rowMajor (ix2 1 p) = (⟨768 + p.val, by omega⟩ : Fin 3072) from Fin.ext ((place 1 p).trans (by simp))]
  · rwa [show Cert.KernelIdeal.S4x768.rowMajor (ix2 2 p) = (⟨1536 + p.val, by omega⟩ : Fin 3072) from Fin.ext ((place 2 p).trans (by simp))]
  · rwa [show Cert.KernelIdeal.S4x768.rowMajor (ix2 3 p) = (⟨2304 + p.val, by omega⟩ : Fin 3072) from Fin.ext ((place 3 p).trans (by simp))]

/-- The boxes of all the anchors. -/
theorem boxAll_eq (h : Same m c V) (b : Fin 8) (P : Fin 16128) (q : Fin 4) : Cert.ReferenceIdeal.Value.boxAll V b P q = kBox m ρ c b P q := by
  unfold Cert.ReferenceIdeal.Value.boxAll kBox
  split
  · exact level0 m ρ c V h b _ q
  · split
    · exact level1 m ρ c V h b _ q
    · exact level2 m ρ c V h b _ q

end Cert.Decode

end
-- ==== Proof.Equal.lean ====
/- The two programs end with the same four arrays. -/
module

public import proofs.«01_k».proof.Proof.KernelOut
public import proofs.«01_k».proof.Proof.KernelRun
public import proofs.«01_k».proof.Proof.RefOut
public import proofs.«01_k».proof.Proof.BoxEq

@[expose] public section

set_option maxRecDepth 16384

noncomputable section

namespace Cert.Proof

open Idealize.ShloMosaic Idealize.ShloMosaic.TcCoe Idealize.ShloMosaic.StableHlo
open Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD) (c' : Dev Cert.ReferenceIdeal.nD)
  (h : Decode.Same m c (Cert.ReferenceIdeal.Value.V0 m' c'))

include h

theorem raw_same (b : Fin 8) : Cert.ReferenceIdeal.Value.rawAll (Cert.ReferenceIdeal.Value.V0 m' c') b = Cert.KernelIdeal.Value.chnAll m c b :=
  funext fun P => Decode.rawAll_eq m c _ h b P

theorem box_same (b : Fin 8) : Cert.ReferenceIdeal.Value.boxAll (Cert.ReferenceIdeal.Value.V0 m' c') b = Cert.KernelIdeal.Value.kBox m ρ c b :=
  funext fun P => funext fun q => Decode.boxAll_eq m ρ c _ h b P q

theorem boxes_equal : (afterL Cert.ReferenceIdeal.Value.postI (Cert.ReferenceIdeal.Value.exitContents m' c') (Proc.devRef .tc Cert.ReferenceIdeal.main_v350) : Cert.ReferenceIdeal.S8x200x4.Idx → EReal)
    = (Cert.KernelIdeal.Gen.W20 m ρ c (Proc.devRef .tc Cert.KernelIdeal.main_v29) : Cert.KernelIdeal.S8x200x4.Idx → EReal) := by
  have key : ∀ (b : Fin 8) (p : Fin 200) (q : Fin 4), _ = _ := fun b p q =>
    (Cert.ReferenceIdeal.Value.ref_box m' c' b p q).trans ((congrArg₂ (fun r x => Spec.outBox r x p q) (raw_same m m' c c' h b) (box_same m ρ m' c c' h b)).trans (Cert.KernelIdeal.Value.k_box m ρ c b p q).symm)
  funext i
  rw [eq_ix3 i]
  exact key _ _ _

theorem scores_equal : (afterL Cert.ReferenceIdeal.Value.postI (Cert.ReferenceIdeal.Value.exitContents m' c') (Proc.devRef .tc Cert.ReferenceIdeal.main_v351) : Cert.ReferenceIdeal.S8x200.Idx → EReal)
    = (Cert.KernelIdeal.Gen.W20 m ρ c (Proc.devRef .tc Cert.KernelIdeal.main_v27) : Cert.KernelIdeal.S8x200.Idx → EReal) := by
  have key : ∀ (b : Fin 8) (p : Fin 200), _ = _ := fun b p =>
    (Cert.ReferenceIdeal.Value.ref_score m' c' b p).trans ((congrArg₂ (fun r x => Spec.best r x p) (raw_same m m' c c' h b) (box_same m ρ m' c c' h b)).trans (Cert.KernelIdeal.Value.k_score m ρ c b p).symm)
  funext i
  rw [eq_ix2 i]
  exact key _ _

theorem classes_equal : (afterL Cert.ReferenceIdeal.Value.postI (Cert.ReferenceIdeal.Value.exitContents m' c') (Proc.devRef .tc Cert.ReferenceIdeal.main_v355) : Cert.ReferenceIdeal.S8x200.Idx → BitVec 32)
    = (Cert.KernelIdeal.Gen.W20 m ρ c (Proc.devRef .tc Cert.KernelIdeal.main_v35) : Cert.KernelIdeal.S8x200.Idx → BitVec 32) := by
  have key : ∀ (b : Fin 8) (p : Fin 200), _ = _ := fun b p =>
    (Cert.ReferenceIdeal.Value.ref_class m' c' b p).trans ((congrArg₂ (fun r x => Spec.outClass r x p) (raw_same m m' c c' h b) (box_same m ρ m' c c' h b)).trans (Cert.KernelIdeal.Value.k_class m ρ c b p).symm)
  funext i
  rw [eq_ix2 i]
  exact key _ _

theorem counts_equal : (afterL Cert.ReferenceIdeal.Value.postI (Cert.ReferenceIdeal.Value.exitContents m' c') (Proc.devRef .tc Cert.ReferenceIdeal.main_v359) : Cert.ReferenceIdeal.S8.Idx → BitVec 32)
    = (Cert.KernelIdeal.Gen.W20 m ρ c (Proc.devRef .tc Cert.KernelIdeal.main_v38) : Cert.KernelIdeal.S8.Idx → BitVec 32) := by
  have key : ∀ (b : Fin 8), _ = _ := fun b =>
    (Cert.ReferenceIdeal.Value.ref_count m' c' b).trans ((congrArg₂ (fun r x => Spec.outCount r x) (raw_same m m' c c' h b) (box_same m ρ m' c c' h b)).trans (Cert.KernelIdeal.Value.k_count m ρ c b).symm)
  funext i
  rw [eq_ix1 i]
  exact key _

end Cert.Proof

end
-- ==== Proof.lean ====
/- The proof of the certificate's claim: the three frames, the kernel's preservation under idealization, and the
   equality of the four results of the idealized kernel with those of the idealized reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import proofs.«01_k».proof.Proof.KernelRun
public import proofs.«01_k».proof.Proof.Equal
public import Idealize.ShloMosaic.Adequacy
public import Idealize.ShloMosaic.Init

@[expose] public section

noncomputable section

namespace Cert.Proof

open Idealize.ShloMosaic Idealize.SL.Sem

/-- From equal arguments, the idealized kernel and the idealized reference end with the same boxes, scores, classes and counts. -/
theorem algebraic : Cert.algebraic_KernelIdeal_ReferenceIdeal (hKernelIdeal := Cert.KernelIdeal.Gen.facts) (hReferenceIdeal := Cert.ReferenceIdeal.Gen.facts) := by
  intro m g m' g' _ hargs
  have same : ∀ c : Dev Cert.KernelIdeal.nD, Decode.Same m c (Cert.ReferenceIdeal.Value.V0 m' c) := fun c =>
    ⟨(hargs c).1, (hargs c).2.1, (hargs c).2.2⟩
  refine ⟨fun c => Cert.KernelIdeal.Gen.W20 m g c (Proc.devRef .tc Cert.KernelIdeal.main_v29),
    fun c => Cert.KernelIdeal.Gen.W20 m g c (Proc.devRef .tc Cert.KernelIdeal.main_v27),
    fun c => Cert.KernelIdeal.Gen.W20 m g c (Proc.devRef .tc Cert.KernelIdeal.main_v35),
    fun c => Cert.KernelIdeal.Gen.W20 m g c (Proc.devRef .tc Cert.KernelIdeal.main_v38), ?_, ?_⟩
  · exact (θ_run _ _ _).mono (fun r h => h.1) (Cert.KernelIdeal.Value.run m g)
  · refine (θ_run _ _ _).mono (fun r h c => ?_) (Cert.ReferenceIdeal.Value.run m' g')
    obtain ⟨hb, hs, hk, hn, ha⟩ := h.1 c
    exact ⟨hb.trans (boxes_equal m g m' c c (same c)), hs.trans (scores_equal m g m' c c (same c)),
      hk.trans (classes_equal m g m' c c (same c)), hn.trans (counts_equal m g m' c c (same c)), ha⟩

theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ, fun m ρ _ => Cert.ReferenceIdeal.Value.frame m ρ, trivial, algebraic⟩⟩

end Cert.Proof

end
